-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 [hPre_finite : Cert.Pre_finite.Facts] (m : (ℓ : Loc Cert.Kernel2.nD Cert.Kernel2.τ Cert.Kernel2.sig) → Buf (Elt Bits) ℓ) : Prop :=
  ∀ c : Dev Cert.Kernel2.nD,
    (Cert.Pre_finite.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_finite.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_finite.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_finite.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.1 = (fun _ => 1#1)
    ∧ (Cert.Pre_finite.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2.1 = (fun _ => 1#1)
    ∧ (Cert.Pre_finite.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2.2 = (fun _ => 1#1)

def Pre_Kernel2_none (m : (ℓ : Loc Cert.Kernel2.nD Cert.Kernel2.τ Cert.Kernel2.sig) → Buf (Elt Bits) ℓ) : Prop :=
  True

def Pre_Kernel2Ideal [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2 = (fun _ => 1#1)

def Pre_Kernel2Ideal_none (m : (ℓ : Loc Cert.Kernel2Ideal.nD Cert.Kernel2Ideal.τ Cert.Kernel2Ideal.sig) → Buf (Elt Ideal) ℓ) : Prop :=
  True

def Pre_Reference2Ideal [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_finite7 : Cert.Pre_finite7.Facts] (m : (ℓ : Loc Cert.Kernel7.nD Cert.Kernel7.τ Cert.Kernel7.sig) → Buf (Elt Bits) ℓ) : Prop :=
  ∀ c : Dev Cert.Kernel7.nD,
    (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).1 = (fun _ => 1#1)
    ∧ (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).2.1 = (fun _ => 1#1)
    ∧ (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).2.2.1 = (fun _ => 1#1)
    ∧ (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).2.2.2.1 = (fun _ => 1#1)
    ∧ (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).2.2.2.2.1 = (fun _ => 1#1)
    ∧ (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).2.2.2.2.2.1 = (fun _ => 1#1)
    ∧ (Cert.Pre_finite7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))).2.2.2.2.2.2 = (fun _ => 1#1)

def Pre_Kernel7_none (m : (ℓ : Loc Cert.Kernel7.nD Cert.Kernel7.τ Cert.Kernel7.sig) → Buf (Elt Bits) ℓ) : Prop :=
  True

def Pre_Kernel7Ideal [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Kernel7Ideal_none (m : (ℓ : Loc Cert.Kernel7Ideal.nD Cert.Kernel7Ideal.τ Cert.Kernel7Ideal.sig) → Buf (Elt Ideal) ℓ) : Prop :=
  True

def Pre_Reference7Ideal [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] [hPre_finite : Cert.Pre_finite.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2_pre_none [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2_none m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_none [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_none m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] [hPre_finite7 : Cert.Pre_finite7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7_pre_none [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7_none m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_none [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_none m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_v72) = v4 c
          ∧ r.2.mem ((c.tc : Thread Cert.Reference2Ideal.nD Cert.Reference2Ideal.τ).loc Cert.Reference2Ideal.main_v73) = v5 c
          ∧ r.2.mem ((c.tc : Thread Cert.Reference2Ideal.nD Cert.Reference2Ideal.τ).loc Cert.Reference2Ideal.main_v75) = v6 c
          ∧ r.2.mem ((c.tc : Thread Cert.Reference2Ideal.nD Cert.Reference2Ideal.τ).loc Cert.Reference2Ideal.main_v76) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v90) = v0 c
          ∧ r.2.mem ((c.tc : Thread Cert.Reference7Ideal.nD Cert.Reference7Ideal.τ).loc Cert.Reference7Ideal.main_v70) = v1 c
          ∧ r.2.mem ((c.tc : Thread Cert.Reference7Ideal.nD Cert.Reference7Ideal.τ).loc Cert.Reference7Ideal.main_v48) = v2 c
          ∧ r.2.mem ((c.tc : Thread Cert.Reference7Ideal.nD Cert.Reference7Ideal.τ).loc Cert.Reference7Ideal.main_v91) = v3 c
          ∧ r.2.mem ((c.tc : Thread Cert.Reference7Ideal.nD Cert.Reference7Ideal.τ).loc Cert.Reference7Ideal.main_v69) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_Kernel2 (hKernel2 := hKernel2) (hPre_finite := hPre_finite)
    ∧ quiescent_Kernel2_pre_none (hKernel2 := hKernel2)
    ∧ quiescent_Kernel2Ideal (hKernel2Ideal := hKernel2Ideal) (hPre_finite := hPre_finite)
    ∧ quiescent_Kernel2Ideal_pre_none (hKernel2Ideal := hKernel2Ideal)
    ∧ quiescent_Reference2Ideal (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_finite7 := hPre_finite7)
    ∧ quiescent_Kernel7_pre_none (hKernel7 := hKernel7)
    ∧ quiescent_Kernel7Ideal (hKernel7Ideal := hKernel7Ideal) (hPre_finite7 := hPre_finite7)
    ∧ quiescent_Kernel7Ideal_pre_none (hKernel7Ideal := hKernel7Ideal)
    ∧ quiescent_Reference7Ideal (hReference7Ideal := hReference7Ideal) (hPre_finite7 := hPre_finite7)
    ∧ quiescent_Kernel8 (hKernel8 := hKernel8)
    ∧ quiescent_Kernel8Ideal (hKernel8Ideal := hKernel8Ideal)
    ∧ preserves_Kernel2_Kernel2Ideal
    ∧ algebraic_Kernel2Ideal_Reference2Ideal (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_finite7 := hPre_finite7)
    ∧ preserves_Kernel8_Kernel8Ideal
-- ==== Pre_finite.lean ====
abbrev S16384x1024 : Shape := ⟨2, ![16384, 1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .f32) (main_arg2 : FVec F S1024x1024 .f32) (main_arg3 : FVec F S1024x2816 .f32) (main_arg4 : FVec F S1024x2816 .f32) (main_arg5 : FVec F S2816x1024 .f32) (main_arg6 : FVec F S1x1024 .f32) : IVec S16384x1024 1 × IVec S16384x1024 1 × IVec S1024x2816 1 × IVec S1024x2816 1 × IVec S2816x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024x2816 .f32 := Host.absf main_arg3
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg5
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite7.lean ====
abbrev S16384x1024 : Shape := ⟨2, ![16384, 1024]⟩
abbrev S1024x1024 : Shape := ⟨2, ![1024, 1024]⟩
abbrev S16384x512 : Shape := ⟨2, ![16384, 512]⟩
abbrev S4x16384x128 : Shape := ⟨3, ![4, 16384, 128]⟩
abbrev S1x512 : Shape := ⟨2, ![1, 512]⟩
abbrev S1x128 : Shape := ⟨2, ![1, 128]⟩
abbrev S_ : Shape := ⟨0, ![]⟩

class Facts : Prop where
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S_S16384x512 : S_.BroadcastsInDim S16384x512 (![] : Fin 0 → Fin S16384x512.rank)
  bcast_S_S4x16384x128 : S_.BroadcastsInDim S4x16384x128 (![] : Fin 0 → Fin S4x16384x128.rank)
  bcast_S_S1x512 : S_.BroadcastsInDim S1x512 (![] : Fin 0 → Fin S1x512.rank)
  bcast_S_S1x128 : S_.BroadcastsInDim S1x128 (![] : Fin 0 → Fin S1x128.rank)

variable [Facts]

def fn_part1 {F : FTy → Type} [FloatOps F] (main_arg6 : FVec F S1x128 .f32) (main_v2 : IVec S16384x1024 1) (main_v5 : IVec S1024x1024 1) (main_v8 : IVec S16384x512 1) (main_v11 : IVec S4x16384x128 1) (main_v14 : IVec S16384x512 1) (main_v17 : IVec S1x512 1) : IVec S16384x1024 1 × IVec S1024x1024 1 × IVec S16384x512 1 × IVec S4x16384x128 1 × IVec S16384x512 1 × IVec S1x512 1 × IVec S1x128 1 :=
  let main_v18 : FVec F S1x128 .f32 := Host.absf main_arg6
  let main_cst_5 : FVec F S_ .f32 := constant S_ .f32 0x7F800000#32
  let main_v19 : FVec F S1x128 .f32 := broadcastInDim S1x128 ![] bcast_S_S1x128 main_cst_5
  let main_v20 : IVec S1x128 1 := cmpf .olt main_v18 main_v19
  (main_v2, main_v5, main_v8, main_v11, main_v14, main_v17, main_v20)

def fn {F : FTy → Type} [FloatOps F] (main_arg0 : FVec F S16384x1024 .f32) (main_arg1 : FVec F S1024x1024 .f32) (main_arg2 : FVec F S16384x512 .f32) (main_arg3 : FVec F S4x16384x128 .f32) (main_arg4 : FVec F S16384x512 .f32) (main_arg5 : FVec F S1x512 .f32) (main_arg6 : FVec F S1x128 .f32) : IVec S16384x1024 1 × IVec S1024x1024 1 × IVec S16384x512 1 × IVec S4x16384x128 1 × IVec S16384x512 1 × IVec S1x512 1 × IVec S1x128 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S4x16384x128 .f32 := Host.absf main_arg3
  let main_cst_2 : FVec F S_ .f32 := constant S_ .f32 0x7F800000#32
  let main_v10 : FVec F S4x16384x128 .f32 := broadcastInDim S4x16384x128 ![] bcast_S_S4x16384x128 main_cst_2
  let main_v11 : IVec S4x16384x128 1 := cmpf .olt main_v9 main_v10
  let main_v12 : FVec F S16384x512 .f32 := Host.absf main_arg4
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_v2 main_v5 main_v8 main_v11 main_v14 main_v17
-- ==== Kernel.lean ====
abbrev S4x16384x128 : Shape := ⟨3, ![4, 16384, 128]⟩
abbrev S4x256x192x64 : Shape := ⟨4, ![4, 256, 192, 64]⟩
abbrev S4x256x128x64 : Shape := ⟨4, ![4, 256, 128, 64]⟩
abbrev S256x4x128x128 : Shape := ⟨4, ![256, 4, 128, 128]⟩
abbrev S256x512 : Shape := ⟨2, ![256, 512]⟩
abbrev S4x512x128 : Shape := ⟨3, ![4, 512, 128]⟩
abbrev S4x8x192x64 : Shape := ⟨4, ![4, 8, 192, 64]⟩
abbrev S4x8x128x64 : Shape := ⟨4, ![4, 8, 128, 64]⟩
abbrev S8x4x128x128 : Shape := ⟨4, ![8, 4, 128, 128]⟩
abbrev S8x512 : Shape := ⟨2, ![8, 512]⟩
abbrev S4x128x128 : Shape := ⟨3, ![4, 128, 128]⟩
abbrev S64x128 : Shape := ⟨2, ![64, 128]⟩
abbrev S8x128 : Shape := ⟨2, ![8, 128]⟩
abbrev S1x128x128 : Shape := ⟨3, ![1, 128, 128]⟩
abbrev S128x128 : Shape := ⟨2, ![128, 128]⟩
abbrev S1x64x128 : Shape := ⟨3, ![1, 64, 128]⟩
abbrev S1x1x192x64 : Shape := ⟨4, ![1, 1, 192, 64]⟩
abbrev S192x64 : Shape := ⟨2, ![192, 64]⟩
abbrev S192x128 : Shape := ⟨2, ![192, 128]⟩
abbrev S1x1x128x64 : Shape := ⟨4, ![1, 1, 128, 64]⟩
abbrev S128x64 : Shape := ⟨2, ![128, 64]⟩
abbrev S128 : Shape := ⟨1, ![128]⟩
abbrev S1x128 : Shape := ⟨2, ![1, 128]⟩
abbrev S1x1x128x128 : Shape := ⟨4, ![1, 1, 128, 128]⟩

abbrev nBuf : Space → Nat
  | .hbm => 17
  | .vmem => 25
  | .smem => 0
  | _ => 0

abbrev bufTy : (tb : Table) → Fin (tcTables nBuf tb) → BufTy
  | .hbm, ⟨0, _⟩ => ⟨S4x16384x128, .f32⟩
  | .hbm, ⟨1, _⟩ => ⟨S4x256x192x64, .f32⟩
  | .hbm, ⟨2, _⟩ => ⟨S4x16384x128, .f32⟩
  | .hbm, ⟨3, _⟩ => ⟨S4x256x128x64, .f32⟩
  | .hbm, ⟨4, _⟩ => ⟨S256x4x128x128, .f32⟩
  | .hbm, ⟨5, _⟩ => ⟨S4x16384x128, .f32⟩
  | .hbm, ⟨6, _⟩ => ⟨S256x512, .f32⟩
  | .hbm, ⟨7, _⟩ => ⟨S4x256x192x64, .bf16⟩
  | .hbm, ⟨8, _⟩ => ⟨S4x16384x128, .bf16⟩
  | .hbm, ⟨9, _⟩ => ⟨S4x256x128x64, .bf16⟩
  | .hbm, ⟨10, _⟩ => ⟨S256x4x128x128, .bf16⟩
  | .hbm, ⟨11, _⟩ => ⟨S4x16384x128, .bf16⟩
  | .hbm, ⟨12, _⟩ => ⟨S4x16384x128, .f32⟩
  | .hbm, ⟨13, _⟩ => ⟨S4x16384x128, .f32⟩
  | .hbm, ⟨14, _⟩ => ⟨S4x16384x128, .f32⟩
  | .hbm, ⟨15, _⟩ => ⟨S4x16384x128, .f32⟩
  | .hbm, ⟨16, _⟩ => ⟨S4x16384x128, .f32⟩
  | .local _ .vmem, ⟨0, _⟩ => ⟨S4x512x128, .f32⟩
  | .local _ .vmem, ⟨1, _⟩ => ⟨S4x512x128, .f32⟩
  | .local _ .vmem, ⟨2, _⟩ => ⟨S4x8x192x64, .bf16⟩
  | .local _ .vmem, ⟨3, _⟩ => ⟨S4x8x192x64, .bf16⟩
  | .local _ .vmem, ⟨4, _⟩ => ⟨S4x512x128, .bf16⟩
  | .local _ .vmem, ⟨5, _⟩ => ⟨S4x512x128, .bf16⟩
  | .local _ .vmem, ⟨6, _⟩ => ⟨S4x8x128x64, .bf16⟩
  | .local _ .vmem, ⟨7, _⟩ => ⟨S4x8x128x64, .bf16⟩
  | .local _ .vmem, ⟨8, _⟩ => ⟨S8x4x128x128, .bf16⟩
  | .local _ .vmem, ⟨9, _⟩ => ⟨S8x4x128x128, .bf16⟩
  | .local _ .vmem, ⟨10, _⟩ => ⟨S4x512x128, .bf16⟩
  | .local _ .vmem, ⟨11, _⟩ => ⟨S4x512x128, .bf16⟩
  | .local _ .vmem, ⟨12, _⟩ => ⟨S8x512, .f32⟩
  | .local _ .vmem, ⟨13, _⟩ => ⟨S8x512, .f32⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .vmem, ⟨18, _⟩ => ⟨S4x512x128, .f32⟩
  | .local _ .vmem, ⟨19, _⟩ => ⟨S4x512x128, .f32⟩
  | .local _ .vmem, ⟨20, _⟩ => ⟨S4x512x128, .f32⟩
  | .local _ .vmem, ⟨21, _⟩ => ⟨S4x512x128, .f32⟩
  | .local _ .vmem, ⟨22, _⟩ => ⟨S4x512x128, .f32⟩
  | .local _ .vmem, ⟨23, _⟩ => ⟨S4x512x128, .f32⟩
  | .local _ .vmem, ⟨24, _⟩ => ⟨S4x128x128, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let c64_i32 : BitVec 32 := 64#32
  let v9 : BitVec 32 := Scalar.muli v8 c64_i32
  v9
def k0_off1 (k0_t1 : Fin k0_t1_loop.trips) : Fin 3 → Nat :=
  let c0_11 : Index := 0#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let c64_i32 : BitVec 32 := 64#32
  let v9 : BitVec 32 := Scalar.muli v8 c64_i32
  let v10 : BitVec 32 := v9
  let v23 : Index := Scalar.indexCast v10
  let c0_12 : Index := 0#32
  ![0, v23.toNat, 0]
def k0_off2 (k0_t1 : Fin k0_t1_loop.trips) : Fin 3 → Nat :=
  let c1_13 : Index := 1#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let c64_i32 : BitVec 32 := 64#32
  let v9 : BitVec 32 := Scalar.muli v8 c64_i32
  let v10 : BitVec 32 := v9
  let v27 : Index := Scalar.indexCast v10
  let c0_14 : Index := 0#32
  ![1, v27.toNat, 0]
def k0_off3 (k0_t1 : Fin k0_t1_loop.trips) : Fin 3 → Nat :=
  let c2_15 : Index := 2#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let c64_i32 : BitVec 32 := 64#32
  let v9 : BitVec 32 := Scalar.muli v8 c64_i32
  let v10 : BitVec 32 := v9
  let v31 : Index := Scalar.indexCast v10
  let c0_16 : Index := 0#32
  ![2, v31.toNat, 0]
def k0_off4 (k0_t1 : Fin k0_t1_loop.trips) : Fin 3 → Nat :=
  let c3_17 : Index := 3#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let c64_i32 : BitVec 32 := 64#32
  let v9 : BitVec 32 := Scalar.muli v8 c64_i32
  let v10 : BitVec 32 := v9
  let v35 : Index := Scalar.indexCast v10
  let c0_18 : Index := 0#32
  ![3, v35.toNat, 0]
def k0_off5 (k0_t1 : Fin k0_t1_loop.trips) : Fin 4 → Nat :=
  let c0_19 : Index := 0#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v39 : Index := Scalar.indexCast v8
  let c0_20 : Index := 0#32
  let c0_21 : Index := 0#32
  ![0, v39.toNat, 0, 0]
def k0_off6 (k0_t1 : Fin k0_t1_loop.trips) : Fin 4 → Nat :=
  let c1_22 : Index := 1#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v43 : Index := Scalar.indexCast v8
  let c0_23 : Index := 0#32
  let c0_24 : Index := 0#32
  ![1, v43.toNat, 0, 0]
def k0_off7 (k0_t1 : Fin k0_t1_loop.trips) : Fin 4 → Nat :=
  let c2_26 : Index := 2#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v47 : Index := Scalar.indexCast v8
  let c0_27 : Index := 0#32
  let c0_28 : Index := 0#32
  ![2, v47.toNat, 0, 0]
def k0_off8 (k0_t1 : Fin k0_t1_loop.trips) : Fin 4 → Nat :=
  let c3_30 : Index := 3#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v51 : Index := Scalar.indexCast v8
  let c0_31 : Index := 0#32
  let c0_32 : Index := 0#32
  ![3, v51.toNat, 0, 0]
def k0_off9 (k0_t1 : Fin k0_t1_loop.trips) : Fin 4 → Nat :=
  let c0_46 : Index := 0#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v83 : Index := Scalar.indexCast v8
  let c0_47 : Index := 0#32
  let c0_48 : Index := 0#32
  ![0, v83.toNat, 0, 0]
def k0_off10 (k0_t1 : Fin k0_t1_loop.trips) : Fin 4 → Nat :=
  let c1_50 : Index := 1#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v87 : Index := Scalar.indexCast v8
  let c0_51 : Index := 0#32
  let c0_52 : Index := 0#32
  ![1, v87.toNat, 0, 0]
def k0_off11 (k0_t1 : Fin k0_t1_loop.trips) : Fin 4 → Nat :=
  let c2_54 : Index := 2#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v91 : Index := Scalar.indexCast v8
  let c0_55 : Index := 0#32
  let c0_56 : Index := 0#32
  ![2, v91.toNat, 0, 0]
def k0_off12 (k0_t1 : Fin k0_t1_loop.trips) : Fin 4 → Nat :=
  let c3_58 : Index := 3#32
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v95 : Index := Scalar.indexCast v8
  let c0_59 : Index := 0#32
  let c0_60 : Index := 0#32
  ![3, v95.toNat, 0, 0]
def k0_off13 (k0_t1 : Fin k0_t1_loop.trips) : Fin 4 → Nat :=
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v106 : Index := Scalar.indexCast v8
  let c0_66 : Index := 0#32
  let c0_67 : Index := 0#32
  let c0_68 : Index := 0#32
  ![v106.toNat, 0, 0, 0]
def k0_off14 (k0_t1 : Fin k0_t1_loop.trips) : Fin 4 → Nat :=
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v163 : Index := Scalar.indexCast v8
  let c1_92 : Index := 1#32
  let c0_93 : Index := 0#32
  let c0_94 : Index := 0#32
  ![v163.toNat, 1, 0, 0]
def k0_off15 (k0_t1 : Fin k0_t1_loop.trips) : Fin 4 → Nat :=
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v220 : Index := Scalar.indexCast v8
  let c2_118 : Index := 2#32
  let c0_119 : Index := 0#32
  let c0_120 : Index := 0#32
  ![v220.toNat, 2, 0, 0]
def k0_off16 (k0_t1 : Fin k0_t1_loop.trips) : Fin 4 → Nat :=
  let c7_i32 : BitVec 32 := 7#32
  let c0_i32_1 : BitVec 32 := 0#32
  let c1_i32 : BitVec 32 := 1#32
  let arg14 : BitVec 32 := Scf.iv c0_i32_1 c1_i32 k0_t1
  let v8 : BitVec 32 := Scalar.subi c7_i32 arg14
  let v277 : Index := Scalar.indexCast v8
  let c3_144 : Index := 3#32
  let c0_145 : Index := 0#32
  let c0_146 : Index := 0#32
  ![v277.toNat, 3, 0, 0]
def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2.lean ====
abbrev S16384x1024 : Shape := ⟨2, ![16384, 1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S8x128x1024 : Shape := ⟨3, ![8, 128, 1024]⟩
abbrev S8x352x1024 : Shape := ⟨3, ![8, 352, 1024]⟩
abbrev S8x1184x1024 : Shape := ⟨3, ![8, 1184, 1024]⟩
abbrev S16384x2816 : Shape := ⟨2, ![16384, 2816]⟩
abbrev S16384x5632 : Shape := ⟨2, ![16384, 5632]⟩
abbrev S256x1024 : Shape := ⟨2, ![256, 1024]⟩
abbrev S256x2816 : Shape := ⟨2, ![256, 2816]⟩
abbrev S256x5632 : Shape := ⟨2, ![256, 5632]⟩
abbrev S24 : Shape := ⟨1, ![24]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S8x128x1024, .f32⟩
  | .hbm, ⟨8, _⟩ => ⟨S2816x1024, .f32⟩
  | .hbm, ⟨9, _⟩ => ⟨S8x352x1024, .f32⟩
  | .hbm, ⟨10, _⟩ => ⟨S2816x1024, .f32⟩
  | .hbm, ⟨11, _⟩ => ⟨S8x352x1024, .f32⟩
  | .hbm, ⟨12, _⟩ => ⟨S8x352x1024, .f32⟩
  | .hbm, ⟨13, _⟩ => ⟨S8x1184x1024, .f32⟩
  | .hbm, ⟨14, _⟩ => ⟨S8x1184x1024, .bf16⟩
  | .hbm, ⟨15, _⟩ => ⟨S16384x1024, .f32⟩
  | .hbm, ⟨16, _⟩ => ⟨S16384x1024, .bf16⟩
  | .hbm, ⟨17, _⟩ => ⟨S16384x1024, .bf16⟩
  | .hbm, ⟨18, _⟩ => ⟨S16384x2816, .bf16⟩
  | .hbm, ⟨19, _⟩ => ⟨S16384x5632, .bf16⟩
  | .hbm, ⟨20, _⟩ => ⟨S16384x1024, .bf16⟩
  | .hbm, ⟨21, _⟩ => ⟨S1x1024, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2816, .bf16⟩
  | .local _ .vmem, ⟨12, _⟩ => ⟨S256x2816, .bf16⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S16384x1024 : Shape := ⟨2, ![16384, 1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x5632 : Shape := ⟨2, ![16384, 5632]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S1024, .f32⟩
  | .hbm, ⟨87, _⟩ => ⟨S16384x1024, .f32⟩
  | .hbm, ⟨88, _⟩ => ⟨S_, .f32⟩
  | .hbm, ⟨89, _⟩ => ⟨S16384, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S_, .f32⟩
  | .hbm, ⟨98, _⟩ => ⟨S16384, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x1024, .bf16⟩
  | .hbm, ⟨108, _⟩ => ⟨S16384x1024, .bf16⟩
  | .hbm, ⟨109, _⟩ => ⟨S16384x2816, .bf16⟩
  | .hbm, ⟨110, _⟩ => ⟨S16384x5632, .f32⟩
  | .hbm, ⟨111, _⟩ => ⟨S16384x5632, .bf16⟩
  | .hbm, ⟨112, _⟩ => ⟨S16384x1024, .bf16⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_cst_8 : Ref sig .tc := ⟨.hbm, 60, rfl⟩
abbrev main_cst_9 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_12 : Ref sig .tc := ⟨.hbm, 85, rfl⟩
abbrev main_v50 : Ref sig .tc := ⟨.hbm, 86, rfl⟩
abbrev main_v51 : Ref sig .tc := ⟨.hbm, 87, rfl⟩
abbrev main_cst_13 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_16 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]
-- ==== Kernel3.lean ====
abbrev S16384x1024 : Shape := ⟨2, ![16384, 1024]⟩
abbrev S16384x2816 : Shape := ⟨2, ![16384, 2816]⟩
abbrev S16384x5632 : Shape := ⟨2, ![16384, 5632]⟩
abbrev S5632x1024 : Shape := ⟨2, ![5632, 1024]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x2816, .f32⟩
  | .hbm, ⟨3, _⟩ => ⟨S16384x1024, .bf16⟩
  | .hbm, ⟨4, _⟩ => ⟨S16384x5632, .f32⟩
  | .hbm, ⟨5, _⟩ => ⟨S16384x5632, .bf16⟩
  | .hbm, ⟨6, _⟩ => ⟨S5632x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S2816x1024, .bf16⟩
  | .local _ .vmem, ⟨6, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x2816, .f32⟩
  | .hbm, ⟨3, _⟩ => ⟨S_, .f32⟩
  | .hbm, ⟨4, _⟩ => ⟨S1024x2816, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .f32⟩
  | .hbm, ⟨13, _⟩ => ⟨S5632x1024, .f32⟩
  | .hbm, ⟨14, _⟩ => ⟨S5632x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S2816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S16384x1024 : Shape := ⟨2, ![16384, 1024]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x512 : Shape := ⟨2, ![16384, 512]⟩
abbrev S4x16384x128 : Shape := ⟨3, ![4, 16384, 128]⟩
abbrev S16384x1024 : Shape := ⟨2, ![16384, 1024]⟩
abbrev S1024x1024 : Shape := ⟨2, ![1024, 1024]⟩
abbrev S1x512 : Shape := ⟨2, ![1, 512]⟩
abbrev S1x128 : Shape := ⟨2, ![1, 128]⟩
abbrev S512x512 : Shape := ⟨2, ![512, 512]⟩
abbrev S4x512x128 : Shape := ⟨3, ![4, 512, 128]⟩
abbrev S512x1024 : Shape := ⟨2, ![512, 1024]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩

abbrev nBuf : Space → Nat
  | .hbm => 10
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S4x16384x128, .f32⟩
  | .hbm, ⟨2, _⟩ => ⟨S16384x512, .f32⟩
  | .hbm, ⟨3, _⟩ => ⟨S16384x1024, .f32⟩
  | .hbm, ⟨4, _⟩ => ⟨S1024x1024, .f32⟩
  | .hbm, ⟨5, _⟩ => ⟨S1x512, .f32⟩
  | .hbm, ⟨6, _⟩ => ⟨S1x128, .f32⟩
  | .hbm, ⟨7, _⟩ => ⟨S1024x1024, .bf16⟩
  | .hbm, ⟨8, _⟩ => ⟨S16384x1024, .f32⟩
  | .hbm, ⟨9, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S4x512x128, .f32⟩
  | .local _ .vmem, ⟨3, _⟩ => ⟨S4x512x128, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x512, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x512 : Shape := ⟨2, ![16384, 512]⟩
abbrev S4x16384x128 : Shape := ⟨3, ![4, 16384, 128]⟩
abbrev S16384x1024 : Shape := ⟨2, ![16384, 1024]⟩
abbrev S1024x1024 : Shape := ⟨2, ![1024, 1024]⟩
abbrev S1x512 : Shape := ⟨2, ![1, 512]⟩
abbrev S1x128 : Shape := ⟨2, ![1, 128]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x4x128 : Shape := ⟨3, ![16384, 4, 128]⟩
abbrev S128 : Shape := ⟨1, ![128]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x16384x128, .f32⟩
  | .hbm, ⟨2, _⟩ => ⟨S16384x512, .f32⟩
  | .hbm, ⟨3, _⟩ => ⟨S16384x1024, .f32⟩
  | .hbm, ⟨4, _⟩ => ⟨S1024x1024, .f32⟩
  | .hbm, ⟨5, _⟩ => ⟨S1x512, .f32⟩
  | .hbm, ⟨6, _⟩ => ⟨S1x128, .f32⟩
  | .hbm, ⟨7, _⟩ => ⟨S512, .f32⟩
  | .hbm, ⟨8, _⟩ => ⟨S16384x512, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x512, .f32⟩
  | .hbm, ⟨20, _⟩ => ⟨S16384x512, .f32⟩
  | .hbm, ⟨21, _⟩ => ⟨S1x512, .f32⟩
  | .hbm, ⟨22, _⟩ => ⟨S16384x512, .f32⟩
  | .hbm, ⟨23, _⟩ => ⟨S16384x512, .f32⟩
  | .hbm, ⟨24, _⟩ => ⟨S16384x4x128, .f32⟩
  | .hbm, ⟨25, _⟩ => ⟨S128, .f32⟩
  | .hbm, ⟨26, _⟩ => ⟨S16384x4x128, .f32⟩
  | .hbm, ⟨27, _⟩ => ⟨S_, .f32⟩
  | .hbm, ⟨28, _⟩ => ⟨S16384x4, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x1, .f32⟩
  | .hbm, ⟨37, _⟩ => ⟨S16384x4x128, .f32⟩
  | .hbm, ⟨38, _⟩ => ⟨S16384x4x128, .f32⟩
  | .hbm, ⟨39, _⟩ => ⟨S1x1x128, .f32⟩
  | .hbm, ⟨40, _⟩ => ⟨S16384x4x128, .f32⟩
  | .hbm, ⟨41, _⟩ => ⟨S16384x4x128, .f32⟩
  | .hbm, ⟨42, _⟩ => ⟨S16384x4x128, .f32⟩
  | .hbm, ⟨43, _⟩ => ⟨S16384x4x128, .f32⟩
  | .hbm, ⟨44, _⟩ => ⟨S16384x4x128, .f32⟩
  | .hbm, ⟨45, _⟩ => ⟨S_, .f32⟩
  | .hbm, ⟨46, _⟩ => ⟨S16384x4x128, .f32⟩
  | .hbm, ⟨47, _⟩ => ⟨S16384x4x128, .f32⟩
  | .hbm, ⟨48, _⟩ => ⟨S_, .f32⟩
  | .hbm, ⟨49, _⟩ => ⟨S16384x4x128, .f32⟩
  | .hbm, ⟨50, _⟩ => ⟨S16384x4x128, .f32⟩
  | .hbm, ⟨51, _⟩ => ⟨S16384x4x128, .f32⟩
  | .hbm, ⟨52, _⟩ => ⟨S16384x4x128, .f32⟩
  | .hbm, ⟨53, _⟩ => ⟨S16384x512, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S16384x512 : Shape := ⟨2, ![16384, 512]⟩
abbrev S4x16384x128 : Shape := ⟨3, ![4, 16384, 128]⟩
abbrev S1x512 : Shape := ⟨2, ![1, 512]⟩
abbrev S1x128 : Shape := ⟨2, ![1, 128]⟩
abbrev S512x1024 : Shape := ⟨2, ![512, 1024]⟩
abbrev S512x512 : Shape := ⟨2, ![512, 512]⟩
abbrev S4x512x128 : Shape := ⟨3, ![4, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S128 : Shape := ⟨1, ![128]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x512, .f32⟩
  | .hbm, ⟨3, _⟩ => ⟨S4x16384x128, .f32⟩
  | .hbm, ⟨4, _⟩ => ⟨S16384x512, .f32⟩
  | .hbm, ⟨5, _⟩ => ⟨S1x512, .f32⟩
  | .hbm, ⟨6, _⟩ => ⟨S1x128, .f32⟩
  | .hbm, ⟨7, _⟩ => ⟨S16384x1024, .bf16⟩
  | .hbm, ⟨8, _⟩ => ⟨S1024x1024, .bf16⟩
  | .hbm, ⟨9, _⟩ => ⟨S16384x512, .f32⟩
  | .hbm, ⟨10, _⟩ => ⟨S4x16384x128, .f32⟩
  | .hbm, ⟨11, _⟩ => ⟨S16384x512, .f32⟩
  | .hbm, ⟨12, _⟩ => ⟨S1x512, .f32⟩
  | .hbm, ⟨13, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S4x512x128, .f32⟩
  | .local _ .vmem, ⟨6, _⟩ => ⟨S4x512x128, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S4x512x128, .f32⟩
  | .local _ .vmem, ⟨14, _⟩ => ⟨S4x512x128, .f32⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S16384x1024 : Shape := ⟨2, ![16384, 1024]⟩
abbrev S1024x1024 : Shape := ⟨2, ![1024, 1024]⟩
abbrev S16384x512 : Shape := ⟨2, ![16384, 512]⟩
abbrev S4x16384x128 : Shape := ⟨3, ![4, 16384, 128]⟩
abbrev S1x512 : Shape := ⟨2, ![1, 512]⟩
abbrev S1x128 : Shape := ⟨2, ![1, 128]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x4x128 : Shape := ⟨3, ![16384, 4, 128]⟩
abbrev S128 : Shape := ⟨1, ![128]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S1024x1024, .f32⟩
  | 2 => ⟨S16384x512, .f32⟩
  | 3 => ⟨S4x16384x128, .f32⟩
  | 4 => ⟨S16384x512, .f32⟩
  | 5 => ⟨S1x512, .f32⟩
  | 6 => ⟨S1x128, .f32⟩
  | 7 => ⟨S512, .f32⟩
  | 8 => ⟨S16384x512, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x512, .f32⟩
  | 24 => ⟨S16384x512, .f32⟩
  | 25 => ⟨S1x512, .f32⟩
  | 26 => ⟨S16384x512, .f32⟩
  | 27 => ⟨S16384x512, .f32⟩
  | 28 => ⟨S16384x4x128, .f32⟩
  | 29 => ⟨S128, .f32⟩
  | 30 => ⟨S16384x4x128, .f32⟩
  | 31 => ⟨S_, .f32⟩
  | 32 => ⟨S16384x4, .f32⟩
  | 33 => ⟨S16384x4x1, .f32⟩
  | 34 => ⟨S_, .f32⟩
  | 35 => ⟨S16384x4x1, .f32⟩
  | 36 => ⟨S16384x4x1, .f32⟩
  | 37 => ⟨S_, .f32⟩
  | 38 => ⟨S16384x4x1, .f32⟩
  | 39 => ⟨S16384x4x1, .f32⟩
  | 40 => ⟨S16384x4x1, .f32⟩
  | 41 => ⟨S16384x4x1, .f32⟩
  | 42 => ⟨S_, .f32⟩
  | 43 => ⟨S16384x4x1, .f32⟩
  | 44 => ⟨S16384x4x1, .f32⟩
  | 45 => ⟨S16384x4x128, .f32⟩
  | 46 => ⟨S16384x4x128, .f32⟩
  | 47 => ⟨S1x1x128, .f32⟩
  | 48 => ⟨S16384x4x128, .f32⟩
  | 49 => ⟨S16384x4x128, .f32⟩
  | 50 => ⟨S16384x4x128, .f32⟩
  | 51 => ⟨S16384x4x128, .f32⟩
  | 52 => ⟨S16384x4x128, .f32⟩
  | 53 => ⟨S_, .f32⟩
  | 54 => ⟨S16384x4x128, .f32⟩
  | 55 => ⟨S16384x4x128, .f32⟩
  | 56 => ⟨S_, .f32⟩
  | 57 => ⟨S16384x4x128, .f32⟩
  | 58 => ⟨S16384x4x128, .f32⟩
  | 59 => ⟨S_, .f32⟩
  | 60 => ⟨S16384x4x128, .f32⟩
  | 61 => ⟨S16384x4x128, .f32⟩
  | 62 => ⟨S16384x4x128, .f32⟩
  | 63 => ⟨S16384x4x128, .f32⟩
  | 64 => ⟨S16384x4x128, .f32⟩
  | 65 => ⟨S16384x512, .f32⟩
  | 66 => ⟨S16384x1024, .f32⟩
  | 67 => ⟨S16384x1024, .f32⟩
  | 68 => ⟨S16384x1024, .f32⟩
  | 69 => ⟨S16384x512, .f32⟩
  | 70 => ⟨S16384x512, .f32⟩
  | 71 => ⟨S16384x4x128, .f32⟩
  | 72 => ⟨S16384x4x128, .f32⟩
  | 73 => ⟨S16384x4x128, .f32⟩
  | 74 => ⟨S16384x4x128, .f32⟩
  | 75 => ⟨S16384x4x128, .f32⟩
  | 76 => ⟨S16384x4x128, .f32⟩
  | 77 => ⟨S16384x4x128, .f32⟩
  | 78 => ⟨S16384x512, .f32⟩
  | 79 => ⟨S16384x4x128, .f32⟩
  | 80 => ⟨S_, .f32⟩
  | 81 => ⟨S128, .f32⟩
  | 82 => ⟨S1x1x128, .f32⟩
  | 83 => ⟨S16384x4x128, .f32⟩
  | 84 => ⟨S16384x4x128, .f32⟩
  | 85 => ⟨S_, .f32⟩
  | 86 => ⟨S128, .f32⟩
  | 87 => ⟨S16384x4x128, .f32⟩
  | 88 => ⟨S_, .f32⟩
  | 89 => ⟨S16384x4, .f32⟩
  | 90 => ⟨S16384x4x1, .f32⟩
  | 91 => ⟨S16384x4x128, .f32⟩
  | 92 => ⟨S16384x4x128, .f32⟩
  | 93 => ⟨S16384x4x1, .f32⟩
  | 94 => ⟨S_, .f32⟩
  | 95 => ⟨S16384x4x1, .f32⟩
  | 96 => ⟨S16384x4x1, .f32⟩
  | 97 => ⟨S_, .f32⟩
  | 98 => ⟨S16384x4, .f32⟩
  | 99 => ⟨S16384x4x128, .f32⟩
  | 100 => ⟨S16384x4x128, .f32⟩
  | 101 => ⟨S16384x4x128, .f32⟩
  | 102 => ⟨S16384x4x128, .f32⟩
  | 103 => ⟨S16384x4x128, .f32⟩
  | 104 => ⟨S1x128, .f32⟩
  | 105 => ⟨S4x16384x128, .f32⟩
  | 106 => ⟨S16384x512, .f32⟩
  | 107 => ⟨S_, .f32⟩
  | 108 => ⟨S512, .f32⟩
  | 109 => ⟨S1x512, .f32⟩
  | 110 => ⟨S16384x512, .f32⟩
  | 111 => ⟨S16384x512, .f32⟩
  | 112 => ⟨S_, .f32⟩
  | 113 => ⟨S512, .f32⟩
  | 114 => ⟨S16384x512, .f32⟩
  | 115 => ⟨S_, .f32⟩
  | 116 => ⟨S16384, .f32⟩
  | 117 => ⟨S16384x1, .f32⟩
  | 118 => ⟨S16384x512, .f32⟩
  | 119 => ⟨S16384x512, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384, .f32⟩
  | 126 => ⟨S16384x512, .f32⟩
  | 127 => ⟨S16384x512, .f32⟩
  | _ => ⟨S16384x1024, .f32⟩

abbrev hbmTy0_1 (i : Nat) : BufTy := match i % 128 with
  | 0 => ⟨S16384x512, .f32⟩
  | 1 => ⟨S16384x512, .f32⟩
  | 2 => ⟨S16384x512, .f32⟩
  | 3 => ⟨S1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v36_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v36_1 : Ref sig .tc := ⟨.hbm, 62, rfl⟩
abbrev main_v36_0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩

abbrev nD : Nat := 1
abbrev τ : Topo := Topo.v7x

variable {F : FTy → Type} [FloatOps F]
-- ==== Kernel8.lean ====
abbrev S16384x512 : Shape := ⟨2, ![16384, 512]⟩
abbrev S16384x1024 : Shape := ⟨2, ![16384, 1024]⟩
abbrev S16384x1536 : Shape := ⟨2, ![16384, 1536]⟩
abbrev S16384x8 : Shape := ⟨2, ![16384, 8]⟩
abbrev S1024x3592 : Shape := ⟨2, ![1024, 3592]⟩
abbrev S1x1024 : Shape := ⟨2, ![1, 1024]⟩
abbrev S1x64 : Shape := ⟨2, ![1, 64]⟩
abbrev S3592x1024 : Shape := ⟨2, ![3592, 1024]⟩
abbrev S3584x1024 : Shape := ⟨2, ![3584, 1024]⟩
abbrev S8x1024 : Shape := ⟨2, ![8, 1024]⟩
abbrev S1024x8 : Shape := ⟨2, ![1024, 8]⟩
abbrev S1x1x1x64 : Shape := ⟨4, ![1, 1, 1, 64]⟩
abbrev S1x1x8x64 : Shape := ⟨4, ![1, 1, 8, 64]⟩
abbrev S1x512 : Shape := ⟨2, ![1, 512]⟩
abbrev S16384x3712 : Shape := ⟨2, ![16384, 3712]⟩
abbrev S512x512 : Shape := ⟨2, ![512, 512]⟩
abbrev S512x1024 : Shape := ⟨2, ![512, 1024]⟩
abbrev S512x1536 : Shape := ⟨2, ![512, 1536]⟩
abbrev S512x8 : Shape := ⟨2, ![512, 8]⟩
abbrev S512x3712 : Shape := ⟨2, ![512, 3712]⟩
abbrev S_ : Shape := ⟨0, ![]⟩
abbrev S256x256 : Shape := ⟨2, ![256, 256]⟩
abbrev S1536x1024 : Shape := ⟨2, ![1536, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 29
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1536, .f32⟩
  | .hbm, ⟨5, _⟩ => ⟨S16384x512, .f32⟩
  | .hbm, ⟨6, _⟩ => ⟨S16384x8, .f32⟩
  | .hbm, ⟨7, _⟩ => ⟨S16384x1024, .f32⟩
  | .hbm, ⟨8, _⟩ => ⟨S16384x1024, .f32⟩
  | .hbm, ⟨9, _⟩ => ⟨S1024x3592, .f32⟩
  | .hbm, ⟨10, _⟩ => ⟨S1x1024, .f32⟩
  | .hbm, ⟨11, _⟩ => ⟨S1x64, .f32⟩
  | .hbm, ⟨12, _⟩ => ⟨S1x64, .f32⟩
  | .hbm, ⟨13, _⟩ => ⟨S3592x1024, .f32⟩
  | .hbm, ⟨14, _⟩ => ⟨S3592x1024, .bf16⟩
  | .hbm, ⟨15, _⟩ => ⟨S3584x1024, .bf16⟩
  | .hbm, ⟨16, _⟩ => ⟨S8x1024, .bf16⟩
  | .hbm, ⟨17, _⟩ => ⟨S1024x8, .bf16⟩
  | .hbm, ⟨18, _⟩ => ⟨S1x1x1x64, .f32⟩
  | .hbm, ⟨19, _⟩ => ⟨S1x1x8x64, .f32⟩
  | .hbm, ⟨20, _⟩ => ⟨S1x512, .f32⟩
  | .hbm, ⟨21, _⟩ => ⟨S1x1x1x64, .f32⟩
  | .hbm, ⟨22, _⟩ => ⟨S1x1x8x64, .f32⟩
  | .hbm, ⟨23, _⟩ => ⟨S1x512, .f32⟩
  | .hbm, ⟨24, _⟩ => ⟨S16384x1024, .f32⟩
  | .hbm, ⟨25, _⟩ => ⟨S16384x3712, .bf16⟩
  | .hbm, ⟨26, _⟩ => ⟨S1x1024, .f32⟩
  | .hbm, ⟨27, _⟩ => ⟨S1x512, .f32⟩
  | .hbm, ⟨28, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x8, .f32⟩
  | .local _ .vmem, ⟨13, _⟩ => ⟨S512x8, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x8, .bf16⟩
  | .local _ .vmem, ⟨19, _⟩ => ⟨S1x1024, .f32⟩
  | .local _ .vmem, ⟨20, _⟩ => ⟨S1x512, .f32⟩
  | .local _ .vmem, ⟨21, _⟩ => ⟨S1x512, .f32⟩
  | .local _ .vmem, ⟨22, _⟩ => ⟨S512x1024, .f32⟩
  | .local _ .vmem, ⟨23, _⟩ => ⟨S512x1024, .f32⟩
  | .local _ .vmem, ⟨24, _⟩ => ⟨S512x3712, .bf16⟩
  | .local _ .vmem, ⟨25, _⟩ => ⟨S512x3712, .bf16⟩
  | .local _ .vmem, ⟨26, _⟩ => ⟨S1x1024, .f32⟩
  | .local _ .vmem, ⟨27, _⟩ => ⟨S1x512, .f32⟩
  | .local _ .vmem, ⟨28, _⟩ => ⟨S1x512, .f32⟩
  | .local _ .vmem, ⟨29, _⟩ => ⟨S3584x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3712 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Proof.Scan.Loop.lean ====
module

public import proofs.«01_k».proof.Proof.Gen.KernelIdeal.Frame
public import proofs.«01_k».proof.Proof.Gen.KernelIdeal.Skeleton
public import proofs.«01_k».proof.Proof.Gen.KernelIdeal.Loops

/-! The counted loop of the scan's backward kernel: one trip goes through one chunk of 64 tokens, from the last
chunk of the block to the first, carrying the gradient of the state of four heads in `B.a13` and storing five
gradients of the chunk.

Every load whose value is used reads an input or the carried state, so what a trip stores is a function of the
carried state alone (`trip`). The carried state before trip `k` is `carry … k`, and the pieces stored into an
output before trip `k` are `out8 … k` to `out12 … k`. -/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs the kernel's body is called with: seven inputs, five outputs, and the carried state. -/
structure Bufs where
  a1 : Memref sig .tc .vmem S4x512x128 .f32
  h1 : a1.IsWhole
  a2 : Memref sig .tc .vmem S4x8x192x64 .bf16
  h2 : a2.IsWhole
  a3 : Memref sig .tc .vmem S4x512x128 .bf16
  h3 : a3.IsWhole
  a4 : Memref sig .tc .vmem S4x8x128x64 .bf16
  h4 : a4.IsWhole
  a5 : Memref sig .tc .vmem S8x4x128x128 .bf16
  h5 : a5.IsWhole
  a6 : Memref sig .tc .vmem S4x512x128 .bf16
  h6 : a6.IsWhole
  a7 : Memref sig .tc .vmem S8x512 .f32
  h7 : a7.IsWhole
  a8 : Memref sig .tc .vmem S4x512x128 .f32
  h8 : a8.IsWhole
  a9 : Memref sig .tc .vmem S4x512x128 .f32
  h9 : a9.IsWhole
  a10 : Memref sig .tc .vmem S4x512x128 .f32
  h10 : a10.IsWhole
  a11 : Memref sig .tc .vmem S4x512x128 .f32
  h11 : a11.IsWhole
  a12 : Memref sig .tc .vmem S4x512x128 .f32
  h12 : a12.IsWhole
  a13 : Memref sig .tc .vmem S4x128x128 .f32
  h13 : a13.IsWhole

/-- What the seven inputs hold. -/
structure Ins (F : FTy → Type) [FloatOps F] (B : Bufs) where
  x1 : BufTy.Contents (Elt F) B.a1.view.ty
  x2 : BufTy.Contents (Elt F) B.a2.view.ty
  x3 : BufTy.Contents (Elt F) B.a3.view.ty
  x4 : BufTy.Contents (Elt F) B.a4.view.ty
  x5 : BufTy.Contents (Elt F) B.a5.view.ty
  x6 : BufTy.Contents (Elt F) B.a6.view.ty
  x7 : BufTy.Contents (Elt F) B.a7.view.ty

/-- Contents of the carried state's buffer, and of an output's. -/
abbrev C13 (F : FTy → Type) [FloatOps F] (B : Bufs) : Type := BufTy.Contents (Elt F) B.a13.view.ty
abbrev Pcs (F : FTy → Type) [FloatOps F] : Type := List (View.Piece (Elt F) S4x512x128 .f32)

/-- The inputs' buffers at their contents. -/
abbrev reads (c : Dev nD) (B : Bufs) (X : Ins F B) : sProp 𝕄 :=
  iprop((B.a1.view.loc (c : Thread nD τ) ↦[B.a1.view.set]{fullShare} X.x1) ∗ (B.a2.view.loc (c : Thread nD τ) ↦[B.a2.view.set]{fullShare} X.x2) ∗ (B.a3.view.loc (c : Thread nD τ) ↦[B.a3.view.set]{fullShare} X.x3) ∗ (B.a4.view.loc (c : Thread nD τ) ↦[B.a4.view.set]{fullShare} X.x4) ∗ (B.a5.view.loc (c : Thread nD τ) ↦[B.a5.view.set]{fullShare} X.x5) ∗ (B.a6.view.loc (c : Thread nD τ) ↦[B.a6.view.set]{fullShare} X.x6) ∗ (B.a7.view.loc (c : Thread nD τ) ↦[B.a7.view.set]{fullShare} X.x7))

/-- The outputs' buffers and the carried state's, at given contents. -/
abbrev holds (c : Dev nD) (B : Bufs) (f8 : BufTy.Contents (Elt F) B.a8.view.ty) (f9 : BufTy.Contents (Elt F) B.a9.view.ty) (f10 : BufTy.Contents (Elt F) B.a10.view.ty) (f11 : BufTy.Contents (Elt F) B.a11.view.ty) (f12 : BufTy.Contents (Elt F) B.a12.view.ty) (f13 : BufTy.Contents (Elt F) B.a13.view.ty) : sProp 𝕄 :=
  iprop((B.a8.view.loc (c : Thread nD τ) ↦[B.a8.view.set]{fullShare} f8) ∗ (B.a9.view.loc (c : Thread nD τ) ↦[B.a9.view.set]{fullShare} f9) ∗ (B.a10.view.loc (c : Thread nD τ) ↦[B.a10.view.set]{fullShare} f10) ∗ (B.a11.view.loc (c : Thread nD τ) ↦[B.a11.view.set]{fullShare} f11) ∗ (B.a12.view.loc (c : Thread nD τ) ↦[B.a12.view.set]{fullShare} f12) ∗ (B.a13.view.loc (c : Thread nD τ) ↦[B.a13.view.set]{fullShare} f13))

set_option maxHeartbeats 4000000 in
/-- One trip at any `k`: what it stores into each output and into the carried state, as functions of the carried
    state it finds, with the proof that it does. The stores are found by running the body. -/
@[irreducible] def trip (c : Dev nD) (i : grid0.Coords) (B : Bufs) (v6 : IVec S8x128 32) (X : Ins F B) (k : Fin k0_t1_loop.trips) :
    Σ' (L8 : C13 F B → Pcs F) (L9 : C13 F B → Pcs F) (L10 : C13 F B → Pcs F) (L11 : C13 F B → Pcs F) (L12 : C13 F B → Pcs F),
      { L13 : C13 F B → List (View.Piece (Elt F) S4x128x128 .f32) //
        ∀ (E : Set ℕ) (f8 : BufTy.Contents (Elt F) B.a8.view.ty) (f9 : BufTy.Contents (Elt F) B.a9.view.ty) (f10 : BufTy.Contents (Elt F) B.a10.view.ty) (f11 : BufTy.Contents (Elt F) B.a11.view.ty) (f12 : BufTy.Contents (Elt F) B.a12.view.ty) (f13 : BufTy.Contents (Elt F) B.a13.view.ty),
          iprop(reads c B X ∗ holds c B f8 f9 f10 f11 f12 f13)
            ⊢ wp frame (wpE (defs₀ (F := F)) Variants.none (c : Thread nD τ) none) E (k0_t1_body (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 v6 k PUnit.unit)
              (fun _ => iprop(reads c B X ∗ holds c B (B.a8.view.writes (Elt F) f8 (L8 f13)) (B.a9.view.writes (Elt F) f9 (L9 f13)) (B.a10.view.writes (Elt F) f10 (L10 f13)) (B.a11.view.writes (Elt F) f11 (L11 f13)) (B.a12.view.writes (Elt F) f12 (L12 f13)) (B.a13.view.writes (Elt F) f13 (L13 f13)))) } := by
  have hk : k.val < 8 := Nat.lt_of_lt_of_le k.isLt k0_t1_abs.2.1
  refine ⟨?_, ?_, ?_, ?_, ?_, ?_, fun E f8 f9 f10 f11 f12 f13 => ?run⟩
  case run =>
    unfold k0_t1_body
    iintro ⟨⟨HR1, HR2, HR3, HR4, HR5, HR6, HR7⟩, HW8, HW9, HW10, HW11, HW12, HW13⟩
    sl_exec
    sl_step
    sl_close

/-- The carried state before trip `k`, from its contents `G` at the loop's entry. -/
def carry (c : Dev nD) (i : grid0.Coords) (B : Bufs) (v6 : IVec S8x128 32) (X : Ins F B) (G : C13 F B) : ℕ → C13 F B
  | 0 => G
  | k + 1 => if h : k < k0_t1_loop.trips then
      B.a13.view.writes (Elt F) (carry c i B v6 X G k) ((trip c i B v6 X ⟨k, h⟩).2.2.2.2.2.1 (carry c i B v6 X G k))
    else carry c i B v6 X G k

theorem carry_succ (c : Dev nD) (i : grid0.Coords) (B : Bufs) (v6 : IVec S8x128 32) (X : Ins F B) (G : C13 F B) (k : Fin k0_t1_loop.trips) :
    carry c i B v6 X G (k.val + 1) = B.a13.view.writes (Elt F) (carry c i B v6 X G k.val)
      ((trip c i B v6 X k).2.2.2.2.2.1 (carry c i B v6 X G k.val)) :=
  dif_pos k.isLt

/-- The pieces stored before trip `k`, the last first, where trip `j` stores `L j` of the carried state it finds. -/
def pieces (T : Fin k0_t1_loop.trips → Pcs F) : ℕ → Pcs F
  | 0 => []
  | k + 1 => if h : k < k0_t1_loop.trips then T ⟨k, h⟩ ++ pieces T k else pieces T k

theorem pieces_succ (T : Fin k0_t1_loop.trips → Pcs F) (k : Fin k0_t1_loop.trips) :
    pieces T (k.val + 1) = T k ++ pieces T k.val :=
  dif_pos k.isLt

/-- What trip `k` stores into output 0. -/
def out8 (c : Dev nD) (i : grid0.Coords) (B : Bufs) (v6 : IVec S8x128 32) (X : Ins F B) (G : C13 F B) (k : Fin k0_t1_loop.trips) : Pcs F :=
  (trip c i B v6 X k).1 (carry c i B v6 X G k.val)

/-- What trip `k` stores into output 1. -/
def out9 (c : Dev nD) (i : grid0.Coords) (B : Bufs) (v6 : IVec S8x128 32) (X : Ins F B) (G : C13 F B) (k : Fin k0_t1_loop.trips) : Pcs F :=
  (trip c i B v6 X k).2.1 (carry c i B v6 X G k.val)

/-- What trip `k` stores into output 2. -/
def out10 (c : Dev nD) (i : grid0.Coords) (B : Bufs) (v6 : IVec S8x128 32) (X : Ins F B) (G : C13 F B) (k : Fin k0_t1_loop.trips) : Pcs F :=
  (trip c i B v6 X k).2.2.1 (carry c i B v6 X G k.val)

/-- What trip `k` stores into output 3. -/
def out11 (c : Dev nD) (i : grid0.Coords) (B : Bufs) (v6 : IVec S8x128 32) (X : Ins F B) (G : C13 F B) (k : Fin k0_t1_loop.trips) : Pcs F :=
  (trip c i B v6 X k).2.2.2.1 (carry c i B v6 X G k.val)

/-- What trip `k` stores into output 4. -/
def out12 (c : Dev nD) (i : grid0.Coords) (B : Bufs) (v6 : IVec S8x128 32) (X : Ins F B) (G : C13 F B) (k : Fin k0_t1_loop.trips) : Pcs F :=
  (trip c i B v6 X k).2.2.2.2.1 (carry c i B v6 X G k.val)

/-- Before trip `k`: the inputs as they were, each output at the pieces stored so far, and the carried state at `carry`. -/
abbrev inv (c : Dev nD) (i : grid0.Coords) (B : Bufs) (v6 : IVec S8x128 32) (X : Ins F B) (G : C13 F B)
    (g8 : BufTy.Contents (Elt F) B.a8.view.ty) (g9 : BufTy.Contents (Elt F) B.a9.view.ty) (g10 : BufTy.Contents (Elt F) B.a10.view.ty) (g11 : BufTy.Contents (Elt F) B.a11.view.ty) (g12 : BufTy.Contents (Elt F) B.a12.view.ty) (k : ℕ) (_u : PUnit) : sProp 𝕄 :=
  iprop((B.a1.view.loc (c : Thread nD τ) ↦[B.a1.view.set]{fullShare} X.x1) ∗ (B.a2.view.loc (c : Thread nD τ) ↦[B.a2.view.set]{fullShare} X.x2) ∗ (B.a3.view.loc (c : Thread nD τ) ↦[B.a3.view.set]{fullShare} X.x3) ∗ (B.a4.view.loc (c : Thread nD τ) ↦[B.a4.view.set]{fullShare} X.x4) ∗ (B.a5.view.loc (c : Thread nD τ) ↦[B.a5.view.set]{fullShare} X.x5) ∗ (B.a6.view.loc (c : Thread nD τ) ↦[B.a6.view.set]{fullShare} X.x6) ∗ (B.a7.view.loc (c : Thread nD τ) ↦[B.a7.view.set]{fullShare} X.x7) ∗ (∃ f, (B.a8.view.loc (c : Thread nD τ) ↦[B.a8.view.set]{fullShare} f) ∗ ⌜f = B.a8.view.writes (Elt F) g8 (pieces (out8 c i B v6 X G) k)⌝) ∗ (∃ f, (B.a9.view.loc (c : Thread nD τ) ↦[B.a9.view.set]{fullShare} f) ∗ ⌜f = B.a9.view.writes (Elt F) g9 (pieces (out9 c i B v6 X G) k)⌝) ∗ (∃ f, (B.a10.view.loc (c : Thread nD τ) ↦[B.a10.view.set]{fullShare} f) ∗ ⌜f = B.a10.view.writes (Elt F) g10 (pieces (out10 c i B v6 X G) k)⌝) ∗ (∃ f, (B.a11.view.loc (c : Thread nD τ) ↦[B.a11.view.set]{fullShare} f) ∗ ⌜f = B.a11.view.writes (Elt F) g11 (pieces (out11 c i B v6 X G) k)⌝) ∗ (∃ f, (B.a12.view.loc (c : Thread nD τ) ↦[B.a12.view.set]{fullShare} f) ∗ ⌜f = B.a12.view.writes (Elt F) g12 (pieces (out12 c i B v6 X G) k)⌝) ∗ (∃ f, (B.a13.view.loc (c : Thread nD τ) ↦[B.a13.view.set]{fullShare} f) ∗ ⌜f = carry c i B v6 X G k⌝))

theorem inv_step (c : Dev nD) (E : Set ℕ) (i : grid0.Coords) (B : Bufs) (v6 : IVec S8x128 32) (X : Ins F B) (G : C13 F B)
    (g8 : BufTy.Contents (Elt F) B.a8.view.ty) (g9 : BufTy.Contents (Elt F) B.a9.view.ty) (g10 : BufTy.Contents (Elt F) B.a10.view.ty) (g11 : BufTy.Contents (Elt F) B.a11.view.ty) (g12 : BufTy.Contents (Elt F) B.a12.view.ty) (k : Fin k0_t1_loop.trips) (acc : PUnit) :
    inv c i B v6 X G g8 g9 g10 g11 g12 k.val acc ⊢ wp frame (wpE (defs₀ (F := F)) Variants.none (c : Thread nD τ) none) E
      (k0_t1_body (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 v6 k acc) (fun a => inv c i B v6 X G g8 g9 g10 g11 g12 (k.val + 1) a) := by
  iintro ⟨HR1, HR2, HR3, HR4, HR5, HR6, HR7, ⟨%f8, HW8, %h8⟩, ⟨%f9, HW9, %h9⟩, ⟨%f10, HW10, %h10⟩, ⟨%f11, HW11, %h11⟩, ⟨%f12, HW12, %h12⟩, ⟨%f13, HW13, %h13⟩⟩
  iapply (wp_wand_r Idealize.ShloMosaic.frame (wpE (defs₀ (F := F)) Variants.none (c : Thread nD τ) none) E)
  isplitl [HR1 HR2 HR3 HR4 HR5 HR6 HR7 HW8 HW9 HW10 HW11 HW12 HW13]
  · iapply ((trip c i B v6 X k).2.2.2.2.2.2 E f8 f9 f10 f11 f12 f13)
    isplitl [HR1 HR2 HR3 HR4 HR5 HR6 HR7]
    · isplitl [HR1]; · iexact HR1
      isplitl [HR2]; · iexact HR2
      isplitl [HR3]; · iexact HR3
      isplitl [HR4]; · iexact HR4
      isplitl [HR5]; · iexact HR5
      isplitl [HR6]; · iexact HR6
      iexact HR7
    isplitl [HW8]; · iexact HW8
    isplitl [HW9]; · iexact HW9
    isplitl [HW10]; · iexact HW10
    isplitl [HW11]; · iexact HW11
    isplitl [HW12]; · iexact HW12
    iexact HW13
  · iintro %_ ⟨⟨HR1, HR2, HR3, HR4, HR5, HR6, HR7⟩, HW8, HW9, HW10, HW11, HW12, HW13⟩
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HW8]
    · iexists _; isplitl [HW8]; · iexact HW8
      ipureintro; rw [h8, h13, pieces_succ, View.writes_append]; rfl
    isplitl [HW9]
    · iexists _; isplitl [HW9]; · iexact HW9
      ipureintro; rw [h9, h13, pieces_succ, View.writes_append]; rfl
    isplitl [HW10]
    · iexists _; isplitl [HW10]; · iexact HW10
      ipureintro; rw [h10, h13, pieces_succ, View.writes_append]; rfl
    isplitl [HW11]
    · iexists _; isplitl [HW11]; · iexact HW11
      ipureintro; rw [h11, h13, pieces_succ, View.writes_append]; rfl
    isplitl [HW12]
    · iexists _; isplitl [HW12]; · iexact HW12
      ipureintro; rw [h12, h13, pieces_succ, View.writes_append]; rfl
    iexists _; isplitl [HW13]; · iexact HW13
    ipureintro; rw [h13, carry_succ]

set_option warn.classDefReducibility false in
/-- The loop by its invariant. -/
@[sl_loop] def loopInv (c : Dev nD) (E : Set ℕ) (i : grid0.Coords) (arg1 : Memref sig .tc .vmem S4x512x128 .f32) (harg1 : arg1.IsWhole) (arg2 : Memref sig .tc .vmem S4x8x192x64 .bf16) (harg2 : arg2.IsWhole) (arg3 : Memref sig .tc .vmem S4x512x128 .bf16) (harg3 : arg3.IsWhole) (arg4 : Memref sig .tc .vmem S4x8x128x64 .bf16) (harg4 : arg4.IsWhole) (arg5 : Memref sig .tc .vmem S8x4x128x128 .bf16) (harg5 : arg5.IsWhole) (arg6 : Memref sig .tc .vmem S4x512x128 .bf16) (harg6 : arg6.IsWhole) (arg7 : Memref sig .tc .vmem S8x512 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S4x128x128 .f32) (harg13 : arg13.IsWhole) (v6 : IVec S8x128 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G : BufTy.Contents (Elt F) arg13.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v6 where
  inv := inv c i ⟨arg1, harg1, arg2, harg2, arg3, harg3, arg4, harg4, arg5, harg5, arg6, harg6, arg7, harg7, arg8, harg8, arg9, harg9, arg10, harg10, arg11, harg11, arg12, harg12, arg13, harg13⟩ v6 ⟨X1, X2, X3, X4, X5, X6, X7⟩ G g8 g9 g10 g11 g12
  step k acc := inv_step c E i ⟨arg1, harg1, arg2, harg2, arg3, harg3, arg4, harg4, arg5, harg5, arg6, harg6, arg7, harg7, arg8, harg8, arg9, harg9, arg10, harg10, arg11, harg11, arg12, harg12, arg13, harg13⟩ v6 ⟨X1, X2, X3, X4, X5, X6, X7⟩ G g8 g9 g10 g11 g12 k acc

end Cert.Scan

end
-- ==== Proof.Scan.Run.lean ====
module

public import proofs.«01_k».proof.Proof.Scan.Loop

/-! One grid point of the scan's backward kernel, and the launch. The state's gradient before point `n` is
`stateAt n`: zero before the first point, then what the point before left. Every output block is written whole by
each point. -/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven input blocks. -/
structure Vals (F : FTy → Type) [FloatOps F] where
  x1 : Vec F S4x512x128 .f32
  x2 : Vec F S4x8x192x64 .bf16
  x3 : Vec F S4x512x128 .bf16
  x4 : Vec F S4x8x128x64 .bf16
  x5 : Vec F S8x4x128x128 .bf16
  x6 : Vec F S4x512x128 .bf16
  x7 : Vec F S8x512 .f32

/-- The inputs' buffers holding those blocks. -/
def Vals.ins (x : Vals F) (B : Bufs) : Ins F B := ⟨B.h1.unread x.x1, B.h2.unread x.x2, B.h3.unread x.x3, B.h4.unread x.x4, B.h5.unread x.x5, B.h6.unread x.x6, B.h7.unread x.x7⟩

/-- The sublane index of the decay block, as the body computes it. -/
abbrev lanes : IVec S8x128 32 := iota .tc S8x128 32 [0] iota_S8x128_d0_w32

/-- The state's gradient after the point, from that before it. -/
def next (c : Dev nD) (i : grid0.Coords) (B : Bufs) (x : Vals F) (s : Vec F S4x128x128 .f32) : Vec F S4x128x128 .f32 :=
  B.a13.view.read (Elt F) (carry c i B lanes (x.ins B) (B.h13.unread s) k0_t1_loop.trips)

/-- The block the point leaves in output 0. -/
def res8 (c : Dev nD) (i : grid0.Coords) (B : Bufs) (x : Vals F) (s : Vec F S4x128x128 .f32) : Vec F S4x512x128 .f32 :=
  B.a8.view.read (Elt F) (B.a8.view.writes (Elt F) B.a8.view.junk (pieces (out8 c i B lanes (x.ins B) (B.h13.unread s)) k0_t1_loop.trips))

theorem cover8 (c : Dev nD) (i : grid0.Coords) (B : Bufs) (x : Vals F) (s : Vec F S4x128x128 .f32) (y : S4x512x128.Idx) :
    ∃ p ∈ pieces (out8 c i B lanes (x.ins B) (B.h13.unread s)) k0_t1_loop.trips, y ∈ p.1.set :=
  View.cover_of_tiledL (pieces (out8 c i B lanes (x.ins B) (B.h13.unread s)) k0_t1_loop.trips) S1x64x128.size (by sl_kernel_rfl) y

/-- The block the point leaves in output 1. -/
def res9 (c : Dev nD) (i : grid0.Coords) (B : Bufs) (x : Vals F) (s : Vec F S4x128x128 .f32) : Vec F S4x512x128 .f32 :=
  B.a9.view.read (Elt F) (B.a9.view.writes (Elt F) B.a9.view.junk (pieces (out9 c i B lanes (x.ins B) (B.h13.unread s)) k0_t1_loop.trips))

theorem cover9 (c : Dev nD) (i : grid0.Coords) (B : Bufs) (x : Vals F) (s : Vec F S4x128x128 .f32) (y : S4x512x128.Idx) :
    ∃ p ∈ pieces (out9 c i B lanes (x.ins B) (B.h13.unread s)) k0_t1_loop.trips, y ∈ p.1.set :=
  View.cover_of_tiledL (pieces (out9 c i B lanes (x.ins B) (B.h13.unread s)) k0_t1_loop.trips) S1x64x128.size (by sl_kernel_rfl) y

/-- The block the point leaves in output 2. -/
def res10 (c : Dev nD) (i : grid0.Coords) (B : Bufs) (x : Vals F) (s : Vec F S4x128x128 .f32) : Vec F S4x512x128 .f32 :=
  B.a10.view.read (Elt F) (B.a10.view.writes (Elt F) B.a10.view.junk (pieces (out10 c i B lanes (x.ins B) (B.h13.unread s)) k0_t1_loop.trips))

theorem cover10 (c : Dev nD) (i : grid0.Coords) (B : Bufs) (x : Vals F) (s : Vec F S4x128x128 .f32) (y : S4x512x128.Idx) :
    ∃ p ∈ pieces (out10 c i B lanes (x.ins B) (B.h13.unread s)) k0_t1_loop.trips, y ∈ p.1.set :=
  View.cover_of_tiledL (pieces (out10 c i B lanes (x.ins B) (B.h13.unread s)) k0_t1_loop.trips) S1x64x128.size (by sl_kernel_rfl) y

/-- The block the point leaves in output 3. -/
def res11 (c : Dev nD) (i : grid0.Coords) (B : Bufs) (x : Vals F) (s : Vec F S4x128x128 .f32) : Vec F S4x512x128 .f32 :=
  B.a11.view.read (Elt F) (B.a11.view.writes (Elt F) B.a11.view.junk (pieces (out11 c i B lanes (x.ins B) (B.h13.unread s)) k0_t1_loop.trips))

theorem cover11 (c : Dev nD) (i : grid0.Coords) (B : Bufs) (x : Vals F) (s : Vec F S4x128x128 .f32) (y : S4x512x128.Idx) :
    ∃ p ∈ pieces (out11 c i B lanes (x.ins B) (B.h13.unread s)) k0_t1_loop.trips, y ∈ p.1.set :=
  View.cover_of_tiledL (pieces (out11 c i B lanes (x.ins B) (B.h13.unread s)) k0_t1_loop.trips) S1x64x128.size (by sl_kernel_rfl) y

/-- The block the point leaves in output 4. -/
def res12 (c : Dev nD) (i : grid0.Coords) (B : Bufs) (x : Vals F) (s : Vec F S4x128x128 .f32) : Vec F S4x512x128 .f32 :=
  B.a12.view.read (Elt F) (B.a12.view.writes (Elt F) B.a12.view.junk (pieces (out12 c i B lanes (x.ins B) (B.h13.unread s)) k0_t1_loop.trips))

theorem cover12 (c : Dev nD) (i : grid0.Coords) (B : Bufs) (x : Vals F) (s : Vec F S4x128x128 .f32) (y : S4x512x128.Idx) :
    ∃ p ∈ pieces (out12 c i B lanes (x.ins B) (B.h13.unread s)) k0_t1_loop.trips, y ∈ p.1.set :=
  View.cover_of_tiledL (pieces (out12 c i B lanes (x.ins B) (B.h13.unread s)) k0_t1_loop.trips) S1x64x128.size (by sl_kernel_rfl) y

/-- The buffers before the point: the inputs' at their blocks and the outputs' at anything. -/
abbrev before (c : Dev nD) (B : Bufs) (x : Vals F) : sProp 𝕄 :=
  iprop(owns (c : Thread nD τ) B.a1 fullShare x.x1 ∗ owns (c : Thread nD τ) B.a2 fullShare x.x2 ∗ owns (c : Thread nD τ) B.a3 fullShare x.x3 ∗ owns (c : Thread nD τ) B.a4 fullShare x.x4 ∗ owns (c : Thread nD τ) B.a5 fullShare x.x5 ∗ owns (c : Thread nD τ) B.a6 fullShare x.x6 ∗ owns (c : Thread nD τ) B.a7 fullShare x.x7 ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d) ∗ (∃ d, owns (c : Thread nD τ) B.a12 fullShare d))

/-- The buffers after the point, the state's included. -/
abbrev later (c : Dev nD) (i : grid0.Coords) (B : Bufs) (x : Vals F) (s : Vec F S4x128x128 .f32) : sProp 𝕄 :=
  iprop(owns (c : Thread nD τ) B.a1 fullShare x.x1 ∗ owns (c : Thread nD τ) B.a2 fullShare x.x2 ∗ owns (c : Thread nD τ) B.a3 fullShare x.x3 ∗ owns (c : Thread nD τ) B.a4 fullShare x.x4 ∗ owns (c : Thread nD τ) B.a5 fullShare x.x5 ∗ owns (c : Thread nD τ) B.a6 fullShare x.x6 ∗ owns (c : Thread nD τ) B.a7 fullShare x.x7 ∗ owns (c : Thread nD τ) B.a8 fullShare (res8 c i B x s) ∗ owns (c : Thread nD τ) B.a9 fullShare (res9 c i B x s) ∗ owns (c : Thread nD τ) B.a10 fullShare (res10 c i B x s) ∗ owns (c : Thread nD τ) B.a11 fullShare (res11 c i B x s) ∗ owns (c : Thread nD τ) B.a12 fullShare (res12 c i B x s) ∗ owns (c : Thread nD τ) B.a13 fullShare (next c i B x s))

/-- A store of the whole state leaves what was stored. -/
theorem stored (B : Bufs) (f : C13 F B) (w : Vec F S4x128x128 .f32) :
    B.a13.view.writes (Elt F) f [⟨Rect.unit (s := S4x128x128) ![0, 0, 0] S4x128x128.size inb_S4x128x128_S4x128x128_0_0_0, w⟩]
      = B.h13.unread w := by
  refine B.h13.eq_unread (funext fun y => ?_)
  refine View.read_writes_cons_hit_of_coords B.a13.view f (Rect.unit (s := S4x128x128) ![0, 0, 0] S4x128x128.size inb_S4x128x128_S4x128x128_0_0_0) w [] y y fun a => ?_
  have h0 : (![0, 0, 0] : Fin 3 → ℕ) a = 0 := congrFun (by decide : (![0, 0, 0] : Fin 3 → ℕ) = fun _ => 0) a
  exact ((congrArg (· + 1 * (y a).val) h0).trans ((Nat.zero_add _).trans (Nat.one_mul _))).symm

set_option maxHeartbeats 4000000 in
/-- The body at the first point, which zeroes the state. -/
theorem run_first (c : Dev nD) (i : grid0.Coords) (B : Bufs) (hc : (Scalar.cmpi .ne (Scalar.extui (Scalar.cmpi .eq (BitVec.ofNat 32 (i 0).val) 0#32)) 0#32) = 1#1) (x : Vals F) (E : Set ℕ) (K : PUnit → sProp 𝕄) :
    iprop(owns (c : Thread nD τ) B.a1 fullShare x.x1 ∗ owns (c : Thread nD τ) B.a2 fullShare x.x2 ∗ owns (c : Thread nD τ) B.a3 fullShare x.x3 ∗ owns (c : Thread nD τ) B.a4 fullShare x.x4 ∗ owns (c : Thread nD τ) B.a5 fullShare x.x5 ∗ owns (c : Thread nD τ) B.a6 fullShare x.x6 ∗ owns (c : Thread nD τ) B.a7 fullShare x.x7 ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d) ∗ (∃ d, owns (c : Thread nD τ) B.a12 fullShare d) ∗ (∃ d, owns (c : Thread nD τ) B.a13 fullShare d) ∗ (later c i B x k0_pay1 -∗ K ⟨⟩))
      ⊢ wp frame (wpE (defs₀ (F := F)) Variants.none (c : Thread nD τ) none) E (cc0_dn_scan_bwd i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13) K := by
    simp only [cc0_dn_scan_bwd_eq_skeleton]; unfold cc0_dn_scan_bwd_skel
    unfold later owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := B.h1.eq_unread hf1; obtain rfl := B.h2.eq_unread hf2; obtain rfl := B.h3.eq_unread hf3; obtain rfl := B.h4.eq_unread hf4; obtain rfl := B.h5.eq_unread hf5; obtain rfl := B.h6.eq_unread hf6; obtain rfl := B.h7.eq_unread hf7
    sl_exec (disch := first | sl_exact hc)
    sl_step
    rw [View.writes_nil, ← View.writes_singleton, stored]
    iapply Hk
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; swap; · iexact H8
      ipureintro; exact View.read_writes_of_cover _ _ _ _ _ (cover8 c i B x k0_pay1)
    isplitl [H9]
    · iexists _; isplitr; swap; · iexact H9
      ipureintro; exact View.read_writes_of_cover _ _ _ _ _ (cover9 c i B x k0_pay1)
    isplitl [H10]
    · iexists _; isplitr; swap; · iexact H10
      ipureintro; exact View.read_writes_of_cover _ _ _ _ _ (cover10 c i B x k0_pay1)
    isplitl [H11]
    · iexists _; isplitr; swap; · iexact H11
      ipureintro; exact View.read_writes_of_cover _ _ _ _ _ (cover11 c i B x k0_pay1)
    isplitl [H12]
    · iexists _; isplitr; swap; · iexact H12
      ipureintro; exact View.read_writes_of_cover _ _ _ _ _ (cover12 c i B x k0_pay1)
    iexists _; isplitr; swap; · iexact H13
    ipureintro; rfl

set_option maxHeartbeats 4000000 in
/-- The body at a later point. -/
theorem run_next (c : Dev nD) (i : grid0.Coords) (B : Bufs) (hc : ¬(Scalar.cmpi .ne (Scalar.extui (Scalar.cmpi .eq (BitVec.ofNat 32 (i 0).val) 0#32)) 0#32) = 1#1) (x : Vals F) (s : Vec F S4x128x128 .f32) (E : Set ℕ) (K : PUnit → sProp 𝕄) :
    iprop(owns (c : Thread nD τ) B.a1 fullShare x.x1 ∗ owns (c : Thread nD τ) B.a2 fullShare x.x2 ∗ owns (c : Thread nD τ) B.a3 fullShare x.x3 ∗ owns (c : Thread nD τ) B.a4 fullShare x.x4 ∗ owns (c : Thread nD τ) B.a5 fullShare x.x5 ∗ owns (c : Thread nD τ) B.a6 fullShare x.x6 ∗ owns (c : Thread nD τ) B.a7 fullShare x.x7 ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d) ∗ (∃ d, owns (c : Thread nD τ) B.a12 fullShare d) ∗ owns (c : Thread nD τ) B.a13 fullShare s ∗ (later c i B x s -∗ K ⟨⟩))
      ⊢ wp frame (wpE (defs₀ (F := F)) Variants.none (c : Thread nD τ) none) E (cc0_dn_scan_bwd i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13) K := by
    simp only [cc0_dn_scan_bwd_eq_skeleton]; unfold cc0_dn_scan_bwd_skel
    unfold later owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
    obtain rfl := B.h1.eq_unread hf1; obtain rfl := B.h2.eq_unread hf2; obtain rfl := B.h3.eq_unread hf3; obtain rfl := B.h4.eq_unread hf4; obtain rfl := B.h5.eq_unread hf5; obtain rfl := B.h6.eq_unread hf6; obtain rfl := B.h7.eq_unread hf7; obtain rfl := B.h13.eq_unread hf13
    sl_exec (disch := first | sl_exact hc)
    sl_step
    iapply Hk
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; swap; · iexact H8
      ipureintro; exact View.read_writes_of_cover _ _ _ _ _ (cover8 c i B x s)
    isplitl [H9]
    · iexists _; isplitr; swap; · iexact H9
      ipureintro; exact View.read_writes_of_cover _ _ _ _ _ (cover9 c i B x s)
    isplitl [H10]
    · iexists _; isplitr; swap; · iexact H10
      ipureintro; exact View.read_writes_of_cover _ _ _ _ _ (cover10 c i B x s)
    isplitl [H11]
    · iexists _; isplitr; swap; · iexact H11
      ipureintro; exact View.read_writes_of_cover _ _ _ _ _ (cover11 c i B x s)
    isplitl [H12]
    · iexists _; isplitr; swap; · iexact H12
      ipureintro; exact View.read_writes_of_cover _ _ _ _ _ (cover12 c i B x s)
    iexists _; isplitr; swap; · iexact H13
    ipureintro; rfl

end Cert.Scan

end
-- ==== Proof.Scan.Launch.lean ====
module

public import proofs.«01_k».proof.Proof.Scan.Run
public import Idealize.ShloMosaic.Lib.Claim

/-! The launch of the scan's backward kernel over its 32 grid points. The state's gradient before point `n` is
`stateAt n`: zero before the first point, then what the point before left in the scratch. Every point leaves each
input's block in place and each output's block at the point's result. -/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that carries the state's gradient. -/
abbrev scratch : Memref sig .tc .vmem S4x128x128 .f32 := Memref.whole cc0_scratch0

/-- The memrefs the body is called with at point `t`. -/
abbrev bufs (t : Fin cfg0.N) : Bufs :=
  ⟨win0_0.stage (cfg0.slots t 0), hstage0_0 ((cfg0.slots t 0).cast nbuf0_0),
   win0_1.stage (cfg0.slots t 1), hstage0_1 ((cfg0.slots t 1).cast nbuf0_1),
   win0_2.stage (cfg0.slots t 2), hstage0_2 ((cfg0.slots t 2).cast nbuf0_2),
   win0_3.stage (cfg0.slots t 3), hstage0_3 ((cfg0.slots t 3).cast nbuf0_3),
   win0_4.stage (cfg0.slots t 4), hstage0_4 ((cfg0.slots t 4).cast nbuf0_4),
   win0_5.stage (cfg0.slots t 5), hstage0_5 ((cfg0.slots t 5).cast nbuf0_5),
   win0_6.stage (cfg0.slots t 6), hstage0_6 ((cfg0.slots t 6).cast nbuf0_6),
   win0_7.stage (cfg0.slots t 7), hstage0_7 ((cfg0.slots t 7).cast nbuf0_7),
   win0_8.stage (cfg0.slots t 8), hstage0_8 ((cfg0.slots t 8).cast nbuf0_8),
   win0_9.stage (cfg0.slots t 9), hstage0_9 ((cfg0.slots t 9).cast nbuf0_9),
   win0_10.stage (cfg0.slots t 10), hstage0_10 ((cfg0.slots t 10).cast nbuf0_10),
   win0_11.stage (cfg0.slots t 11), hstage0_11 ((cfg0.slots t 11).cast nbuf0_11),
   scratch, Memref.isWhole_whole _⟩

/-- The input blocks at point `t`. -/
abbrev blocks (c : Dev nD) (t : Fin cfg0.N) : Vals F := ⟨iblk m c 0 t, iblk m c 1 t, iblk m c 2 t, iblk m c 3 t, iblk m c 4 t, iblk m c 5 t, iblk m c 6 t⟩

/-- The state's gradient before position `n`. -/
def stateAt (c : Dev nD) : (n : ℕ) → n ≤ cfg0.N → Vec F S4x128x128 .f32
  | 0, _ => k0_pay1
  | n + 1, hn => next c (grid0.coords ⟨n, hn⟩) (bufs ⟨n, hn⟩) (blocks m c ⟨n, hn⟩) (stateAt c n (Nat.le_of_lt hn))

theorem stateAt_zero (c : Dev nD) (n : ℕ) (h : n ≤ cfg0.N) (hz : n = 0) : stateAt m c n h = k0_pay1 := by
  subst hz; rfl

/-- Before the first point the scratch holds anything; afterwards the state's gradient. -/
def PhiS (c : Dev nD) : (n : ℕ) → n ≤ cfg0.N → sProp 𝕄
  | 0, _ => Pipeline.ΦA spec0 c
  | n + 1, hn => iprop(owns (c : Thread nD τ) scratch fullShare (stateAt m c (n + 1) hn) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scratch fullShare (stateAt m c n h) ∗ (∃ r, prngReg c r)) := by
  cases n with
  | zero => exact absurd rfl hz
  | succ n => rfl

/-- The launch's invariant with the scratch as a memref owned at some contents. -/
theorem PhiA_scratch (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The launch's proof data: the arrays as the region finds them, each input's buffer at its block after a point, and
each output's at the point's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => res8 c (grid0.coords t) (bufs t) (blocks m c t) (stateAt m c t.val (Nat.le_of_lt t.isLt))
    | ⟨8, _⟩ => res9 c (grid0.coords t) (bufs t) (blocks m c t) (stateAt m c t.val (Nat.le_of_lt t.isLt))
    | ⟨9, _⟩ => res10 c (grid0.coords t) (bufs t) (blocks m c t) (stateAt m c t.val (Nat.le_of_lt t.isLt))
    | ⟨10, _⟩ => res11 c (grid0.coords t) (bufs t) (blocks m c t) (stateAt m c t.val (Nat.le_of_lt t.isLt))
    | ⟨11, _⟩ => res12 c (grid0.coords t) (bufs t) (blocks m c t) (stateAt m c t.val (Nat.le_of_lt t.isLt))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = res8 c (grid0.coords t) (bufs t) (blocks m c t) (stateAt m c t.val (Nat.le_of_lt t.isLt)) := by dsimp only [dats]
theorem after8 (c : Dev nD) (t : Fin cfg0.N) : (dats m 0 c).after 8 t = res9 c (grid0.coords t) (bufs t) (blocks m c t) (stateAt m c t.val (Nat.le_of_lt t.isLt)) := by dsimp only [dats]
theorem after9 (c : Dev nD) (t : Fin cfg0.N) : (dats m 0 c).after 9 t = res10 c (grid0.coords t) (bufs t) (blocks m c t) (stateAt m c t.val (Nat.le_of_lt t.isLt)) := by dsimp only [dats]
theorem after10 (c : Dev nD) (t : Fin cfg0.N) : (dats m 0 c).after 10 t = res11 c (grid0.coords t) (bufs t) (blocks m c t) (stateAt m c t.val (Nat.le_of_lt t.isLt)) := by dsimp only [dats]
theorem after11 (c : Dev nD) (t : Fin cfg0.N) : (dats m 0 c).after 11 t = res12 c (grid0.coords t) (bufs t) (blocks m c t) (stateAt m c t.val (Nat.le_of_lt t.isLt)) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body zeroes the state at the first point only. -/
theorem first_iff : ∀ t : Fin cfg0.N, (Scalar.cmpi .ne (Scalar.extui (Scalar.cmpi .eq (BitVec.ofNat 32 ((grid0.coords t) 0).val) 0#32)) 0#32) = 1#1 ↔ t.val = 0 :=
  (by decide +kernel : ∀ t : Fin grid0.N, (Scalar.cmpi .ne (Scalar.extui (Scalar.cmpi .eq (BitVec.ofNat 32 ((grid0.coords t) 0).val) 0#32)) 0#32) = 1#1 ↔ t.val = 0)

set_option maxHeartbeats 6400000 in
/-- The body at any point: the first zeroes the scratch, a later one finds there what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8, after9, after10, after11]
  rw [show (dats m 0 c).Φ t.succ = PhiS m c (t.val + 1) t.isLt from rfl, PhiS_pos m c (t.val + 1) _ (Nat.succ_ne_zero _)]
  rw [show stateAt m c (t.val + 1) t.isLt = next c (grid0.coords t) (bufs t) (blocks m c t) (stateAt m c t.val (Nat.le_of_lt t.isLt)) from rfl]
  by_cases hz : t.val = 0
  · rw [Phi_castSucc m c t, PhiS_zero m c _ _ hz, PhiA_scratch, stateAt_zero m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) (bufs t) ((first_iff t).mpr hz) (blocks m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Phi_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_next c (grid0.coords t) (bufs t) (fun h => hz ((first_iff t).mp h)) (blocks m c t) (stateAt m c t.val (Nat.le_of_lt t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body there. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 32 := N_0; omega), PhiA_scratch]
  iintro ⟨HS, Hg⟩
  isplitl [HS]
  · iexists _; iexact HS
  iexact Hg

set_option backward.isDefEq.respectTransparency.types false in
/-- Every execution ends, with each array at what the points left there and every counter at zero. -/
theorem launched : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Scan

end
-- ==== Proof.Ffn.Body.lean ====
module

public import proofs.«01_k».proof.Proof.Gen.Kernel2Ideal.Frame.Runs
public import Idealize.ShloMosaic.Lib.Ring
public import Idealize.ShloMosaic.Lib.WholeRead
public import Idealize.ShloMosaic.Lib.ValueIdxCore

/-! One grid point of the fused forward and backward pass of the gated feed-forward block. What a point leaves in
each output block is a function of its 256 rows of the two activations, the norm's gain and the three weights, which
the first point copies into three scratch buffers that keep them for the later points. -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The buffers of one point: two blocks of rows, the gain, eight outputs and the three weights. -/
structure Bufs where
  a1 : Memref sig .tc .vmem S256x1024 .f32
  h1 : a1.IsWhole
  a2 : Memref sig .tc .vmem S256x1024 .f32
  h2 : a2.IsWhole
  a4 : Memref sig .tc .vmem S1x1024 .f32
  h4 : a4.IsWhole
  a5 : Memref sig .tc .vmem S256x1024 .f32
  h5 : a5.IsWhole
  a6 : Memref sig .tc .vmem S256x1024 .bf16
  h6 : a6.IsWhole
  a7 : Memref sig .tc .vmem S256x1024 .bf16
  h7 : a7.IsWhole
  a8 : Memref sig .tc .vmem S256x2816 .bf16
  h8 : a8.IsWhole
  a9 : Memref sig .tc .vmem S256x5632 .bf16
  h9 : a9.IsWhole
  a10 : Memref sig .tc .vmem S256x1024 .bf16
  h10 : a10.IsWhole
  a11 : Memref sig .tc .vmem S1x1024 .f32
  h11 : a11.IsWhole
  a12 : Memref sig .tc .vmem S1x1024 .f32
  h12 : a12.IsWhole
  a13 : Memref sig .tc .vmem S2816x1024 .bf16
  h13 : a13.IsWhole
  a14 : Memref sig .tc .vmem S2816x1024 .bf16
  h14 : a14.IsWhole
  a15 : Memref sig .tc .vmem S2816x1024 .bf16
  h15 : a15.IsWhole

/-- The contents a point reads: its rows of the residual stream and of the target, the gain, and the weights. -/
structure Vals (F : FTy → Type) [FloatOps F] where
  x : Vec F S256x1024 .f32
  t : Vec F S256x1024 .f32
  g : Vec F S1x1024 .f32

/-- The three weights, row by row of the hidden features. -/
structure Weights (F : FTy → Type) [FloatOps F] where
  wg : Vec F S2816x1024 .bf16
  wu : Vec F S2816x1024 .bf16
  wd : Vec F S2816x1024 .bf16

variable (v : Vals F) (w : Weights F)

abbrev gate : FVec F S256x2816 .f32 := k0_pay10 v.x v.g w.wg
abbrev up : FVec F S256x2816 .f32 := k0_pay11 v.x v.g w.wu
abbrev sig' : FVec F S256x2816 .f32 := k0_pay12 v.x v.g w.wg
abbrev silu : FVec F S256x2816 .f32 := k0_pay13 v.x v.g w.wg
abbrev act : FVec F S256x2816 .bf16 := k0_pay14 v.x v.g w.wg w.wu
abbrev dy : FVec F S256x1024 .f32 := k0_pay17 v.x (act v w) w.wd v.t
abbrev dyb : FVec F S256x1024 .bf16 := k0_pay18 v.x (act v w) w.wd v.t
abbrev dgate : FVec F S256x2816 .bf16 := k0_pay20 v.x (gate v w) (up v w) (sig' v w) (act v w) w.wd v.t w.wd
abbrev dup : FVec F S256x2816 .bf16 := k0_pay21 v.x (silu v w) (act v w) w.wd v.t w.wd
abbrev lossAfter (l : Vec F S1x1024 .f32) : FVec F S1x1024 .f32 := k0_pay16 v.x (act v w) w.wd v.t l
abbrev gainAfter (d : Vec F S1x1024 .f32) : FVec F S1x1024 .f32 := k0_pay2 (k0_pay8 v.x) (dgate v w) (dup v w) w.wg w.wu d
abbrev dx : FVec F S256x1024 .f32 := k0_pay3 (k0_pay7 v.x) (k0_pay8 v.x) v.g (dy v w) (dgate v w) (dup v w) w.wg w.wu
abbrev dxb : FVec F S256x1024 .bf16 := k0_pay4 (k0_pay7 v.x) (k0_pay8 v.x) v.g (dy v w) (dgate v w) (dup v w) w.wg w.wu

/-- The two gradients of the hidden features, side by side. -/
abbrev sides : List (View.Piece (Elt F) S256x5632 .bf16) :=
  [⟨Rect.unit (s := S256x5632) ![0, 2816] S256x2816.size inb_S256x5632_S256x2816_0_2816, dup v w⟩,
   ⟨Rect.unit (s := S256x5632) ![0, 0] S256x2816.size inb_S256x5632_S256x2816_0_0, dgate v w⟩]

def both : Vec F S256x5632 .bf16 := VO0_7.read (Elt F) (VO0_7.writes (Elt F) VO0_7.junk (sides v w))

theorem sides_cover (y : S256x5632.Idx) : ∃ p ∈ sides v w, y ∈ p.1.set :=
  View.cover_of_tiledL (sides v w) S256x2816.size (by sl_kernel_rfl) y

/-- A store of a whole block is what the block then holds. -/
theorem read_stored {κ : Kind} {sp : Space} {s : Shape} {e : EltTy} (u : View sig κ sp s e) (f : u.ty.Contents (Elt F))
    (off : Fin s.rank → ℕ) (hin : ∀ a, off a + s.size a ≤ s.size a) (hz : ∀ a, off a = 0) (d : s.Idx → Elt F e) (L : List (View.Piece (Elt F) s e)) :
    u.read (Elt F) (u.writes (Elt F) f (⟨Rect.unit (s := s) off s.size hin, d⟩ :: L)) = d := by
  funext y
  exact View.read_writes_cons_hit_of_coords u f (Rect.unit (s := s) off s.size hin) d L y y fun a =>
    ((congrArg (· + 1 * (y a).val) (hz a)).trans ((Nat.zero_add _).trans (Nat.one_mul _))).symm

/-- The weights the first point gathers: 352 hidden features of each of the eight shares, one share after another. -/
def share (k : Fin 3) (y : S2816x1024.Idx) : S8x1184x1024.Idx :=
  ix3 ⟨(y 0).val / 352, (Nat.div_lt_iff_lt_mul (by decide)).2 (y 0).isLt⟩
    ⟨128 + 352 * k.val + (y 0).val % 352, by have := Nat.mod_lt (y 0).val (show 0 < 352 by decide); have := k.isLt; omega⟩ (y 1)

def gathered {c : Dev nD} (fh : HbBuf0 (F := F) c hbM0_0) : Weights F where
  wg := fun y => hbM0_0.view.read (Elt F) fh (share 0 y)
  wu := fun y => hbM0_0.view.read (Elt F) fh (share 1 y)
  wd := fun y => hbM0_0.view.read (Elt F) fh (share 2 y)

/-- One copy carries the rows of one share to their place: a payload's row is the gathered weight's. -/
theorem copied {c : Dev nD} (fh : HbBuf0 (F := F) c hbM0_0) (k : Fin 3) (n o r : ℕ)
    (hin : ∀ a, (![n, o, 0] : Fin 3 → ℕ) a + S1x352x1024.size a ≤ S8x1184x1024.size a) (hr : r = 352 * n) (ho : o = 128 + 352 * k.val) (hs hq)
    (hin' : ∀ a, (![r, 0] : Fin 2 → ℕ) a + S352x1024.size a ≤ S2816x1024.size a) (x : S352x1024.Idx) :
    View.read (Elt F) (((Memref.whole main_v7).slice (Rect.unit (s := S8x1184x1024) ![n, o, 0] S1x352x1024.size hin) hs).squeeze S352x1024 hq).view fh x
      = hbM0_0.view.read (Elt F) fh (share k ((Rect.unit (s := S2816x1024) ![r, 0] S352x1024.size hin').emb x)) := by
  show hbM0_0.view.read (Elt F) fh ((Rect.unit (s := S8x1184x1024) ![n, o, 0] S1x352x1024.size hin).emb (Shape.reshapeEquiv hq.numel_eq x)) = _
  refine congrArg (hbM0_0.view.read (Elt F) fh) (funext fun a => Fin.ext ?_)
  rw [show Shape.reshapeEquiv hq.numel_eq x = ix3 (n0 := 1) (n1 := 352) (n2 := 1024) 0 (x 0) (x 1) from
    (Shape.reshapeEquiv_cons_one hq.numel_eq x).trans (funext fun a => match a with | ⟨0, _⟩ => rfl | ⟨1, _⟩ => rfl | ⟨2, _⟩ => rfl)]
  have hx : (x 0).val < 352 := (x 0).isLt
  match a with
  | ⟨0, _⟩ => show n + 1 * 0 = (r + 1 * (x 0).val) / 352; omega
  | ⟨1, _⟩ => show o + 1 * (x 0).val = 128 + 352 * k.val + (r + 1 * (x 0).val) % 352; omega
  | ⟨2, _⟩ => show 0 + 1 * (x 1).val = 0 + 1 * (x 1).val; rfl

/-- A load of a whole block from what covers it reads what the stores left. -/
theorem covered {κ : Kind} {sp : Space} {s : Shape} {e : EltTy} (u : View sig κ sp s e) (L : List (View.Piece (Elt F) s e)) (G : s.Idx → Elt F e)
    (h : ∀ f, u.read (Elt F) (u.writes (Elt F) f L) = G) (off : Fin s.rank → ℕ) (hin : ∀ a, off a + s.size a ≤ s.size a) (hz : ∀ a, off a = 0) :
    u.readCov L (Rect.unit (s := s) off s.size hin).toLoadRect = G := by
  funext y
  refine (congrFun (h _) _).trans (congrArg G (funext fun a => Fin.ext ?_))
  exact (congrArg (· + 1 * (y a).val) (hz a)).trans ((Nat.zero_add _).trans (Nat.one_mul _))

/-- Stores that cover a block with the values of one function leave that function. -/
theorem read_agree {κ : Kind} {sp : Space} {s : Shape} {e : EltTy} (u : View sig κ sp s e) (G : s.Idx → Elt F e) (L : List (View.Piece (Elt F) s e))
    (hG : ∀ p ∈ L, ∀ x : p.1.shape.Idx, p.2 x = G (p.1.emb x)) (hc : ∀ y, ∃ p ∈ L, y ∈ p.1.set) (f : u.ty.Contents (Elt F)) :
    u.read (Elt F) (u.writes (Elt F) f L) = G :=
  funext fun y => View.read_writes_apply_of_pieces u f G L hG y (hc y)

/-- A load of a whole block reads what the block holds. -/
theorem loaded {κ : Kind} {sp : Space} {s : Shape} {e : EltTy} {M : Memref sig κ sp s e} (h : M.IsWhole)
    (off : Fin s.rank → ℕ) (hin : ∀ a, off a + s.size a ≤ s.size a) (hz : ∀ a, off a = 0) (d : s.Idx → Elt F e) :
    View.readAt (Elt F) M.view (Rect.unit (s := s) off s.size hin).toLoadRect (h.unread d) = d := by
  funext y
  refine (h.readAt_unread d _ y).trans (congrArg d (funext fun a => Fin.ext ?_))
  exact (congrArg (· + 1 * (y a).val) (hz a)).trans ((Nat.zero_add _).trans (Nat.one_mul _))

theorem zero2 (a : Fin 2) : (![0, 0] : Fin 2 → ℕ) a = 0 := congrFun (by decide : (![0, 0] : Fin 2 → ℕ) = fun _ => 0) a

theorem storedRows {e : EltTy} (u : View sig .tc .vmem S256x1024 e) (f : u.ty.Contents (Elt F)) (hin) (d : S256x1024.Idx → Elt F e) (L : List (View.Piece (Elt F) S256x1024 e)) :
    u.read (Elt F) (u.writes (Elt F) f (⟨Rect.unit (s := S256x1024) ![0, 0] S256x1024.size hin, d⟩ :: L)) = d := read_stored u f _ hin (fun a => zero2 a) d L
theorem storedRow {e : EltTy} (u : View sig .tc .vmem S1x1024 e) (f : u.ty.Contents (Elt F)) (hin) (d : S1x1024.Idx → Elt F e) (L : List (View.Piece (Elt F) S1x1024 e)) :
    u.read (Elt F) (u.writes (Elt F) f (⟨Rect.unit (s := S1x1024) ![0, 0] S1x1024.size hin, d⟩ :: L)) = d := read_stored u f _ hin (fun a => zero2 a) d L
theorem storedHidden {e : EltTy} (u : View sig .tc .vmem S256x2816 e) (f : u.ty.Contents (Elt F)) (hin) (d : S256x2816.Idx → Elt F e) (L : List (View.Piece (Elt F) S256x2816 e)) :
    u.read (Elt F) (u.writes (Elt F) f (⟨Rect.unit (s := S256x2816) ![0, 0] S256x2816.size hin, d⟩ :: L)) = d := read_stored u f _ hin (fun a => zero2 a) d L
theorem loadedRows {e : EltTy} {M : Memref sig .tc .vmem S256x1024 e} (h : M.IsWhole) (hin) (d : S256x1024.Idx → Elt F e) :
    View.readAt (Elt F) M.view (Rect.unit (s := S256x1024) ![0, 0] S256x1024.size hin).toLoadRect (h.unread d) = d := loaded h _ hin (fun a => zero2 a) d
theorem loadedRow {e : EltTy} {M : Memref sig .tc .vmem S1x1024 e} (h : M.IsWhole) (hin) (d : S1x1024.Idx → Elt F e) :
    View.readAt (Elt F) M.view (Rect.unit (s := S1x1024) ![0, 0] S1x1024.size hin).toLoadRect (h.unread d) = d := loaded h _ hin (fun a => zero2 a) d
theorem loadedWeight {e : EltTy} {M : Memref sig .tc .vmem S2816x1024 e} (h : M.IsWhole) (hin) (d : S2816x1024.Idx → Elt F e) :
    View.readAt (Elt F) M.view (Rect.unit (s := S2816x1024) ![0, 0] S2816x1024.size hin).toLoadRect (h.unread d) = d := loaded h _ hin (fun a => zero2 a) d

/-- A later point: the weights are in the scratch buffers, and the two running sums in their blocks. -/
abbrev laterPre (c : Dev nD) (B : Bufs) (l d : Vec F S1x1024 .f32) : sProp 𝕄 :=
  iprop(owns (c : Thread nD τ) B.a1 fullShare v.x ∗ owns (c : Thread nD τ) B.a2 fullShare v.t ∗ owns (c : Thread nD τ) B.a4 fullShare v.g ∗ (∃ d, owns (c : Thread nD τ) B.a5 fullShare d) ∗ (∃ d, owns (c : Thread nD τ) B.a6 fullShare d) ∗ (∃ d, owns (c : Thread nD τ) B.a7 fullShare d) ∗ (∃ d, owns (c : Thread nD τ) B.a8 fullShare d) ∗ (∃ d, owns (c : Thread nD τ) B.a9 fullShare d) ∗ (∃ d, owns (c : Thread nD τ) B.a10 fullShare d) ∗ owns (c : Thread nD τ) B.a11 fullShare l ∗ owns (c : Thread nD τ) B.a12 fullShare d ∗ owns (c : Thread nD τ) B.a13 fullShare w.wg ∗ owns (c : Thread nD τ) B.a14 fullShare w.wu ∗ owns (c : Thread nD τ) B.a15 fullShare w.wd)

/-- What any point leaves, the sums before it being `l` and `d`. -/
abbrev left (c : Dev nD) (B : Bufs) (l d : Vec F S1x1024 .f32) : sProp 𝕄 :=
  iprop(owns (c : Thread nD τ) B.a1 fullShare v.x ∗ owns (c : Thread nD τ) B.a2 fullShare v.t ∗ owns (c : Thread nD τ) B.a4 fullShare v.g ∗ owns (c : Thread nD τ) B.a5 fullShare (dx v w) ∗ owns (c : Thread nD τ) B.a6 fullShare (dxb v w) ∗ owns (c : Thread nD τ) B.a7 fullShare (k0_pay9 v.x v.g) ∗ owns (c : Thread nD τ) B.a8 fullShare (act v w) ∗ owns (c : Thread nD τ) B.a9 fullShare (both v w) ∗ owns (c : Thread nD τ) B.a10 fullShare (dyb v w) ∗ owns (c : Thread nD τ) B.a11 fullShare (lossAfter v w l) ∗ owns (c : Thread nD τ) B.a12 fullShare (gainAfter v w d) ∗ owns (c : Thread nD τ) B.a13 fullShare w.wg ∗ owns (c : Thread nD τ) B.a14 fullShare w.wu ∗ owns (c : Thread nD τ) B.a15 fullShare w.wd)

set_option maxHeartbeats 4000000 in
theorem run_later (c : Dev nD) (i : grid0.Coords) (B : Bufs) (hc : ¬cond0_0 i) (l d : Vec F S1x1024 .f32) (K : PUnit → sProp 𝕄) :
    iprop(laterPre v w c B l d ∗ (left v w c B l d -∗ K ⟨⟩))
      ⊢ wp frame (wpE (defs₀ (F := F)) Variants.none (c : Thread nD τ) none) Set.univ (cc0_ffn i B.a1 B.h1 B.a2 B.h2 (Memref.whole main_v7) (Memref.isWhole_whole _) B.a4 B.h4 B.a5 B.h5 B.a6 B.h6 B.a7 B.h7 B.a8 B.h8 B.a9 B.h9 B.a10 B.h10 B.a11 B.h11 B.a12 B.h12 B.a13 B.h13 B.a14 B.h14 B.a15 B.h15 cc0_scratch3) K := by
    simp only [cc0_ffn_eq_skeleton]; unfold cc0_ffn_skel
    simp only [k0_part10_eq_skeleton, k0_part11_eq_skeleton]
    unfold laterPre left owns
    iintro ⟨⟨⟨%f1, %hf1, H1⟩, ⟨%f2, %hf2, H2⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩⟩, Hk⟩
    obtain rfl := B.h1.eq_unread hf1; obtain rfl := B.h2.eq_unread hf2; obtain rfl := B.h4.eq_unread hf4; obtain rfl := B.h11.eq_unread hf11; obtain rfl := B.h12.eq_unread hf12; obtain rfl := B.h13.eq_unread hf13; obtain rfl := B.h14.eq_unread hf14; obtain rfl := B.h15.eq_unread hf15
    sl_exec (disch := first | sl_exact hc)
    sl_step
    iapply Hk
    have x := loadedRows B.h1 inb_S256x1024_S256x1024_0_0 v.x
    have t := loadedRows B.h2 inb_S256x1024_S256x1024_0_0 v.t
    have g := loadedRow B.h4 inb_S1x1024_S1x1024_0_0 v.g
    have lo := loadedRow B.h11 inb_S1x1024_S1x1024_0_0 l
    have ga := loadedRow B.h12 inb_S1x1024_S1x1024_0_0 d
    have wg := loadedWeight B.h13 inb_S2816x1024_S2816x1024_0_0 w.wg
    have wu := loadedWeight B.h14 inb_S2816x1024_S2816x1024_0_0 w.wu
    have wd := loadedWeight B.h15 inb_S2816x1024_S2816x1024_0_0 w.wd
    have e0 : run_later.sl.r v c B = v.x := by delta run_later.sl.r; rw [x]
    have e1 : run_later.sl.r_1 v c B = k0_pay7 v.x := by delta run_later.sl.r_1; rw [x]
    have e2 : run_later.sl.r_2 v c B = k0_pay8 v.x := by delta run_later.sl.r_2; rw [x]
    have e3 : run_later.sl.r_3 v c B = v.g := by delta run_later.sl.r_3; rw [g]
    have e4 : run_later.sl.r_4 v w c B = gate v w := by delta run_later.sl.r_4; rw [x, g, wg]
    have e5 : run_later.sl.r_5 v w c B = up v w := by delta run_later.sl.r_5; rw [x, g, wu]
    have e6 : run_later.sl.r_6 v w c B = sig' v w := by delta run_later.sl.r_6; rw [x, g, wg]
    have e7 : run_later.sl.r_7 v w c B = silu v w := by delta run_later.sl.r_7; rw [x, g, wg]
    have e8 : run_later.sl.r_8 v w c B = act v w := by delta run_later.sl.r_8; rw [x, g, wg, wu]
    have e9 : run_later.sl.r_9 v w c B = dy v w := by delta run_later.sl.r_9; rw [e0, e8, wd, t]
    have e10 : run_later.sl.r_10 v w c B = dgate v w := by delta run_later.sl.r_10; rw [e0, e4, e5, e6, e8, wd, t]
    have e11 : run_later.sl.r_11 v w c B = dup v w := by delta run_later.sl.r_11; rw [e0, e7, e8, wd, t]
    have e12 : run_later.sl.r_12 w c B = w.wg := by delta run_later.sl.r_12; rw [wg]
    isplitl [H1]
    · iexists _; isplitr; · ipureintro; exact B.h1.read_unread _
      iexact H1
    isplitl [H2]
    · iexists _; isplitr; · ipureintro; exact B.h2.read_unread _
      iexact H2
    isplitl [H4]
    · iexists _; isplitr; · ipureintro; exact B.h4.read_unread _
      iexact H4
    isplitl [H5]
    · iexists _; isplitr [H5]; swap; · iexact H5
      ipureintro
      rw [storedRows]
      rw [e1, e2, e3, e9, e10, e11, e12]; exact congrArg (k0_pay3 _ _ _ _ _ _ _) wu
    isplitl [H6]
    · iexists _; isplitr [H6]; swap; · iexact H6
      ipureintro
      rw [storedRows]
      rw [e1, e2, e3, e9, e10, e11, e12]; exact congrArg (k0_pay4 _ _ _ _ _ _ _) wu
    isplitl [H7]
    · iexists _; isplitr [H7]; swap; · iexact H7
      ipureintro
      rw [storedRows]
      rw [x, g]
    isplitl [H8]
    · iexists _; isplitr [H8]; swap; · iexact H8
      ipureintro
      rw [storedHidden]
      rw [x, g, wg, wu]
    isplitl [H9]
    · iexists _; isplitr [H9]; swap; · iexact H9
      ipureintro
      rw [e0, e4, e5, e6, e7, e8, wd, t]
      exact View.read_writes_of_cover _ _ _ _ (sides v w) (sides_cover v w)
    isplitl [H10]
    · iexists _; isplitr [H10]; swap; · iexact H10
      ipureintro
      rw [storedRows]
      rw [e0, e8]; exact congrArg₂ (k0_pay18 _ _) wd t
    isplitl [H11]
    · iexists _; isplitr [H11]; swap; · iexact H11
      ipureintro
      rw [storedRow]
      rw [e0, e8]; exact (congrArg₂ (k0_pay16 _ _ · ·) wd t ▸ congrArg (k0_pay16 _ _ _ _) lo)
    isplitl [H12]
    · iexists _; isplitr [H12]; swap; · iexact H12
      ipureintro
      rw [storedRow]
      rw [e2, e10, e11, e12]; exact congrArg₂ (k0_pay2 _ _ _ _) wu ga
    isplitl [H13]
    · iexists _; isplitr; · ipureintro; exact B.h13.read_unread _
      iexact H13
    isplitl [H14]
    · iexists _; isplitr; · ipureintro; exact B.h14.read_unread _
      iexact H14
    · iexists _; isplitr; · ipureintro; exact B.h15.read_unread _
      iexact H15
/-- The cells of the 24 copies, all at zero. -/
abbrev cells (c : Dev nD) : sProp 𝕄 :=
  iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0)

/-- The first point: nothing is known of the scratch buffers and the outputs. -/
abbrev firstPre (c : Dev nD) (B : Bufs) (W : Waits sig Unit) (fh : HbBuf0 (F := F) c hbM0_0) : sProp 𝕄 :=
  iprop(owns (c : Thread nD τ) B.a1 fullShare v.x ∗ owns (c : Thread nD τ) B.a2 fullShare v.t ∗ owns (c : Thread nD τ) B.a4 fullShare v.g ∗ (∃ d, owns (c : Thread nD τ) B.a5 fullShare d) ∗ (∃ d, owns (c : Thread nD τ) B.a6 fullShare d) ∗ (∃ d, owns (c : Thread nD τ) B.a7 fullShare d) ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d) ∗ (∃ d, owns (c : Thread nD τ) B.a12 fullShare d) ∗ (∃ d, owns (c : Thread nD τ) B.a13 fullShare d) ∗ (∃ d, owns (c : Thread nD τ) B.a14 fullShare d) ∗ (∃ d, owns (c : Thread nD τ) B.a15 fullShare d) ∗ cells c ∗ hbPt0 c hbM0_0 fh ∗ owes (c : Thread nD τ) 0 W)

set_option maxHeartbeats 4000000 in
set_option sl_exec.dmaWindow true in
set_option sl_exec.dmaWindowSet true in
theorem run_first (c : Dev nD) (i : grid0.Coords) (B : Bufs) (hc : cond0_0 i) (fh : HbBuf0 (F := F) c hbM0_0) (W : Waits sig Unit) (K : PUnit → sProp 𝕄) :
    iprop(firstPre v c B W fh ∗ (left v (gathered fh) c B k0_pay5 k0_pay6 ∗ cells c ∗ hbPt0 c hbM0_0 fh ∗ (∃ W, owes (c : Thread nD τ) 0 W) -∗ K ⟨⟩))
      ⊢ wp frame (wpE (defs₀ (F := F)) Variants.none (c : Thread nD τ) none) Set.univ (cc0_ffn i B.a1 B.h1 B.a2 B.h2 (Memref.whole main_v7) (Memref.isWhole_whole _) B.a4 B.h4 B.a5 B.h5 B.a6 B.h6 B.a7 B.h7 B.a8 B.h8 B.a9 B.h9 B.a10 B.h10 B.a11 B.h11 B.a12 B.h12 B.a13 B.h13 B.a14 B.h14 B.a15 B.h15 cc0_scratch3) K := by
    simp only [cc0_ffn_eq_skeleton]; unfold cc0_ffn_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton]
    unfold firstPre left owns cells
    iintro ⟨⟨⟨%f1, %hf1, H1⟩, ⟨%f2, %hf2, H2⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨Q19, Q20, Q21, Q22, Q23, Q24, Q25, Q26, Q27, Q28, Q29, Q30, Q31, Q32, Q33, Q34, Q35, Q36, Q37, Q38, Q39, Q40, Q41, Q42⟩, Hh, HW⟩, Hk⟩
    obtain rfl := B.h1.eq_unread hf1; obtain rfl := B.h2.eq_unread hf2; obtain rfl := B.h4.eq_unread hf4
    sl_exec (disch := first | sl_exact hc)
    sl_step
    iapply Hk
    clear hf1 hf2 hf4
    have c13 : ∀ f, B.a13.view.read (Elt F) (B.a13.view.writes (Elt F) f [⟨Rect.unit (s := S2816x1024) ![2464, 0] S352x1024.size inb_S2816x1024_S352x1024_2464_0, run_first.sl.dma0_7 (F := F) c fh⟩, ⟨Rect.unit (s := S2816x1024) ![2112, 0] S352x1024.size inb_S2816x1024_S352x1024_2112_0, run_first.sl.dma0_6 (F := F) c fh⟩, ⟨Rect.unit (s := S2816x1024) ![1760, 0] S352x1024.size inb_S2816x1024_S352x1024_1760_0, run_first.sl.dma0_5 (F := F) c fh⟩, ⟨Rect.unit (s := S2816x1024) ![1408, 0] S352x1024.size inb_S2816x1024_S352x1024_1408_0, run_first.sl.dma0_4 (F := F) c fh⟩, ⟨Rect.unit (s := S2816x1024) ![1056, 0] S352x1024.size inb_S2816x1024_S352x1024_1056_0, run_first.sl.dma0_3 (F := F) c fh⟩, ⟨Rect.unit (s := S2816x1024) ![704, 0] S352x1024.size inb_S2816x1024_S352x1024_704_0, run_first.sl.dma0_2 (F := F) c fh⟩, ⟨Rect.unit (s := S2816x1024) ![352, 0] S352x1024.size inb_S2816x1024_S352x1024_352_0, run_first.sl.dma0_1 (F := F) c fh⟩, ⟨Rect.unit (s := S2816x1024) ![0, 0] S352x1024.size inb_S2816x1024_S352x1024_0_0, run_first.sl.dma0 (F := F) c fh⟩]) = (gathered fh).wg :=
      read_agree B.a13.view _ _ (by
        refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩
        · intro x; show run_first.sl.dma0_7 (F := F) c fh x = hbM0_0.view.read (Elt F) fh (share 0 ((Rect.unit (s := S2816x1024) ![2464, 0] S352x1024.size inb_S2816x1024_S352x1024_2464_0).emb x))
          delta run_first.sl.dma0_7
          exact copied fh 0 7 128 2464 inb_S8x1184x1024_S1x352x1024_7_128_0 rfl rfl (fun _ => rfl) squeezes_S1x352x1024_S352x1024 inb_S2816x1024_S352x1024_2464_0 x
        · intro x; show run_first.sl.dma0_6 (F := F) c fh x = hbM0_0.view.read (Elt F) fh (share 0 ((Rect.unit (s := S2816x1024) ![2112, 0] S352x1024.size inb_S2816x1024_S352x1024_2112_0).emb x))
          delta run_first.sl.dma0_6
          exact copied fh 0 6 128 2112 inb_S8x1184x1024_S1x352x1024_6_128_0 rfl rfl (fun _ => rfl) squeezes_S1x352x1024_S352x1024 inb_S2816x1024_S352x1024_2112_0 x
        · intro x; show run_first.sl.dma0_5 (F := F) c fh x = hbM0_0.view.read (Elt F) fh (share 0 ((Rect.unit (s := S2816x1024) ![1760, 0] S352x1024.size inb_S2816x1024_S352x1024_1760_0).emb x))
          delta run_first.sl.dma0_5
          exact copied fh 0 5 128 1760 inb_S8x1184x1024_S1x352x1024_5_128_0 rfl rfl (fun _ => rfl) squeezes_S1x352x1024_S352x1024 inb_S2816x1024_S352x1024_1760_0 x
        · intro x; show run_first.sl.dma0_4 (F := F) c fh x = hbM0_0.view.read (Elt F) fh (share 0 ((Rect.unit (s := S2816x1024) ![1408, 0] S352x1024.size inb_S2816x1024_S352x1024_1408_0).emb x))
          delta run_first.sl.dma0_4
          exact copied fh 0 4 128 1408 inb_S8x1184x1024_S1x352x1024_4_128_0 rfl rfl (fun _ => rfl) squeezes_S1x352x1024_S352x1024 inb_S2816x1024_S352x1024_1408_0 x
        · intro x; show run_first.sl.dma0_3 (F := F) c fh x = hbM0_0.view.read (Elt F) fh (share 0 ((Rect.unit (s := S2816x1024) ![1056, 0] S352x1024.size inb_S2816x1024_S352x1024_1056_0).emb x))
          delta run_first.sl.dma0_3
          exact copied fh 0 3 128 1056 inb_S8x1184x1024_S1x352x1024_3_128_0 rfl rfl (fun _ => rfl) squeezes_S1x352x1024_S352x1024 inb_S2816x1024_S352x1024_1056_0 x
        · intro x; show run_first.sl.dma0_2 (F := F) c fh x = hbM0_0.view.read (Elt F) fh (share 0 ((Rect.unit (s := S2816x1024) ![704, 0] S352x1024.size inb_S2816x1024_S352x1024_704_0).emb x))
          delta run_first.sl.dma0_2
          exact copied fh 0 2 128 704 inb_S8x1184x1024_S1x352x1024_2_128_0 rfl rfl (fun _ => rfl) squeezes_S1x352x1024_S352x1024 inb_S2816x1024_S352x1024_704_0 x
        · intro x; show run_first.sl.dma0_1 (F := F) c fh x = hbM0_0.view.read (Elt F) fh (share 0 ((Rect.unit (s := S2816x1024) ![352, 0] S352x1024.size inb_S2816x1024_S352x1024_352_0).emb x))
          delta run_first.sl.dma0_1
          exact copied fh 0 1 128 352 inb_S8x1184x1024_S1x352x1024_1_128_0 rfl rfl (fun _ => rfl) squeezes_S1x352x1024_S352x1024 inb_S2816x1024_S352x1024_352_0 x
        · intro x; show run_first.sl.dma0 (F := F) c fh x = hbM0_0.view.read (Elt F) fh (share 0 ((Rect.unit (s := S2816x1024) ![0, 0] S352x1024.size inb_S2816x1024_S352x1024_0_0).emb x))
          delta run_first.sl.dma0
          exact copied fh 0 0 128 0 inb_S8x1184x1024_S1x352x1024_0_128_0 rfl rfl (fun _ => rfl) squeezes_S1x352x1024_S352x1024 inb_S2816x1024_S352x1024_0_0 x
        ) (View.cover_of_tiledL _ S352x1024.size (by sl_kernel_rfl))
    have c14 : ∀ f, B.a14.view.read (Elt F) (B.a14.view.writes (Elt F) f [⟨Rect.unit (s := S2816x1024) ![2464, 0] S352x1024.size inb_S2816x1024_S352x1024_2464_0, run_first.sl.dma0_15 (F := F) c fh⟩, ⟨Rect.unit (s := S2816x1024) ![2112, 0] S352x1024.size inb_S2816x1024_S352x1024_2112_0, run_first.sl.dma0_14 (F := F) c fh⟩, ⟨Rect.unit (s := S2816x1024) ![1760, 0] S352x1024.size inb_S2816x1024_S352x1024_1760_0, run_first.sl.dma0_13 (F := F) c fh⟩, ⟨Rect.unit (s := S2816x1024) ![1408, 0] S352x1024.size inb_S2816x1024_S352x1024_1408_0, run_first.sl.dma0_12 (F := F) c fh⟩, ⟨Rect.unit (s := S2816x1024) ![1056, 0] S352x1024.size inb_S2816x1024_S352x1024_1056_0, run_first.sl.dma0_11 (F := F) c fh⟩, ⟨Rect.unit (s := S2816x1024) ![704, 0] S352x1024.size inb_S2816x1024_S352x1024_704_0, run_first.sl.dma0_10 (F := F) c fh⟩, ⟨Rect.unit (s := S2816x1024) ![352, 0] S352x1024.size inb_S2816x1024_S352x1024_352_0, run_first.sl.dma0_9 (F := F) c fh⟩, ⟨Rect.unit (s := S2816x1024) ![0, 0] S352x1024.size inb_S2816x1024_S352x1024_0_0, run_first.sl.dma0_8 (F := F) c fh⟩]) = (gathered fh).wu :=
      read_agree B.a14.view _ _ (by
        refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩
        · intro x; show run_first.sl.dma0_15 (F := F) c fh x = hbM0_0.view.read (Elt F) fh (share 1 ((Rect.unit (s := S2816x1024) ![2464, 0] S352x1024.size inb_S2816x1024_S352x1024_2464_0).emb x))
          delta run_first.sl.dma0_15
          exact copied fh 1 7 480 2464 inb_S8x1184x1024_S1x352x1024_7_480_0 rfl rfl (fun _ => rfl) squeezes_S1x352x1024_S352x1024 inb_S2816x1024_S352x1024_2464_0 x
        · intro x; show run_first.sl.dma0_14 (F := F) c fh x = hbM0_0.view.read (Elt F) fh (share 1 ((Rect.unit (s := S2816x1024) ![2112, 0] S352x1024.size inb_S2816x1024_S352x1024_2112_0).emb x))
          delta run_first.sl.dma0_14
          exact copied fh 1 6 480 2112 inb_S8x1184x1024_S1x352x1024_6_480_0 rfl rfl (fun _ => rfl) squeezes_S1x352x1024_S352x1024 inb_S2816x1024_S352x1024_2112_0 x
        · intro x; show run_first.sl.dma0_13 (F := F) c fh x = hbM0_0.view.read (Elt F) fh (share 1 ((Rect.unit (s := S2816x1024) ![1760, 0] S352x1024.size inb_S2816x1024_S352x1024_1760_0).emb x))
          delta run_first.sl.dma0_13
          exact copied fh 1 5 480 1760 inb_S8x1184x1024_S1x352x1024_5_480_0 rfl rfl (fun _ => rfl) squeezes_S1x352x1024_S352x1024 inb_S2816x1024_S352x1024_1760_0 x
        · intro x; show run_first.sl.dma0_12 (F := F) c fh x = hbM0_0.view.read (Elt F) fh (share 1 ((Rect.unit (s := S2816x1024) ![1408, 0] S352x1024.size inb_S2816x1024_S352x1024_1408_0).emb x))
          delta run_first.sl.dma0_12
          exact copied fh 1 4 480 1408 inb_S8x1184x1024_S1x352x1024_4_480_0 rfl rfl (fun _ => rfl) squeezes_S1x352x1024_S352x1024 inb_S2816x1024_S352x1024_1408_0 x
        · intro x; show run_first.sl.dma0_11 (F := F) c fh x = hbM0_0.view.read (Elt F) fh (share 1 ((Rect.unit (s := S2816x1024) ![1056, 0] S352x1024.size inb_S2816x1024_S352x1024_1056_0).emb x))
          delta run_first.sl.dma0_11
          exact copied fh 1 3 480 1056 inb_S8x1184x1024_S1x352x1024_3_480_0 rfl rfl (fun _ => rfl) squeezes_S1x352x1024_S352x1024 inb_S2816x1024_S352x1024_1056_0 x
        · intro x; show run_first.sl.dma0_10 (F := F) c fh x = hbM0_0.view.read (Elt F) fh (share 1 ((Rect.unit (s := S2816x1024) ![704, 0] S352x1024.size inb_S2816x1024_S352x1024_704_0).emb x))
          delta run_first.sl.dma0_10
          exact copied fh 1 2 480 704 inb_S8x1184x1024_S1x352x1024_2_480_0 rfl rfl (fun _ => rfl) squeezes_S1x352x1024_S352x1024 inb_S2816x1024_S352x1024_704_0 x
        · intro x; show run_first.sl.dma0_9 (F := F) c fh x = hbM0_0.view.read (Elt F) fh (share 1 ((Rect.unit (s := S2816x1024) ![352, 0] S352x1024.size inb_S2816x1024_S352x1024_352_0).emb x))
          delta run_first.sl.dma0_9
          exact copied fh 1 1 480 352 inb_S8x1184x1024_S1x352x1024_1_480_0 rfl rfl (fun _ => rfl) squeezes_S1x352x1024_S352x1024 inb_S2816x1024_S352x1024_352_0 x
        · intro x; show run_first.sl.dma0_8 (F := F) c fh x = hbM0_0.view.read (Elt F) fh (share 1 ((Rect.unit (s := S2816x1024) ![0, 0] S352x1024.size inb_S2816x1024_S352x1024_0_0).emb x))
          delta run_first.sl.dma0_8
          exact copied fh 1 0 480 0 inb_S8x1184x1024_S1x352x1024_0_480_0 rfl rfl (fun _ => rfl) squeezes_S1x352x1024_S352x1024 inb_S2816x1024_S352x1024_0_0 x
        ) (View.cover_of_tiledL _ S352x1024.size (by sl_kernel_rfl))
    have c15 : ∀ f, B.a15.view.read (Elt F) (B.a15.view.writes (Elt F) f [⟨Rect.unit (s := S2816x1024) ![2464, 0] S352x1024.size inb_S2816x1024_S352x1024_2464_0, run_first.sl.dma0_23 (F := F) c fh⟩, ⟨Rect.unit (s := S2816x1024) ![2112, 0] S352x1024.size inb_S2816x1024_S352x1024_2112_0, run_first.sl.dma0_22 (F := F) c fh⟩, ⟨Rect.unit (s := S2816x1024) ![1760, 0] S352x1024.size inb_S2816x1024_S352x1024_1760_0, run_first.sl.dma0_21 (F := F) c fh⟩, ⟨Rect.unit (s := S2816x1024) ![1408, 0] S352x1024.size inb_S2816x1024_S352x1024_1408_0, run_first.sl.dma0_20 (F := F) c fh⟩, ⟨Rect.unit (s := S2816x1024) ![1056, 0] S352x1024.size inb_S2816x1024_S352x1024_1056_0, run_first.sl.dma0_19 (F := F) c fh⟩, ⟨Rect.unit (s := S2816x1024) ![704, 0] S352x1024.size inb_S2816x1024_S352x1024_704_0, run_first.sl.dma0_18 (F := F) c fh⟩, ⟨Rect.unit (s := S2816x1024) ![352, 0] S352x1024.size inb_S2816x1024_S352x1024_352_0, run_first.sl.dma0_17 (F := F) c fh⟩, ⟨Rect.unit (s := S2816x1024) ![0, 0] S352x1024.size inb_S2816x1024_S352x1024_0_0, run_first.sl.dma0_16 (F := F) c fh⟩]) = (gathered fh).wd :=
      read_agree B.a15.view _ _ (by
        refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩
        · intro x; show run_first.sl.dma0_23 (F := F) c fh x = hbM0_0.view.read (Elt F) fh (share 2 ((Rect.unit (s := S2816x1024) ![2464, 0] S352x1024.size inb_S2816x1024_S352x1024_2464_0).emb x))
          delta run_first.sl.dma0_23
          exact copied fh 2 7 832 2464 inb_S8x1184x1024_S1x352x1024_7_832_0 rfl rfl (fun _ => rfl) squeezes_S1x352x1024_S352x1024 inb_S2816x1024_S352x1024_2464_0 x
        · intro x; show run_first.sl.dma0_22 (F := F) c fh x = hbM0_0.view.read (Elt F) fh (share 2 ((Rect.unit (s := S2816x1024) ![2112, 0] S352x1024.size inb_S2816x1024_S352x1024_2112_0).emb x))
          delta run_first.sl.dma0_22
          exact copied fh 2 6 832 2112 inb_S8x1184x1024_S1x352x1024_6_832_0 rfl rfl (fun _ => rfl) squeezes_S1x352x1024_S352x1024 inb_S2816x1024_S352x1024_2112_0 x
        · intro x; show run_first.sl.dma0_21 (F := F) c fh x = hbM0_0.view.read (Elt F) fh (share 2 ((Rect.unit (s := S2816x1024) ![1760, 0] S352x1024.size inb_S2816x1024_S352x1024_1760_0).emb x))
          delta run_first.sl.dma0_21
          exact copied fh 2 5 832 1760 inb_S8x1184x1024_S1x352x1024_5_832_0 rfl rfl (fun _ => rfl) squeezes_S1x352x1024_S352x1024 inb_S2816x1024_S352x1024_1760_0 x
        · intro x; show run_first.sl.dma0_20 (F := F) c fh x = hbM0_0.view.read (Elt F) fh (share 2 ((Rect.unit (s := S2816x1024) ![1408, 0] S352x1024.size inb_S2816x1024_S352x1024_1408_0).emb x))
          delta run_first.sl.dma0_20
          exact copied fh 2 4 832 1408 inb_S8x1184x1024_S1x352x1024_4_832_0 rfl rfl (fun _ => rfl) squeezes_S1x352x1024_S352x1024 inb_S2816x1024_S352x1024_1408_0 x
        · intro x; show run_first.sl.dma0_19 (F := F) c fh x = hbM0_0.view.read (Elt F) fh (share 2 ((Rect.unit (s := S2816x1024) ![1056, 0] S352x1024.size inb_S2816x1024_S352x1024_1056_0).emb x))
          delta run_first.sl.dma0_19
          exact copied fh 2 3 832 1056 inb_S8x1184x1024_S1x352x1024_3_832_0 rfl rfl (fun _ => rfl) squeezes_S1x352x1024_S352x1024 inb_S2816x1024_S352x1024_1056_0 x
        · intro x; show run_first.sl.dma0_18 (F := F) c fh x = hbM0_0.view.read (Elt F) fh (share 2 ((Rect.unit (s := S2816x1024) ![704, 0] S352x1024.size inb_S2816x1024_S352x1024_704_0).emb x))
          delta run_first.sl.dma0_18
          exact copied fh 2 2 832 704 inb_S8x1184x1024_S1x352x1024_2_832_0 rfl rfl (fun _ => rfl) squeezes_S1x352x1024_S352x1024 inb_S2816x1024_S352x1024_704_0 x
        · intro x; show run_first.sl.dma0_17 (F := F) c fh x = hbM0_0.view.read (Elt F) fh (share 2 ((Rect.unit (s := S2816x1024) ![352, 0] S352x1024.size inb_S2816x1024_S352x1024_352_0).emb x))
          delta run_first.sl.dma0_17
          exact copied fh 2 1 832 352 inb_S8x1184x1024_S1x352x1024_1_832_0 rfl rfl (fun _ => rfl) squeezes_S1x352x1024_S352x1024 inb_S2816x1024_S352x1024_352_0 x
        · intro x; show run_first.sl.dma0_16 (F := F) c fh x = hbM0_0.view.read (Elt F) fh (share 2 ((Rect.unit (s := S2816x1024) ![0, 0] S352x1024.size inb_S2816x1024_S352x1024_0_0).emb x))
          delta run_first.sl.dma0_16
          exact copied fh 2 0 832 0 inb_S8x1184x1024_S1x352x1024_0_832_0 rfl rfl (fun _ => rfl) squeezes_S1x352x1024_S352x1024 inb_S2816x1024_S352x1024_0_0 x
        ) (View.cover_of_tiledL _ S352x1024.size (by sl_kernel_rfl))
    have x := loadedRows B.h1 inb_S256x1024_S256x1024_0_0 v.x
    have t := loadedRows B.h2 inb_S256x1024_S256x1024_0_0 v.t
    have g := loadedRow B.h4 inb_S1x1024_S1x1024_0_0 v.g
    have v19 : run_first.sl.v19 (F := F) c B fh = (gathered fh).wg := covered B.a13.view _ _ c13 _ _ (fun a => zero2 a)
    have v21 : run_first.sl.v21 (F := F) c B fh = (gathered fh).wu := covered B.a14.view _ _ c14 _ _ (fun a => zero2 a)
    have v34 : run_first.sl.v34 (F := F) c B fh = (gathered fh).wd := covered B.a15.view _ _ c15 _ _ (fun a => zero2 a)
    have v67 : run_first.sl.v67 (F := F) c B fh = (gathered fh).wu := covered B.a14.view _ _ c14 _ _ (fun a => zero2 a)
    have v39 : run_first.sl.v39 (F := F) c B = k0_pay5 := covered B.a11.view _ _ (fun f => storedRow B.a11.view f _ k0_pay5 []) _ _ (fun a => zero2 a)
    have v70 : run_first.sl.v70 (F := F) c B = k0_pay6 := covered B.a12.view _ _ (fun f => storedRow B.a12.view f _ k0_pay6 []) _ _ (fun a => zero2 a)
    have e0 : run_first.sl.r v c B = v.x := by delta run_first.sl.r; rw [x]
    have e1 : run_first.sl.r_1 v c B = k0_pay7 v.x := by delta run_first.sl.r_1; rw [x]
    have e2 : run_first.sl.r_2 v c B = k0_pay8 v.x := by delta run_first.sl.r_2; rw [x]
    have e3 : run_first.sl.r_3 v c B = v.g := by delta run_first.sl.r_3; rw [g]
    have e4 : run_first.sl.r_4 v c B fh = gate v (gathered fh) := by delta run_first.sl.r_4; rw [x, g, v19]
    have e5 : run_first.sl.r_5 v c B fh = up v (gathered fh) := by delta run_first.sl.r_5; rw [x, g, v21]
    have e6 : run_first.sl.r_6 v c B fh = sig' v (gathered fh) := by delta run_first.sl.r_6; rw [x, g, v19]
    have e7 : run_first.sl.r_7 v c B fh = silu v (gathered fh) := by delta run_first.sl.r_7; rw [x, g, v19]
    have e8 : run_first.sl.r_8 v c B fh = act v (gathered fh) := by delta run_first.sl.r_8; rw [x, g, v19, v21]
    have e9 : run_first.sl.r_9 v c B fh = dy v (gathered fh) := by delta run_first.sl.r_9; rw [e0, e8, v34, t]
    have e10 : run_first.sl.r_10 v c B fh = dgate v (gathered fh) := by delta run_first.sl.r_10; rw [e0, e4, e5, e6, e8, v34, t]
    have e11 : run_first.sl.r_11 v c B fh = dup v (gathered fh) := by delta run_first.sl.r_11; rw [e0, e7, e8, v34, t]
    isplitl [H1 H2 H4 H5 H6 H7 H8 H9 H10 H11 H12 H13 H14 H15]
    · skip
      isplitl [H1]
      · iexists _; isplitr; · ipureintro; exact B.h1.read_unread _
        iexact H1
      isplitl [H2]
      · iexists _; isplitr; · ipureintro; exact B.h2.read_unread _
        iexact H2
      isplitl [H4]
      · iexists _; isplitr; · ipureintro; exact B.h4.read_unread _
        iexact H4
      isplitl [H5]
      · iexists _; isplitr [H5]; swap; · iexact H5
        ipureintro
        rw [storedRows]
        rw [e1, e2, e3, e9, e10, e11, v19, v67]
      isplitl [H6]
      · iexists _; isplitr [H6]; swap; · iexact H6
        ipureintro
        rw [storedRows]
        rw [e1, e2, e3, e9, e10, e11, v19, v67]
      isplitl [H7]
      · iexists _; isplitr [H7]; swap; · iexact H7
        ipureintro
        rw [storedRows]
        rw [x, g]
      isplitl [H8]
      · iexists _; isplitr [H8]; swap; · iexact H8
        ipureintro
        rw [storedHidden]
        rw [x, g, v19, v21]
      isplitl [H9]
      · iexists _; isplitr [H9]; swap; · iexact H9
        ipureintro
        rw [e0, e4, e5, e6, e7, e8, v34, t]
        exact View.read_writes_of_cover _ _ _ _ (sides v (gathered fh)) (sides_cover v (gathered fh))
      isplitl [H10]
      · iexists _; isplitr [H10]; swap; · iexact H10
        ipureintro
        rw [storedRows]
        rw [e0, e8, v34, t]
      isplitl [H11]
      · iexists _; isplitr [H11]; swap; · iexact H11
        ipureintro
        rw [storedRow]
        rw [e0, e8, v34, t, v39]
      isplitl [H12]
      · iexists _; isplitr [H12]; swap; · iexact H12
        ipureintro
        rw [storedRow]
        rw [e2, e10, e11, v19, v67, v70]
      isplitl [H13]
      · iexists _; isplitr [H13]; swap; · iexact H13
        ipureintro; exact c13 _
      isplitl [H14]
      · iexists _; isplitr [H14]; swap; · iexact H14
        ipureintro; exact c14 _
      iexists _; isplitr [H15]; swap; · iexact H15
      ipureintro; exact c15 _
    isplitl [Q19 Q20 Q21 Q22 Q23 Q24 Q25 Q26 Q27 Q28 Q29 Q30 Q31 Q32 Q33 Q34 Q35 Q36 Q37 Q38 Q39 Q40 Q41 Q42]
    · skip
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      isplitl [Q31]; · iexact Q31
      isplitl [Q32]; · iexact Q32
      isplitl [Q33]; · iexact Q33
      isplitl [Q34]; · iexact Q34
      isplitl [Q35]; · iexact Q35
      isplitl [Q36]; · iexact Q36
      isplitl [Q37]; · iexact Q37
      isplitl [Q38]; · iexact Q38
      isplitl [Q39]; · iexact Q39
      isplitl [Q40]; · iexact Q40
      isplitl [Q41]; · iexact Q41
      iexact Q42
    isplitl [Hh]; · iexact Hh
    iexists _; iexact HW
end Cert.Ffn

end
-- ==== Proof.Ffn.Launch.lean ====
module

public import proofs.«01_k».proof.Proof.Ffn.Body
public import Idealize.ShloMosaic.Lib.Claim

/-! The launch of the feed-forward kernel over its 64 grid points. The two row sums are zero before the first point and
grow by one point's rows at a time; the three weights are in the scratch buffers from the first point on. -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body is called with at point `t`. -/
abbrev bufs (t : Fin cfg0.N) : Bufs :=
  ⟨ms0_0 t, hs0_0 t,
   ms0_1 t, hs0_1 t,
   ms0_2 t, hs0_2 t,
   ms0_3 t, hs0_3 t,
   ms0_4 t, hs0_4 t,
   ms0_5 t, hs0_5 t,
   ms0_6 t, hs0_6 t,
   ms0_7 t, hs0_7 t,
   ms0_8 t, hs0_8 t,
   ms0_9 t, hs0_9 t,
   ms0_10 t, hs0_10 t,
   scM0_0, Memref.isWhole_whole _, scM0_1, Memref.isWhole_whole _, scM0_2, Memref.isWhole_whole _⟩

/-- The input blocks at point `t`. -/
abbrev rowsAt (c : Dev nD) (t : Fin cfg0.N) : Vals F := ⟨iblk m c 0 t, iblk m c 1 t, iblk m c 2 t⟩

/-- The three weights as the first point copies them. -/
abbrev weights (c : Dev nD) : Weights F := gathered (c := c) (V m c main_v7)

/-- The column sums of the squared errors before point `n`. -/
def lossAt (c : Dev nD) : (n : ℕ) → n ≤ cfg0.N → Vec F S1x1024 .f32
  | 0, _ => k0_pay5
  | n + 1, hn => lossAfter (rowsAt m c ⟨n, hn⟩) (weights m c) (lossAt c n (Nat.le_of_lt hn))

/-- The gain's gradient before point `n`. -/
def gainAt (c : Dev nD) : (n : ℕ) → n ≤ cfg0.N → Vec F S1x1024 .f32
  | 0, _ => k0_pay6
  | n + 1, hn => gainAfter (rowsAt m c ⟨n, hn⟩) (weights m c) (gainAt c n (Nat.le_of_lt hn))

theorem lossAt_zero (c : Dev nD) (n : ℕ) (h : n ≤ cfg0.N) (hz : n = 0) : lossAt m c n h = k0_pay5 := by subst hz; rfl
theorem gainAt_zero (c : Dev nD) (n : ℕ) (h : n ≤ cfg0.N) (hz : n = 0) : gainAt m c n h = k0_pay6 := by subst hz; rfl

/-- Before the first point the scratch buffers hold anything; afterwards the weights. -/
def PhiS (c : Dev nD) : (n : ℕ) → n ≤ cfg0.N → sProp 𝕄
  | 0, _ => Pipeline.ΦD osem0 spec0 H0 (V m) c
  | n + 1, hn => iprop((owns (c : Thread nD τ) scM0_0 fullShare (weights m c).wg ∗ owns (c : Thread nD τ) scM0_1 fullShare (weights m c).wu ∗ owns (c : Thread nD τ) scM0_2 fullShare (weights m c).wd) ∗ (∃ r, prngReg c r) ∗ cells c ∗ hbPt0 c hbM0_0 (V m c main_v7))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop((owns (c : Thread nD τ) scM0_0 fullShare (weights m c).wg ∗ owns (c : Thread nD τ) scM0_1 fullShare (weights m c).wu ∗ owns (c : Thread nD τ) scM0_2 fullShare (weights m c).wd) ∗ (∃ r, prngReg c r) ∗ cells c ∗ hbPt0 c hbM0_0 (V m c main_v7)) := by
  cases n with
  | zero => exact absurd rfl hz
  | succ n => rfl

/-- The launch's proof data: the arrays as the region finds them, each input's buffer at its block after a point, and
each output's at the point's result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dx (rowsAt m c t) (weights m c)
    | ⟨4, _⟩ => dxb (rowsAt m c t) (weights m c)
    | ⟨5, _⟩ => k0_pay9 (rowsAt m c t).x (rowsAt m c t).g
    | ⟨6, _⟩ => act (rowsAt m c t) (weights m c)
    | ⟨7, _⟩ => both (rowsAt m c t) (weights m c)
    | ⟨8, _⟩ => dyb (rowsAt m c t) (weights m c)
    | ⟨9, _⟩ => lossAt m c (t.val + 1) t.isLt
    | ⟨10, _⟩ => gainAt m c (t.val + 1) t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = dx (rowsAt m c t) (weights m c) := by dsimp only [dats]
theorem after4 (c : Dev nD) (t : Fin cfg0.N) : (dats m 0 c).after 4 t = dxb (rowsAt m c t) (weights m c) := by dsimp only [dats]
theorem after5 (c : Dev nD) (t : Fin cfg0.N) : (dats m 0 c).after 5 t = k0_pay9 (rowsAt m c t).x (rowsAt m c t).g := by dsimp only [dats]
theorem after6 (c : Dev nD) (t : Fin cfg0.N) : (dats m 0 c).after 6 t = act (rowsAt m c t) (weights m c) := by dsimp only [dats]
theorem after7 (c : Dev nD) (t : Fin cfg0.N) : (dats m 0 c).after 7 t = both (rowsAt m c t) (weights m c) := by dsimp only [dats]
theorem after8 (c : Dev nD) (t : Fin cfg0.N) : (dats m 0 c).after 8 t = dyb (rowsAt m c t) (weights m c) := by dsimp only [dats]
theorem after9 (c : Dev nD) (t : Fin cfg0.N) : (dats m 0 c).after 9 t = lossAt m c (t.val + 1) t.isLt := by dsimp only [dats]
theorem after10 (c : Dev nD) (t : Fin cfg0.N) : (dats m 0 c).after 10 t = gainAt m c (t.val + 1) t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
/-- A later point finds the sum that the point before left. -/
theorem before9 (c : Dev nD) (t : Fin cfg0.N) (h0 : ¬t.val % 64 = 0) (d) :
    (dats m 0 c).before 9 t d = lossAt m c t.val (Nat.le_of_lt t.isLt) := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl), after9]
  have e : t.val - 1 + 1 = t.val := by omega
  congr 1
/-- A later point finds the sum that the point before left. -/
theorem before10 (c : Dev nD) (t : Fin cfg0.N) (h0 : ¬t.val % 64 = 0) (d) :
    (dats m 0 c).before 10 t d = gainAt m c t.val (Nat.le_of_lt t.isLt) := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl), after10]
  have e : t.val - 1 + 1 = t.val := by omega
  congr 1

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 6400000 in
/-- The body at any point: the first copies the weights and zeroes the sums, a later one finds there what the point
before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [after0, after1, after2, after3, after4, after5, after6, after7, after8, after9, after10]
  rw [show (dats m 0 c).Φ t.succ = PhiS m c (t.val + 1) t.isLt from rfl, PhiS_pos m c (t.val + 1) _ (Nat.succ_ne_zero _)]
  rw [show lossAt m c (t.val + 1) t.isLt = lossAfter (rowsAt m c t) (weights m c) (lossAt m c t.val (Nat.le_of_lt t.isLt)) from rfl,
    show gainAt m c (t.val + 1) t.isLt = gainAfter (rowsAt m c t) (weights m c) (gainAt m c t.val (Nat.le_of_lt t.isLt)) from rfl]
  have hN : t.val < 64 := lt_of_lt_of_eq t.isLt (show cfg0.N = 64 from N_0)
  by_cases hz : t.val % 64 = 0
  · have hz' : t.val = 0 := by omega
    rw [Phi_castSucc m c t, PhiS_zero m c _ _ hz', PhiD0_eq, lossAt_zero m c _ _ hz', gainAt_zero m c _ _ hz']
    unfold Dat.owesAt Pipeline.owesWithin
    rw [show (dats m 0 c).owed t.castSucc = 0 from rfl, show (dats m 0 c).owed t.succ = 0 from rfl]
    iintro ⟨⟨⟨HA, HB, HC⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first (rowsAt m c t) c (grid0.coords t) (bufs t) ((hcond0_0 t).mpr hz) (V m c main_v7) W _)
    isplitl [H0 H1 H2 H3 H4 H5 H6 H7 H8 H9 H10 HA HB HC Hq Hh HW]
    · isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [HA]; · iexact HA
      isplitl [HB]; · iexact HB
      isplitl [HC]; · iexact HC
      isplitl [Hq]; · iexact Hq
      isplitl [Hh]; · iexact Hh
      iexact HW
    iintro ⟨⟨H0, H1, H2, H3, H4, H5, H6, H7, H8, H9, H10, HA, HB, HC⟩, Hq, Hh, ⟨%W', HW⟩⟩
    isplitl [HA HB HC Hg Hq Hh]
    · isplitl [HA HB HC]
      · isplitl [HA]; · iexact HA
        isplitl [HB]; · iexact HB
        iexact HC
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Phi_castSucc m c t, PhiS_pos m c _ _ (by omega)]
    simp only [before9 m c t hz, before10 m c t hz]
    rw [show (dats m 0 c).owesAt () t.succ = (dats m 0 c).owesAt () t.castSucc from rfl]
    iintro ⟨⟨⟨HA, HB, HC⟩, Hg, Hq, Hh⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_later (rowsAt m c t) (weights m c) c (grid0.coords t) (bufs t) (fun h => hz ((hcond0_0 t).mp h)) (lossAt m c t.val (Nat.le_of_lt t.isLt)) (gainAt m c t.val (Nat.le_of_lt t.isLt)) _)
    isplitl [H0 H1 H2 H3 H4 H5 H6 H7 H8 H9 H10 HA HB HC]
    · isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexact H9
      isplitl [H10]; · iexact H10
      isplitl [HA]; · iexact HA
      isplitl [HB]; · iexact HB
      iexact HC
    iintro ⟨H0, H1, H2, H3, H4, H5, H6, H7, H8, H9, H10, HA, HB, HC⟩
    isplitl [HA HB HC Hg Hq Hh]
    · isplitl [HA HB HC]
      · isplitl [HA]; · iexact HA
        isplitl [HB]; · iexact HB
        iexact HC
      isplitl [Hg]; · iexact Hg
      isplitl [Hq]; · iexact Hq
      iexact Hh
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body there. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]

/-- After the last point the scratch buffers' contents are forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N (Nat.le_refl _) from rfl,
    PhiS_pos m c _ _ (by have : cfg0.N = 64 := N_0; omega), PhiD0_eq]
  iintro ⟨⟨HA, HB, HC⟩, Hg, Hq, Hh⟩
  isplitl [HA HB HC]
  · isplitl [HA]; · iexists _; iexact HA
    isplitl [HB]; · iexists _; iexact HB
    iexists _; iexact HC
  isplitl [Hg]; · iexact Hg
  isplitl [Hq]; · iexact Hq
  iexact Hh

set_option backward.isDefEq.respectTransparency.types false in
/-- Every execution ends, with each array at what the points left there and every counter at zero. -/
theorem launched : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Ffn

end
-- ==== Proof.Ffn.Spec.lean ====
module

public import Idealize.ShloMosaic.Lib.ValueIdx
public import Idealize.ShloMosaic.PureOps.Ideal.Laws

/-! The feed-forward block and its gradient on ONE row, over the extended reals, with the two facts of real algebra by
which the kernel's formulas and the textbook derivative are the same. A row is a function of the 1024 coordinates; the
weights are read as (hidden unit, coordinate). -/

@[expose] public section

noncomputable section

namespace Cert.Ffn.Spec

open Idealize.ShloMosaic
open scoped BigOperators

/-! ## Constants -/

/-- The row length. -/
abbrev width : EReal := Ideal.ofBits .f32 0x44800000#32
/-- The number added to the mean square. -/
abbrev eps : EReal := Ideal.ofBits .f32 0x358637BD#32
/-- One. -/
abbrev one : EReal := Ideal.ofBits .f32 0x3F800000#32
/-- One divided by the row length. -/
abbrev perWidth : EReal := Ideal.ofBits .f32 0x3A800000#32

theorem coe_prod {a b c : ℝ} (h : a * b = c) : (a : EReal) * (b : EReal) = (c : EReal) := by rw [← EReal.coe_mul, h]

theorem width_eq : width = ((1024 : ℝ) : EReal) := by
  simp [width, Ideal.ofBits, Ideal.ieee]; norm_num; exact coe_prod (by norm_num)
theorem one_eq : one = ((1 : ℝ) : EReal) := by
  simp [one, Ideal.ofBits, Ideal.ieee]; norm_num; exact (coe_prod (by norm_num)).trans EReal.coe_one
theorem perWidth_eq : perWidth = ((1 / 1024 : ℝ) : EReal) := by
  simp [perWidth, Ideal.ofBits, Ideal.ieee]; norm_num; exact coe_prod (by norm_num)
theorem two_eq : Ideal.ofBits .f32 0x40000000#32 = ((2 : ℝ) : EReal) := by
  simp [Ideal.ofBits, Ideal.ieee]; norm_num; exact coe_prod (by norm_num)
theorem half_eq : Ideal.ofBits .f32 0x3F000000#32 = ((1 / 2 : ℝ) : EReal) := by
  simp [Ideal.ofBits, Ideal.ieee]; norm_num; exact coe_prod (by norm_num)
theorem minusHalf_eq : Ideal.ofBits .f32 0xBF000000#32 = ((-(1 / 2) : ℝ) : EReal) := by
  simp [Ideal.ofBits, Ideal.ieee]; norm_num; exact coe_prod (by norm_num)
theorem eps_pos : ∃ e : ℝ, 0 < e ∧ eps = (e : EReal) := by
  refine ⟨8796093 * (1 / 8796093022208), by positivity, ?_⟩
  simp [eps, Ideal.ofBits, Ideal.ieee]; norm_num

/-! ## The block on one row -/

/-- The gain and the three weights. -/
structure Params where
  g : Fin 1024 → EReal
  wg : Fin 2816 → Fin 1024 → EReal
  wu : Fin 2816 → Fin 1024 → EReal
  wd : Fin 2816 → Fin 1024 → EReal

variable (p : Params) (x t : Fin 1024 → EReal)

/-- The mean square plus `eps`. -/
def meanSq : EReal := Ideal.div (∑ k, x k * x k) width + eps
def scale : EReal := Ideal.rsqrt (meanSq x)
def normed (j : Fin 1024) : EReal := x j * scale x
def hid (j : Fin 1024) : EReal := normed x j * p.g j
def gate (f : Fin 2816) : EReal := ∑ k, hid p x k * p.wg f k
def up (f : Fin 2816) : EReal := ∑ k, hid p x k * p.wu f k
def sg (f : Fin 2816) : EReal := Ideal.div one (one + Ideal.exp (-(gate p x f)))
def silu (f : Fin 2816) : EReal := gate p x f * sg p x f
def act (f : Fin 2816) : EReal := silu p x f * up p x f
def err (j : Fin 1024) : EReal := (x j + ∑ f, act p x f * p.wd f j) - t j
def dy (j : Fin 1024) : EReal := err p x t j * perWidth
def dact (f : Fin 2816) : EReal := ∑ j, dy p x t j * p.wd f j
def dgate (f : Fin 2816) : EReal :=
  (dact p x t f * up p x f) * (sg p x f * (one + gate p x f * (one - sg p x f)))
def dup (f : Fin 2816) : EReal := dact p x t f * silu p x f
def dh (j : Fin 1024) : EReal := (∑ f, dgate p x t f * p.wg f j) + ∑ f, dup p x t f * p.wu f j
def dxh (j : Fin 1024) : EReal := dh p x t j * p.g j
def dx (j : Fin 1024) : EReal :=
  dy p x t j + scale x * (dxh p x t j - normed x j * Ideal.div (∑ k, dxh p x t k * normed x k) width)

/-! ## Finite values -/

/-- A value that is neither infinity. -/
def Real' (a : EReal) : Prop := ∃ r : ℝ, a = (r : EReal)

theorem real_coe (r : ℝ) : Real' (r : EReal) := ⟨r, rfl⟩
theorem real_add {a b : EReal} : Real' a → Real' b → Real' (a + b) := by
  rintro ⟨u, rfl⟩ ⟨v, rfl⟩; exact ⟨u + v, by push_cast; rfl⟩
theorem real_sub {a b : EReal} : Real' a → Real' b → Real' (a - b) := by
  rintro ⟨u, rfl⟩ ⟨v, rfl⟩; exact ⟨u - v, by push_cast; rfl⟩
theorem real_mul {a b : EReal} : Real' a → Real' b → Real' (a * b) := by
  rintro ⟨u, rfl⟩ ⟨v, rfl⟩; exact ⟨u * v, by push_cast; rfl⟩
theorem coe_sum {n : ℕ} (u : Fin n → ℝ) : ((∑ k, u k : ℝ) : EReal) = ∑ k, (u k : EReal) := by
  induction n with
  | zero => simp
  | succ n ih => rw [Fin.sum_univ_succ, Fin.sum_univ_succ, EReal.coe_add, ih]
theorem real_sum {n : ℕ} {a : Fin n → EReal} (h : ∀ k, Real' (a k)) : Real' (∑ k, a k) := by
  choose u hu using h
  exact ⟨∑ k, u k, by rw [coe_sum]; exact Finset.sum_congr rfl fun k _ => hu k⟩
theorem div_coe {u v : ℝ} (hv : v ≠ 0) : Ideal.div (u : EReal) (v : EReal) = ((u / v : ℝ) : EReal) := by
  have hv' : (v : EReal) ≠ 0 := by exact_mod_cast hv
  rw [Ideal.div, if_neg hv', div_eq_mul_inv, EReal.coe_mul, EReal.coe_inv]
theorem rsqrt_coe {u : ℝ} (hu : 0 < u) : Ideal.rsqrt (u : EReal) = (((Real.sqrt u)⁻¹ : ℝ) : EReal) := by
  show (if u < 0 then _ else if u = 0 then _ else _) = _
  rw [if_neg (not_lt.mpr hu.le), if_neg hu.ne']
theorem real_one : Real' one := ⟨1, one_eq⟩

theorem meanSq_pos (hx : ∀ k, Real' (x k)) : ∃ m : ℝ, 0 < m ∧ meanSq x = (m : EReal) := by
  choose u hu using hx
  obtain ⟨e, he, hee⟩ := eps_pos
  refine ⟨(∑ k, u k * u k) / 1024 + e, add_pos_of_nonneg_of_pos
    (div_nonneg (Finset.sum_nonneg fun k _ => mul_self_nonneg _) (by norm_num)) he, ?_⟩
  have hs : (∑ k, x k * x k) = ((∑ k, u k * u k : ℝ) : EReal) := by
    rw [coe_sum]; exact Finset.sum_congr rfl fun k _ => by rw [hu k, EReal.coe_mul]
  rw [meanSq, hee, hs, width_eq, div_coe (by norm_num), EReal.coe_add]

/-- Every argument is finite. -/
structure Finite' : Prop where
  x : ∀ k, Real' (x k)
  t : ∀ k, Real' (t k)
  g : ∀ k, Real' (p.g k)
  wg : ∀ f k, Real' (p.wg f k)
  wu : ∀ f k, Real' (p.wu f k)
  wd : ∀ f k, Real' (p.wd f k)

variable {p x t}

theorem real_scale (hx : ∀ k, Real' (x k)) : Real' (scale x) := by
  obtain ⟨m, hm, e⟩ := meanSq_pos x hx
  exact ⟨_, by rw [scale, e, rsqrt_coe hm]⟩
theorem real_normed (hx : ∀ k, Real' (x k)) (j : Fin 1024) : Real' (normed x j) := real_mul (hx j) (real_scale hx)
theorem real_hid (h : Finite' p x t) (j : Fin 1024) : Real' (hid p x j) := real_mul (real_normed h.x j) (h.g j)
theorem real_gate (h : Finite' p x t) (f : Fin 2816) : Real' (gate p x f) :=
  real_sum fun k => real_mul (real_hid h k) (h.wg f k)
theorem real_up (h : Finite' p x t) (f : Fin 2816) : Real' (up p x f) :=
  real_sum fun k => real_mul (real_hid h k) (h.wu f k)
theorem real_sg (h : Finite' p x t) (f : Fin 2816) : Real' (sg p x f) := by
  obtain ⟨u, hu⟩ := real_gate h f
  have he : Ideal.exp (-(u : EReal)) = ((Real.exp (-u) : ℝ) : EReal) := by
    rw [← EReal.coe_neg]; rfl
  refine ⟨1 / (1 + Real.exp (-u)), ?_⟩
  rw [sg, hu, he, one_eq, ← EReal.coe_add, div_coe (by positivity)]
theorem real_silu (h : Finite' p x t) (f : Fin 2816) : Real' (silu p x f) := real_mul (real_gate h f) (real_sg h f)
theorem real_act (h : Finite' p x t) (f : Fin 2816) : Real' (act p x f) := real_mul (real_silu h f) (real_up h f)
theorem real_err (h : Finite' p x t) (j : Fin 1024) : Real' (err p x t j) :=
  real_sub (real_add (h.x j) (real_sum fun f => real_mul (real_act h f) (h.wd f j))) (h.t j)
theorem real_dy (h : Finite' p x t) (j : Fin 1024) : Real' (dy p x t j) := real_mul (real_err h j) ⟨_, perWidth_eq⟩
theorem real_dact (h : Finite' p x t) (f : Fin 2816) : Real' (dact p x t f) :=
  real_sum fun j => real_mul (real_dy h j) (h.wd f j)
theorem real_dgate (h : Finite' p x t) (f : Fin 2816) : Real' (dgate p x t f) :=
  real_mul (real_mul (real_dact h f) (real_up h f))
    (real_mul (real_sg h f) (real_add real_one (real_mul (real_gate h f) (real_sub real_one (real_sg h f)))))
theorem real_dup (h : Finite' p x t) (f : Fin 2816) : Real' (dup p x t f) := real_mul (real_dact h f) (real_silu h f)
theorem real_dh (h : Finite' p x t) (j : Fin 1024) : Real' (dh p x t j) :=
  real_add (real_sum fun f => real_mul (real_dgate h f) (h.wg f j)) (real_sum fun f => real_mul (real_dup h f) (h.wu f j))
theorem real_dxh (h : Finite' p x t) (j : Fin 1024) : Real' (dxh p x t j) := real_mul (real_dh h j) (h.g j)

/-! ## The textbook derivative -/

/-- The derivative of the mean of squares, halved: the factor is applied before or after the error. -/
theorem dy_textbook (e : EReal) :
    Ideal.div (Ideal.ofBits .f32 0x3F000000#32 * Ideal.ofBits .f32 0x3F800000#32) width * (Ideal.ofBits .f32 0x40000000#32 * e)
      = e * perWidth := by
  rw [show Ideal.ofBits .f32 0x3F800000#32 = ((1 : ℝ) : EReal) from one_eq, half_eq, two_eq, width_eq, perWidth_eq,
    ← EReal.coe_mul, div_coe (by norm_num), ← mul_assoc, ← EReal.coe_mul, mul_comm]
  norm_num

/-- The derivative of `gate * sg` as the sum of its two parts. -/
theorem dgate_textbook (h : Finite' p x t) (f : Fin 2816) :
    (dact p x t f * up p x f) * sg p x f + (gate p x f * (dact p x t f * up p x f)) * (sg p x f * (one - sg p x f))
      = dgate p x t f := by
  unfold dgate
  obtain ⟨a, ha⟩ := real_gate h f
  obtain ⟨s, hs⟩ := real_sg h f
  obtain ⟨c, hc⟩ := real_mul (real_dact h f) (real_up h f)
  rw [hc, ha, hs, one_eq]
  norm_cast
  ring

/-- The derivative of the normalisation, written out from the two places a coordinate enters it. -/
theorem dx_textbook (h : Finite' p x t) (j : Fin 1024)
    (q : EReal) (hq : q = Ideal.div ((∑ k, x k * dxh p x t k) * (Ideal.ofBits .f32 0xBF000000#32 * Ideal.div (scale x) (meanSq x))) width) :
    dy p x t j + ((dxh p x t j * scale x + x j * q) + q * x j) = dx p x t j := by
  unfold dx normed
  refine congrArg (dy p x t j + ·) ?_
  obtain ⟨m, hm, em⟩ := meanSq_pos x h.x
  have er : scale x = (((Real.sqrt m)⁻¹ : ℝ) : EReal) := by rw [scale, em, rsqrt_coe hm]
  choose u hu using h.x
  choose d hd using real_dxh h
  have hr : (Real.sqrt m)⁻¹ * (Real.sqrt m)⁻¹ = m⁻¹ := by
    rw [← mul_inv, Real.mul_self_sqrt hm.le]
  generalize (Real.sqrt m)⁻¹ = r at er hr
  have hs : (∑ k, x k * dxh p x t k) = ((∑ k, u k * d k : ℝ) : EReal) := by
    rw [coe_sum]; exact Finset.sum_congr rfl fun k _ => by rw [hu k, hd k, EReal.coe_mul]
  have hs' : (∑ k, dxh p x t k * (x k * scale x)) = ((r * ∑ k, u k * d k : ℝ) : EReal) := by
    rw [Finset.mul_sum, coe_sum]
    exact Finset.sum_congr rfl fun k _ => by
      rw [hu k, hd k, er, ← EReal.coe_mul, ← EReal.coe_mul]; congr 1; ring
  rw [hs, er, em, div_coe hm.ne', minusHalf_eq, width_eq, ← EReal.coe_mul, ← EReal.coe_mul, div_coe (by norm_num)] at hq
  rw [hs', er, hq, hu j, hd j, width_eq, div_coe (by norm_num)]
  norm_cast
  rw [div_eq_mul_inv r m, ← hr]
  ring

end Cert.Ffn.Spec

end
-- ==== Proof.Ffn.KernelRows.lean ====
module

public import proofs.«01_k».proof.Proof.Ffn.Body
public import proofs.«01_k».proof.Proof.Ffn.Spec
public import Idealize.ShloMosaic.Lib.MatmulPlain

/-! What one point of the feed-forward kernel computes over the extended reals, read row by row: each block is the
formula of `Spec` at the block's rows. -/

@[expose] public section

set_option maxRecDepth 16384

noncomputable section

namespace Cert.Ffn

open Cert.Kernel2Ideal Cert.Kernel2Ideal.Gen
open Idealize.ShloMosaic Idealize.ShloMosaic.ValueIdx
open scoped BigOperators

/-! ## Products, sums and changes of shape at an index -/

theorem product_tr (a : FVec Ideal S256x1024 .bf16) (b : FVec Ideal S2816x1024 .bf16) (i : Fin 256) (f : Fin 2816) :
    matmul dot_S256x1024_S2816x1024_S256x2816_1_1_0_0_n_n none a b (constant S256x2816 .f32 0x00000000#32) (ix2 i f)
      = ∑ k : Fin 1024, a (ix2 i k) * b (ix2 f k) := by
  refine (Ideal.matmul_transposedRhs_apply (M := 256) (K := 1024) (N := 2816) none a b _ i f).trans ?_
  rw [constant_apply, Ideal.ofBits_zero_f32, zero_add]

theorem product_plain (a : FVec Ideal S256x2816 .bf16) (b : FVec Ideal S2816x1024 .bf16) (i : Fin 256) (j : Fin 1024) :
    matmul dot_S256x2816_S2816x1024_S256x1024_1_0_0_1_n_n none a b (constant S256x1024 .f32 0x00000000#32) (ix2 i j)
      = ∑ f : Fin 2816, a (ix2 i f) * b (ix2 f j) := by
  refine (Ideal.matmul_plain_apply (M := 256) (K := 2816) (N := 1024) none a b _ i j).trans ?_
  rw [constant_apply, Ideal.ofBits_zero_f32, zero_add]

theorem rowSum (a : FVec Ideal S256x1024 .f32) (h hφ hacc) (i : Fin 256) :
    multiReduction (F := Ideal) .add [1] S256 a 0x00000000#32 h hφ hacc (ix1 i) = ∑ k : Fin 1024, a (ix2 i k) :=
  (Ideal.multiReduction_add_single a _ h hφ hacc (ix1 i)).trans (Finset.sum_congr rfl fun k _ =>
    congrArg a (funext fun d => Fin.ext (match d with | ⟨0, _⟩ => rfl | ⟨1, _⟩ => rfl)))

theorem colSum (a : FVec Ideal S256x1024 .f32) (h hφ hacc) (j : Fin 1024) :
    multiReduction (F := Ideal) .add [0] S1024 a 0x00000000#32 h hφ hacc (ix1 j) = ∑ i : Fin 256, a (ix2 i j) :=
  (Ideal.multiReduction_add_single a _ h hφ hacc (ix1 j)).trans (Finset.sum_congr rfl fun k _ =>
    congrArg a (funext fun d => Fin.ext (match d with | ⟨0, _⟩ => rfl | ⟨1, _⟩ => rfl)))

theorem column {α : Type} (a : S256.Idx → α) (h : S256.ShapeCasts S256x1) (i : Fin 256) (z : Fin 1) :
    shapeCast S256x1 a h (ix2 i z) = a (ix1 i) :=
  shapeCast_apply a h (ix2 i z) (ix1 i) (by
    rewrite [Shape.rowMajor_val_two, Shape.rowMajor_val_one]
    have := z.isLt
    show i.val = i.val * 1 + z.val; omega)

theorem asRow {α : Type} (a : S1024.Idx → α) (h : S1024.ShapeCasts S1x1024) (z : Fin 1) (j : Fin 1024) :
    shapeCast S1x1024 a h (ix2 z j) = a (ix1 j) :=
  shapeCast_apply a h (ix2 z j) (ix1 j) (by
    rewrite [Shape.rowMajor_val_two, Shape.rowMajor_val_one]
    have := z.isLt
    show j.val = z.val * 1024 + j.val; omega)

theorem sameRow {α : Type} (a : S1x1024.Idx → α) (h : S1x1024.ShapeCasts S1x1024) (j : S1x1024.Idx) :
    shapeCast S1x1024 a h j = a j := shapeCast_apply a h j j rfl

theorem rowsOf {α : Type} (a : S1x1024.Idx → α) (h : S1x1024.Broadcasts S256x1024) (i : Fin 256) (j : Fin 1024) :
    broadcastTo S256x1024 a h (ix2 i j) = a (ix2 0 j) :=
  broadcastTo_apply a h (ix2 i j) (ix2 0 j) fun d => match d with | ⟨0, _⟩ => rfl | ⟨1, _⟩ => rfl

theorem colsOf {α : Type} (a : S256x1.Idx → α) (h : S256x1.Broadcasts S256x1024) (i : Fin 256) (j : Fin 1024) :
    broadcastTo S256x1024 a h (ix2 i j) = a (ix2 i 0) :=
  broadcastTo_apply a h (ix2 i j) (ix2 i 0) fun d => match d with | ⟨0, _⟩ => rfl | ⟨1, _⟩ => rfl

/-! ## The point's blocks -/

variable (v : Vals Ideal) (w : Weights Ideal)

/-- Row `i` of a block of rows. -/
def rowOf (a : Vec Ideal S256x1024 .f32) (i : Fin 256) : Fin 1024 → EReal := fun k => a (ix2 i k)

/-- The gain and the weights as `Spec` takes them. -/
def params : Spec.Params where
  g := fun j => v.g (ix2 0 j)
  wg := fun f k => w.wg (ix2 f k)
  wu := fun f k => w.wu (ix2 f k)
  wd := fun f k => w.wd (ix2 f k)

theorem scale_at (i : Fin 256) (z : Fin 1) : k0_pay7 v.x (ix2 i z) = Spec.scale (rowOf v.x i) := by
  show Ideal.rsqrt (Ideal.div (shapeCast S256x1 _ _ (ix2 i z)) Spec.width + Spec.eps) = _
  exact congrArg (fun s => Ideal.rsqrt (Ideal.div s Spec.width + Spec.eps)) ((column _ shapeCasts_S256_S256x1 i z).trans
    (rowSum (mulf v.x v.x) reduces_S256x1024_S256 (.inl rfl) rfl i))

theorem normed_at (i : Fin 256) (j : Fin 1024) : k0_pay8 v.x (ix2 i j) = Spec.normed (rowOf v.x i) j := by
  show v.x (ix2 i j) * broadcastTo S256x1024 (k0_pay7 v.x) _ (ix2 i j) = _
  rw [colsOf, scale_at]; rfl

theorem hid_at (i : Fin 256) (j : Fin 1024) : k0_pay9 v.x v.g (ix2 i j) = Spec.hid (params v w) (rowOf v.x i) j := by
  show k0_pay8 v.x (ix2 i j) * broadcastTo S256x1024 v.g _ (ix2 i j) = _
  rw [rowsOf, normed_at]; rfl

theorem gate_at (i : Fin 256) (f : Fin 2816) : gate v w (ix2 i f) = Spec.gate (params v w) (rowOf v.x i) f := by
  refine (product_tr (k0_pay9 v.x v.g) w.wg i f).trans (Finset.sum_congr rfl fun k _ => ?_)
  rw [hid_at v w]; rfl

theorem up_at (i : Fin 256) (f : Fin 2816) : up v w (ix2 i f) = Spec.up (params v w) (rowOf v.x i) f := by
  refine (product_tr (k0_pay9 v.x v.g) w.wu i f).trans (Finset.sum_congr rfl fun k _ => ?_)
  rw [hid_at v w]; rfl

theorem sig_at (i : Fin 256) (f : Fin 2816) : sig' v w (ix2 i f) = Spec.sg (params v w) (rowOf v.x i) f := by
  show Ideal.div Spec.one (Spec.one + Ideal.exp (Ideal.ofBits .f32 0x00000000#32 - gate v w (ix2 i f))) = _
  rw [Ideal.ofBits_zero_f32, zero_sub, gate_at]; rfl

theorem silu_at (i : Fin 256) (f : Fin 2816) : silu v w (ix2 i f) = Spec.silu (params v w) (rowOf v.x i) f :=
  congrArg₂ (· * ·) (gate_at v w i f) (sig_at v w i f)

theorem act_at (i : Fin 256) (f : Fin 2816) : act v w (ix2 i f) = Spec.act (params v w) (rowOf v.x i) f :=
  congrArg₂ (· * ·) (silu_at v w i f) (up_at v w i f)

theorem err_at (i : Fin 256) (j : Fin 1024) :
    k0_pay15 v.x (act v w) w.wd v.t (ix2 i j) = Spec.err (params v w) (rowOf v.x i) (rowOf v.t i) j := by
  show (v.x (ix2 i j) + matmul (F := Ideal) dot_S256x2816_S2816x1024_S256x1024_1_0_0_1_n_n none (act v w) w.wd (constant S256x1024 .f32 0x00000000#32) (ix2 i j)) - v.t (ix2 i j) = _
  rw [product_plain]
  refine congrArg (fun s => (v.x (ix2 i j) + s) - v.t (ix2 i j)) (Finset.sum_congr rfl fun f _ => ?_)
  rw [act_at]; rfl

theorem dy_at (i : Fin 256) (j : Fin 1024) : dy v w (ix2 i j) = Spec.dy (params v w) (rowOf v.x i) (rowOf v.t i) j :=
  congrArg (· * Spec.perWidth) (err_at v w i j)

theorem dyb_at (i : Fin 256) (j : Fin 1024) : dyb v w (ix2 i j) = Spec.dy (params v w) (rowOf v.x i) (rowOf v.t i) j :=
  dy_at v w i j

theorem dact_at (i : Fin 256) (f : Fin 2816) :
    k0_pay19 v.x (act v w) w.wd v.t w.wd (ix2 i f) = Spec.dact (params v w) (rowOf v.x i) (rowOf v.t i) f := by
  refine (product_tr (dyb v w) w.wd i f).trans (Finset.sum_congr rfl fun k _ => ?_)
  rw [dyb_at v w]; rfl

theorem dgate_at (i : Fin 256) (f : Fin 2816) : dgate v w (ix2 i f) = Spec.dgate (params v w) (rowOf v.x i) (rowOf v.t i) f := by
  show (k0_pay19 v.x (act v w) w.wd v.t w.wd (ix2 i f) * up v w (ix2 i f))
    * (sig' v w (ix2 i f) * (Spec.one + gate v w (ix2 i f) * (Spec.one - sig' v w (ix2 i f)))) = _
  rw [dact_at, up_at, sig_at, gate_at]; rfl

theorem dup_at (i : Fin 256) (f : Fin 2816) : dup v w (ix2 i f) = Spec.dup (params v w) (rowOf v.x i) (rowOf v.t i) f :=
  congrArg₂ (· * ·) (dact_at v w i f) (silu_at v w i f)

theorem dh_at (i : Fin 256) (j : Fin 1024) :
    k0_pay1 (dgate v w) (dup v w) w.wg w.wu (ix2 i j) = Spec.dh (params v w) (rowOf v.x i) (rowOf v.t i) j := by
  refine congrArg₂ (· + ·) ((product_plain (dgate v w) w.wg i j).trans (Finset.sum_congr rfl fun f _ => ?_))
    ((product_plain (dup v w) w.wu i j).trans (Finset.sum_congr rfl fun f _ => ?_))
  · rw [dgate_at]; rfl
  · rw [dup_at]; rfl

theorem dx_at (i : Fin 256) (j : Fin 1024) : dx v w (ix2 i j) = Spec.dx (params v w) (rowOf v.x i) (rowOf v.t i) j := by
  have hd : ∀ k : Fin 1024, mulf (F := Ideal) (k0_pay1 (dgate v w) (dup v w) w.wg w.wu) (broadcastTo S256x1024 v.g broadcasts_S1x1024_S256x1024) (ix2 i k)
      = Spec.dxh (params v w) (rowOf v.x i) (rowOf v.t i) k := fun k => by
    rw [mulf_apply, rowsOf, dh_at]; rfl
  have hs : ∀ z : Fin 1, _ = ∑ k, Spec.dxh (params v w) (rowOf v.x i) (rowOf v.t i) k * Spec.normed (rowOf v.x i) k := fun z =>
    (column _ shapeCasts_S256_S256x1 i z).trans ((rowSum (mulf (mulf (F := Ideal) (k0_pay1 (dgate v w) (dup v w) w.wg w.wu)
      (broadcastTo S256x1024 v.g broadcasts_S1x1024_S256x1024)) (k0_pay8 v.x)) reduces_S256x1024_S256 (.inl rfl) rfl i).trans
      (Finset.sum_congr rfl fun k _ => congrArg₂ (· * ·) (hd k) (normed_at v i k)))
  refine congrArg₂ (· + ·) (dy_at v w i j) (congrArg₂ (· * ·) ((colsOf _ _ i j).trans (scale_at v i 0))
    (congrArg₂ (· - ·) (hd j) (congrArg₂ (· * ·) (normed_at v i j) ((colsOf _ _ i j).trans (congrArg (Ideal.div · Spec.width) (hs 0))))))

theorem dxb_at (i : Fin 256) (j : Fin 1024) : dxb v w (ix2 i j) = Spec.dx (params v w) (rowOf v.x i) (rowOf v.t i) j :=
  dx_at v w i j

theorem lossAfter_at (l : Vec Ideal S1x1024 .f32) (z : Fin 1) (j : Fin 1024) :
    lossAfter v w l (ix2 z j) = l (ix2 z j) + ∑ i : Fin 256,
      Spec.err (params v w) (rowOf v.x i) (rowOf v.t i) j * Spec.err (params v w) (rowOf v.x i) (rowOf v.t i) j := by
  exact congrArg₂ (· + ·) (sameRow l _ _) ((asRow _ _ z j).trans ((colSum _ reduces_S256x1024_S1024 (.inl rfl) rfl j).trans
    (Finset.sum_congr rfl fun i _ => congrArg₂ (· * ·) (err_at v w i j) (err_at v w i j))))

theorem gainAfter_at (l : Vec Ideal S1x1024 .f32) (z : Fin 1) (j : Fin 1024) :
    gainAfter v w l (ix2 z j) = l (ix2 z j) + ∑ i : Fin 256,
      Spec.dh (params v w) (rowOf v.x i) (rowOf v.t i) j * Spec.normed (rowOf v.x i) j := by
  exact congrArg₂ (· + ·) (sameRow l _ _) ((asRow _ _ z j).trans ((colSum _ reduces_S256x1024_S1024 (.inl rfl) rfl j).trans
    (Finset.sum_congr rfl fun i _ => congrArg₂ (· * ·) (dh_at v w i j) (normed_at v i j))))

/-- The gradients of the hidden features side by side: the gate's in the first 2816 columns, the up projection's after. -/
theorem both_at (i : Fin 256) (q : Fin 5632) :
    both v w (ix2 i q) = if h : q.val < 2816 then dgate v w (ix2 i ⟨q.val, h⟩)
      else dup v w (ix2 i ⟨q.val - 2816, by have := q.isLt; omega⟩) := by
  unfold both
  refine View.read_writes_apply_of_pieces VO0_7 _ (fun y : S256x5632.Idx => if h : (y 1).val < 2816 then dgate v w (ix2 (y 0) ⟨(y 1).val, h⟩)
      else dup v w (ix2 (y 0) ⟨(y 1).val - 2816, by have : (y 1).val < 5632 := (y 1).isLt; omega⟩)) (sides v w) ?_ (ix2 i q) (sides_cover v w (ix2 i q))
  intro p hp x
  have hx0 : (x 0).val = (x 0).val := rfl
  rcases List.mem_cons.1 hp with rfl | hp
  · have h1 : ¬ ((Rect.unit (s := S256x5632) ![0, 2816] S256x2816.size inb_S256x5632_S256x2816_0_2816).emb x 1).val < 2816 := by
      show ¬ 2816 + 1 * (x 1).val < 2816; omega
    show dup v w x = dite _ _ _
    rw [dif_neg h1]
    refine congrArg (dup v w) (funext fun d => Fin.ext ?_)
    match d with
    | ⟨0, _⟩ => show (x 0).val = 0 + 1 * (x 0).val; omega
    | ⟨1, _⟩ => show (x 1).val = 2816 + 1 * (x 1).val - 2816; omega
  · rcases List.mem_cons.1 hp with rfl | hp
    · have hlt : (x 1).val < 2816 := (x 1).isLt
      have h1 : ((Rect.unit (s := S256x5632) ![0, 0] S256x2816.size inb_S256x5632_S256x2816_0_0).emb x 1).val < 2816 := by
        show 0 + 1 * (x 1).val < 2816; omega
      show dgate v w x = dite _ _ _
      rw [dif_pos h1]
      refine congrArg (dgate v w) (funext fun d => Fin.ext ?_)
      match d with
      | ⟨0, _⟩ => show (x 0).val = 0 + 1 * (x 0).val; omega
      | ⟨1, _⟩ => show (x 1).val = 0 + 1 * (x 1).val; omega
    · exact absurd hp List.not_mem_nil

end Cert.Ffn

end
-- ==== Proof.Ffn.RefRows.lean ====
module

public import proofs.«01_k».proof.Proof.Gen.Reference2Ideal.Read
public import proofs.«01_k».proof.Proof.Ffn.Spec

/-! What the reference computes over the extended reals, read row by row: each array is the formula of `Spec` at the
rows of its arguments. The gradient of the gate and of the input need finite arguments. -/

@[expose] public section

set_option maxRecDepth 16384

noncomputable section

namespace Cert.FfnRef

open Cert.Reference2Ideal Cert.Reference2Ideal.Gen Cert.Reference2Ideal.Read
open Idealize.ShloMosaic Idealize.ShloMosaic.ValueIdx
open Cert.Ffn
open scoped BigOperators

/-- The arguments: an array of rows, the two wide weights, the tall one, and the gain. -/
abbrev Rows : Type := (⟨S16384x1024, .f32⟩ : BufTy).Contents (Elt Ideal)
abbrev Wide : Type := (⟨S1024x2816, .f32⟩ : BufTy).Contents (Elt Ideal)
abbrev Tall : Type := (⟨S2816x1024, .f32⟩ : BufTy).Contents (Elt Ideal)
abbrev Gain : Type := (⟨S1x1024, .f32⟩ : BufTy).Contents (Elt Ideal)

/-- Row `n` of an array of rows. -/
def rowOf (a : Rows) (n : Fin 16384) : Fin 1024 → EReal := fun k => a (ix2 n k)

/-- The gain and the weights as `Spec` takes them. -/
def params (x3 x4 : Wide) (x5 : Tall) (x6 : Gain) : Spec.Params where
  g := fun j => x6 (ix2 0 j)
  wg := fun f k => x3 (ix2 k f)
  wu := fun f k => x4 (ix2 k f)
  wd := fun f k => x5 (ix2 f k)

variable (x0 x1 : Rows) (x3 x4 : Wide) (x5 : Tall) (x6 : Gain)

theorem zero_cst (i : S_.Idx) : val_main_cst (F := Ideal) i = 0 := Ideal.ofBits_zero_f32

theorem meanSq_at (i : S16384x1.Idx) : val_main_v7 (F := Ideal) x0 i = Spec.meanSq (rowOf x0 (i 0)) := by
  rw [val_main_v7_apply, val_main_v5_apply, val_main_v3_apply, val_main_v2_apply, zero_cst, zero_add, val_main_v4_apply, val_main_v6_apply]
  refine congrArg (fun s => Ideal.div s _ + _) (Finset.sum_congr rfl fun k _ => ?_)
  rw [val_main_v1_apply, eq_ix2 (idx_main_v2 (idx_main_v3 i) k)]; rfl

theorem scale_at (i : S16384x1.Idx) : val_main_v8 (F := Ideal) x0 i = Spec.scale (rowOf x0 (i 0)) := by
  rw [val_main_v8_apply, meanSq_at]; rfl

theorem normed_at (i : S16384x1024.Idx) : val_main_v13 (F := Ideal) x0 i = Spec.normed (rowOf x0 (i 0)) (i 1) := by
  rw [val_main_v13_apply, val_main_v12_apply, scale_at]
  exact congrArg (fun y => x0 y * Spec.scale (rowOf x0 (i 0))) (eq_ix2 i)

theorem gain_at (i : S16384x1024.Idx) : val_main_v15 (F := Ideal) x6 i = x6 (ix2 0 (i 1)) := by
  rw [val_main_v15_apply, val_main_v14_apply, val_main_v0_apply]
  refine congrArg x6 (funext fun a => Fin.ext ?_)
  match a with
  | ⟨0, _⟩ => rfl
  | ⟨1, _⟩ => exact Nat.mod_eq_of_lt (i 1).isLt

theorem gain_at' (i : S16384x1024.Idx) : val_main_v48 (F := Ideal) x6 i = x6 (ix2 0 (i 1)) := by
  rw [val_main_v48_apply, val_main_v14_apply, val_main_v0_apply]
  refine congrArg x6 (funext fun a => Fin.ext ?_)
  match a with
  | ⟨0, _⟩ => rfl
  | ⟨1, _⟩ => exact Nat.mod_eq_of_lt (i 1).isLt

theorem hid_at (i : S16384x1024.Idx) : val_main_v16 (F := Ideal) x0 x6 i = Spec.hid (params x3 x4 x5 x6) (rowOf x0 (i 0)) (i 1) := by
  rw [val_main_v16_apply, normed_at, gain_at]; rfl

theorem gate_at (i : S16384x2816.Idx) : val_main_v17 (F := Ideal) x0 x3 x6 i = Spec.gate (params x3 x4 x5 x6) (rowOf x0 (i 0)) (i 1) := by
  rw [val_main_v17_apply]
  refine Finset.sum_congr rfl fun k _ => ?_
  rw [hid_at x0 x3 x4 x5 x6, eq_ix2 (ridx_main_v17 i k)]; rfl

theorem up_at (i : S16384x2816.Idx) : val_main_v18 (F := Ideal) x0 x4 x6 i = Spec.up (params x3 x4 x5 x6) (rowOf x0 (i 0)) (i 1) := by
  rw [val_main_v18_apply]
  refine Finset.sum_congr rfl fun k _ => ?_
  rw [hid_at x0 x3 x4 x5 x6, eq_ix2 (ridx_main_v18 i k)]; rfl

theorem sg_at (i : S16384x2816.Idx) : val_main_v19_2 (F := Ideal) x0 x3 x6 i = Spec.sg (params x3 x4 x5 x6) (rowOf x0 (i 0)) (i 1) := by
  rw [val_main_v19_2_apply, val_main_call0_v3_apply, val_main_call0_v1_apply, val_main_call0_v0_apply, gate_at x0 x3 x4 x5 x6,
    val_main_call0_v4_apply, val_main_call0_v2_apply]; rfl

theorem silu_at (i : S16384x2816.Idx) : val_main_v19_0 (F := Ideal) x0 x3 x6 i = Spec.silu (params x3 x4 x5 x6) (rowOf x0 (i 0)) (i 1) := by
  rw [val_main_v19_0_apply, gate_at x0 x3 x4 x5 x6, sg_at x0 x3 x4 x5 x6]; rfl

theorem act_at (i : S16384x2816.Idx) : val_main_v20 (F := Ideal) x0 x3 x4 x6 i = Spec.act (params x3 x4 x5 x6) (rowOf x0 (i 0)) (i 1) := by
  rw [val_main_v20_apply, silu_at x0 x3 x4 x5 x6, up_at x0 x3 x4 x5 x6]; rfl

theorem sum_at (i : S16384x1024.Idx) :
    val_main_v22 (F := Ideal) x0 x3 x4 x5 x6 i = x0 i + ∑ f, Spec.act (params x3 x4 x5 x6) (rowOf x0 (i 0)) f * (params x3 x4 x5 x6).wd f (i 1) := by
  rw [val_main_v22_apply, val_main_v21_apply]
  refine congrArg (x0 i + ·) (Finset.sum_congr rfl fun f _ => ?_)
  rw [act_at x0 x3 x4 x5 x6, eq_ix2 (ridx_main_v21 i f)]; rfl

theorem err_at (i : S16384x1024.Idx) :
    val_main_v23 (F := Ideal) x0 x1 x3 x4 x5 x6 i = Spec.err (params x3 x4 x5 x6) (rowOf x0 (i 0)) (rowOf x1 (i 0)) (i 1) := by
  rw [val_main_v23_apply, sum_at]
  exact congrArg₂ (fun u v => (x0 u + _) - x1 v) (eq_ix2 i) (eq_ix2 i)

theorem err_at' (i : S16384x1024.Idx) :
    val_main_v66 (F := Ideal) x0 x1 x3 x4 x5 x6 i = Spec.err (params x3 x4 x5 x6) (rowOf x0 (i 0)) (rowOf x1 (i 0)) (i 1) := by
  rw [val_main_v66_apply, sum_at]
  exact congrArg₂ (fun u v => (x0 u + _) - x1 v) (eq_ix2 i) (eq_ix2 i)

theorem dy_at (i : S16384x1024.Idx) :
    val_main_v37 (F := Ideal) x0 x1 x3 x4 x5 x6 i = Spec.dy (params x3 x4 x5 x6) (rowOf x0 (i 0)) (rowOf x1 (i 0)) (i 1) := by
  rw [val_main_v37_apply, val_main_v36_apply, val_main_v35_apply, val_main_v33_apply, val_main_v34_apply, val_main_v32_apply,
    val_main_v26_apply, err_at, val_main_v25_apply]
  exact Spec.dy_textbook _

theorem dact_at (i : S16384x2816.Idx) :
    val_main_v38 (F := Ideal) x0 x1 x3 x4 x5 x6 i = Spec.dact (params x3 x4 x5 x6) (rowOf x0 (i 0)) (rowOf x1 (i 0)) (i 1) := by
  rw [val_main_v38_apply]
  refine Finset.sum_congr rfl fun k _ => ?_
  rw [dy_at, eq_ix2 (ridx_main_v38 i k)]; rfl

theorem dup_at (i : S16384x2816.Idx) :
    val_main_v39 (F := Ideal) x0 x1 x3 x4 x5 x6 i = Spec.dup (params x3 x4 x5 x6) (rowOf x0 (i 0)) (rowOf x1 (i 0)) (i 1) := by
  rw [val_main_v39_apply, silu_at x0 x3 x4 x5 x6, dact_at]; exact mul_comm _ _

/-- Every argument is finite, row by row. -/
def AllFinite : Prop := ∀ n : Fin 16384, Spec.Finite' (params x3 x4 x5 x6) (rowOf x0 n) (rowOf x1 n)

variable (hf : AllFinite x0 x1 x3 x4 x5 x6)
include hf

theorem dgate_at (i : S16384x2816.Idx) :
    val_main_v41 (F := Ideal) x0 x1 x3 x4 x5 x6 i = Spec.dgate (params x3 x4 x5 x6) (rowOf x0 (i 0)) (rowOf x1 (i 0)) (i 1) := by
  rw [val_main_v41_apply, val_main_call1_v1_apply, val_main_call1_v2_apply, val_main_call1_v0_apply, val_main_v40_apply,
    val_main_v19_1_apply, val_main_call0_v7_apply, val_main_call0_v6_apply,
    dact_at, up_at x0 x3 x4 x5 x6, gate_at x0 x3 x4 x5 x6, sg_at x0 x3 x4 x5 x6]
  exact Spec.dgate_textbook (hf (i 0)) (i 1)

theorem dh_at (i : S16384x1024.Idx) :
    val_main_v44 (F := Ideal) x0 x1 x3 x4 x5 x6 i = Spec.dh (params x3 x4 x5 x6) (rowOf x0 (i 0)) (rowOf x1 (i 0)) (i 1) := by
  rw [val_main_v44_apply, val_main_v42_apply, val_main_v43_apply]
  refine (add_comm _ _).trans (congrArg₂ (· + ·) (Finset.sum_congr rfl fun f _ => ?_) (Finset.sum_congr rfl fun f _ => ?_))
  · rw [dgate_at x0 x1 x3 x4 x5 x6 hf, eq_ix2 (ridx_main_v43 i f)]; rfl
  · rw [dup_at, eq_ix2 (ridx_main_v42 i f)]; rfl

theorem dxh_at (i : S16384x1024.Idx) :
    val_main_v49 (F := Ideal) x0 x1 x3 x4 x5 x6 i = Spec.dxh (params x3 x4 x5 x6) (rowOf x0 (i 0)) (rowOf x1 (i 0)) (i 1) := by
  rw [val_main_v49_apply, dh_at x0 x1 x3 x4 x5 x6 hf, gain_at']; rfl

theorem dx_at (i : S16384x1024.Idx) :
    val_main_v65 (F := Ideal) x0 x1 x3 x4 x5 x6 i = Spec.dx (params x3 x4 x5 x6) (rowOf x0 (i 0)) (rowOf x1 (i 0)) (i 1) := by
  rw [val_main_v65_apply, val_main_v64_apply, val_main_v63_apply, val_main_v62_apply, val_main_v61_apply, val_main_v55_apply,
    val_main_v54_apply, dy_at, dxh_at x0 x1 x3 x4 x5 x6 hf, scale_at]
  have hx : x0 i = rowOf x0 (i 0) (i 1) := congrArg x0 (eq_ix2 i)
  rw [hx]
  refine Spec.dx_textbook (hf (i 0)) (i 1) _ ?_
  rw [val_main_v60_apply, val_main_v59_apply, show val_main_cst_15 (F := Ideal) (Shape.Idx.first h_S_) = 0 from Ideal.ofBits_zero_f32,
    zero_add, Fin.sum_univ_one, val_main_v58_apply, val_main_v56_apply, val_main_v53_apply, val_main_v52_apply,
    show val_main_cst_13 (F := Ideal) (Shape.Idx.first h_S_) = 0 from Ideal.ofBits_zero_f32, zero_add,
    val_main_v11_apply, val_main_v10_apply, val_main_v9_apply, scale_at, meanSq_at, val_main_v57_apply]
  refine congrArg (fun s => Ideal.div (s * _) _) (Finset.sum_congr rfl fun k _ => ?_)
  have e : idx_main_v52 (idx_main_v53 (idx_main_v59 (idx_main_v60 i) 0)) k = (ix2 (i 0) k : S16384x1024.Idx) :=
    funext fun a => Fin.ext (match a with
      | ⟨0, _⟩ => by show (i 0).val * 1 + 0 = (i 0).val; omega
      | ⟨1, _⟩ => rfl)
  rw [e]
  exact (val_main_v51_apply x0 x1 x3 x4 x5 x6 (ix2 (i 0) k)).trans
    (congrArg (fun u : EReal => x0 (ix2 (i 0) k) * u) (dxh_at x0 x1 x3 x4 x5 x6 hf (ix2 (i 0) k)))

theorem gainSum_at (i : S1x1024.Idx) :
    val_main_v76 (F := Ideal) x0 x1 x3 x4 x5 x6 i
      = ∑ n : Fin 16384, Spec.dh (params x3 x4 x5 x6) (rowOf x0 n) (rowOf x1 n) (i 1) * Spec.normed (rowOf x0 n) (i 1) := by
  rw [val_main_v76_apply, val_main_v50_apply, show val_main_cst_12 (F := Ideal) (Shape.Idx.first h_S_) = 0 from Ideal.ofBits_zero_f32,
    zero_add, Fin.sum_univ_one, val_main_v47_apply, val_main_v46_apply,
    show val_main_cst_11 (F := Ideal) (Shape.Idx.first h_S_) = 0 from Ideal.ofBits_zero_f32, zero_add]
  have hi : ∀ k : Fin 16384, idx_main_v46 (idx_main_v47 (idx_main_v50 (idx_main_v76 i) 0)) k = (ix2 k (i 1) : S16384x1024.Idx) := fun k =>
    funext fun a => Fin.ext (match a with
      | ⟨0, _⟩ => rfl
      | ⟨1, _⟩ => by
        have h1 : (i 1).val < 1024 := (i 1).isLt
        show 0 * 1024 + (i 1).val = (i 1).val; omega)
  refine Finset.sum_congr rfl fun n _ => ?_
  rw [hi]
  refine (val_main_v45_apply x0 x1 x3 x4 x5 x6 (ix2 n (i 1))).trans ((congrArg₂ (· * ·) (normed_at x0 (ix2 n (i 1)))
    (dh_at x0 x1 x3 x4 x5 x6 hf (ix2 n (i 1)))).trans (mul_comm _ _))

omit hf

theorem lossSum_at (i : S1x1024.Idx) :
    val_main_v75 (F := Ideal) x0 x1 x3 x4 x5 x6 i
      = ∑ n : Fin 16384, Spec.err (params x3 x4 x5 x6) (rowOf x0 n) (rowOf x1 n) (i 1) * Spec.err (params x3 x4 x5 x6) (rowOf x0 n) (rowOf x1 n) (i 1) := by
  rw [val_main_v75_apply, val_main_v74_apply, show val_main_cst_16 (F := Ideal) (Shape.Idx.first h_S_) = 0 from Ideal.ofBits_zero_f32, zero_add]
  refine Finset.sum_congr rfl fun n _ => ?_
  rw [val_main_v67_apply, err_at']; rfl

end Cert.FfnRef

end
-- ==== Proof.Ffn.Gather.lean ====
module

public import proofs.«01_k».proof.Proof.Ffn.Launch
public import proofs.«01_k».proof.Proof.Ffn.KernelRows
public import proofs.«01_k».proof.Proof.Ffn.RefRows
public import Idealize.ShloMosaic.Lib.Pipeline.Value
public import Idealize.ShloMosaic.Lib.Pointwise.SelectCore

/-! The weights that the kernel copies at its first point are the problem's: the host lays the shards of the four weights
one under another, and the copies take the rows of each out again. -/

@[expose] public section

set_option maxRecDepth 16384

noncomputable section

namespace Cert.Ffn

open Cert.Kernel2Ideal Cert.Kernel2Ideal.Gen
open Idealize.ShloMosaic hiding ix1 ix2 ix3
open Idealize.ShloMosaic.TcCoe Idealize.ShloMosaic.ValueIdx

variable {F : FTy → Type} [FloatOps F]
variable (m : (ℓ : Loc nD τ sig) → Buf (Elt F) ℓ)

/-- A weight kept by columns, as the host cuts it into eight shares of rows of its transpose. -/
def sharesT (a : Vec F S1024x2816 .f32) : Vec F S8x352x1024 .f32 :=
  shapeCast S8x352x1024 (transpose S2816x1024 [1, 0] a transposes_S1024x2816_S2816x1024_1_0) shapeCasts_S2816x1024_S8x352x1024

/-- A weight kept by rows, cut into eight shares. -/
def shares (a : Vec F S2816x1024 .f32) : Vec F S8x352x1024 .f32 := shapeCast S8x352x1024 a shapeCasts_S2816x1024_S8x352x1024

/-- The four weights' shares, one under another. -/
def joined (a2 : Vec F S8x128x1024 .f32) (a3 a4 a5 : Vec F S8x352x1024 .f32) : Vec F S8x1184x1024 .f32 :=
  concatenate S8x1184x1024 1 [⟨S8x128x1024, a2⟩, ⟨S8x352x1024, a3⟩, ⟨S8x352x1024, a4⟩, ⟨S8x352x1024, a5⟩]
    concatenates_S8x128x1024_S8x352x1024_S8x352x1024_S8x352x1024_S8x1184x1024_d1

theorem V_main_v7 (c : Dev nD) : V m c main_v7
    = truncf .bf16 (joined (shapeCast S8x128x1024 (m ((c : Thread nD τ).loc main_arg2)) shapeCasts_S1024x1024_S8x128x1024)
        (sharesT (m ((c : Thread nD τ).loc main_arg3))) (sharesT (m ((c : Thread nD τ).loc main_arg4)))
        (shares (m ((c : Thread nD τ).loc main_arg5)))) bitsLt_bf16_f32 := by
  simp only [V, hostOps0]
  after_results_simp <;> rfl

/-- Row `128 + 352 k + r` of the joined shares is row `r` of the `k`-th of the last three. -/
theorem joined_at (a2 : Vec F S8x128x1024 .f32) (a : Fin 3 → Vec F S8x352x1024 .f32) (k : Fin 3) (b : Fin 8) (r : Fin 352) (q : Fin 1024) :
    joined a2 (a 0) (a 1) (a 2) (ix3 b ⟨128 + 352 * k.val + r.val, by have := k.isLt; have := r.isLt; omega⟩ q) = a k (ix3 b r q) := by
  have hr := r.isLt
  unfold joined
  rw [concatenate_cons_apply, concatenateAt_cons, dif_neg (by show ¬ 128 + 352 * k.val + r.val < 128; omega), concatenateAt_cons]
  match k with
  | 0 =>
    rw [dif_pos (by show 128 + 352 * 0 + r.val - 128 < 352; omega)]
    refine congrArg (a 0) (funext fun x => Fin.ext ?_)
    match x with
    | ⟨0, _⟩ => rfl
    | ⟨1, _⟩ => show 128 + 352 * 0 + r.val - 128 = r.val; omega
    | ⟨2, _⟩ => rfl
  | 1 =>
    rw [dif_neg (by show ¬ 128 + 352 * 1 + r.val - 128 < 352; omega), concatenateAt_cons,
      dif_pos (by show 128 + 352 * 1 + r.val - 128 - 352 < 352; omega)]
    refine congrArg (a 1) (funext fun x => Fin.ext ?_)
    match x with
    | ⟨0, _⟩ => rfl
    | ⟨1, _⟩ => show 128 + 352 * 1 + r.val - 128 - 352 = r.val; omega
    | ⟨2, _⟩ => rfl
  | 2 =>
    rw [dif_neg (by show ¬ 128 + 352 * 2 + r.val - 128 < 352; omega), concatenateAt_cons,
      dif_neg (by show ¬ 128 + 352 * 2 + r.val - 128 - 352 < 352; omega), concatenateAt_singleton]
    refine congrArg (a 2) (funext fun x => Fin.ext ?_)
    match x with
    | ⟨0, _⟩ => rfl
    | ⟨1, _⟩ => show 128 + 352 * 2 + r.val - 128 - 352 - 352 = r.val; omega
    | ⟨2, _⟩ => rfl

theorem shares_at (a : Vec F S2816x1024 .f32) (f : Fin 2816) (q : Fin 1024) (hb : f.val / 352 < 8) (hr : f.val % 352 < 352) :
    shares a (ix3 ⟨f.val / 352, hb⟩ ⟨f.val % 352, hr⟩ q) = a (ix2 f q) := by
  refine shapeCast_apply a _ _ _ ?_
  rw [Shape.rowMajor_val_two, Shape.rowMajor_val_three]
  show f.val * 1024 + q.val = (f.val / 352 * 352 + f.val % 352) * 1024 + q.val
  omega

theorem sharesT_at (a : Vec F S1024x2816 .f32) (f : Fin 2816) (q : Fin 1024) (hb : f.val / 352 < 8) (hr : f.val % 352 < 352) :
    sharesT a (ix3 ⟨f.val / 352, hb⟩ ⟨f.val % 352, hr⟩ q) = a (ix2 q f) :=
  (shares_at _ f q hb hr).trans (transpose_apply _ a _ _ (ix2 q f) fun b => match b with | ⟨0, _⟩ => rfl | ⟨1, _⟩ => rfl)

section Ideal
variable (m : (ℓ : Loc nD τ sig) → Buf (Elt Ideal) ℓ) (c : Dev nD)

theorem gathered_at (k : Fin 3) (f : Fin 2816) (q : Fin 1024) :
    (V m c main_v7 : Vec Ideal S8x1184x1024 .bf16) (share k (ix2 f q))
      = (![m ((c : Thread nD τ).loc main_arg3) (ix2 q f), m ((c : Thread nD τ).loc main_arg4) (ix2 q f),
          m ((c : Thread nD τ).loc main_arg5) (ix2 f q)] : Fin 3 → EReal) k := by
  have hb : f.val / 352 < 8 := (Nat.div_lt_iff_lt_mul (by decide)).2 f.isLt
  have hr : f.val % 352 < 352 := Nat.mod_lt _ (by decide)
  rw [V_main_v7]
  refine (joined_at (F := Ideal) _ ![sharesT (m ((c : Thread nD τ).loc main_arg3)), sharesT (m ((c : Thread nD τ).loc main_arg4)),
    shares (m ((c : Thread nD τ).loc main_arg5))] k ⟨f.val / 352, hb⟩ ⟨f.val % 352, hr⟩ q).trans ?_
  match k with
  | 0 => exact sharesT_at _ f q hb hr
  | 1 => exact sharesT_at _ f q hb hr
  | 2 => exact shares_at _ f q hb hr

end Ideal

end Cert.Ffn

end

end
-- ==== Proof.Ffn.Blocks.lean ====
module

public import proofs.«01_k».proof.Proof.Ffn.Gather
public import Idealize.ShloMosaic.Lib.Pipeline.ValueKit.Geometry

/-! The arrays that the feed-forward kernel leaves are the reference's results, as functions of the arguments. -/

@[expose] public section

set_option maxRecDepth 16384

noncomputable section

namespace Cert.Ffn

open Cert.Kernel2Ideal Cert.Kernel2Ideal.Gen
open Idealize.ShloMosaic hiding ix1 ix2 ix3 eq_ix2
open Idealize.ShloMosaic.TcCoe Idealize.ShloMosaic.ValueIdx
open Idealize.ShloMosaic.Pipeline (Dat Cfg Window)
open scoped BigOperators

variable (m : (ℓ : Loc nD τ sig) → Buf (Elt Ideal) ℓ) (c : Dev nD)

/-! ## The arguments -/

abbrev X : Vec Ideal S16384x1024 .f32 := m ((c : Thread nD τ).loc main_arg0)
abbrev T : Vec Ideal S16384x1024 .f32 := m ((c : Thread nD τ).loc main_arg1)
abbrev Wg : Vec Ideal S1024x2816 .f32 := m ((c : Thread nD τ).loc main_arg3)
abbrev Wu : Vec Ideal S1024x2816 .f32 := m ((c : Thread nD τ).loc main_arg4)
abbrev Wd : Vec Ideal S2816x1024 .f32 := m ((c : Thread nD τ).loc main_arg5)
abbrev G : Vec Ideal S1x1024 .f32 := m ((c : Thread nD τ).loc main_arg6)

/-- The gain and the weights of the arguments. -/
abbrev par : Spec.Params := FfnRef.params (Wg m c) (Wu m c) (Wd m c) (G m c)

theorem points : cfg0.N = 64 := N_0

/-- Row `i` of point `t`'s block is this row of the array. -/
def at' (t : Fin cfg0.N) (i : Fin 256) : Fin 16384 := ⟨256 * t.val + i.val, by
  have := lt_of_lt_of_eq t.isLt points; have := i.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])

/-! ## The input blocks -/

theorem x_block (t : Fin cfg0.N) (i : Fin 256) : rowOf (rowsAt m c t).x i = FfnRef.rowOf (X m c) (at' t i) := by
  funext k
  show iblk m c 0 t (ix2 i k) = X m c (ix2 (at' t i) k)
  blk_simp [iblk]
  refine (congrFun (V_main_arg0 m c) _).trans (congrArg (X m c) ?_)
  funext a
  match a with
  | ⟨0, _⟩ =>
    refine Fin.ext ?_
    blk_simp [e0]
    show t.val * 256 + i.val = 256 * t.val + i.val
    omega
  | ⟨1, _⟩ =>
    refine Fin.ext ?_
    blk_simp [e0]

theorem t_block (t : Fin cfg0.N) (i : Fin 256) : rowOf (rowsAt m c t).t i = FfnRef.rowOf (T m c) (at' t i) := by
  funext k
  show iblk m c 1 t (ix2 i k) = T m c (ix2 (at' t i) k)
  blk_simp [iblk]
  refine (congrFun (V_main_arg1 m c) _).trans (congrArg (T m c) ?_)
  funext a
  match a with
  | ⟨0, _⟩ =>
    refine Fin.ext ?_
    blk_simp [e1]
    show t.val * 256 + i.val = 256 * t.val + i.val
    omega
  | ⟨1, _⟩ =>
    refine Fin.ext ?_
    blk_simp [e1]

theorem par_block (t : Fin cfg0.N) : params (rowsAt m c t) (weights m c) = par m c := by
  unfold params par FfnRef.params
  refine (Spec.Params.mk.injEq _ _ _ _ _ _ _ _).mpr ⟨funext fun j => ?_, funext fun f => funext fun k => ?_,
    funext fun f => funext fun k => ?_, funext fun f => funext fun k => ?_⟩
  · show iblk m c 2 t (ix2 0 j) = G m c (ix2 0 j)
    blk_simp [iblk]
    refine (congrFun (V_main_arg6 m c) _).trans (congrArg (G m c) ?_)
    blk_ext [e2]
  · exact gathered_at m c 0 f k
  · exact gathered_at m c 1 f k
  · exact gathered_at m c 2 f k

/-! ## The results that have a block per point -/

theorem emb3 (t : Fin cfg0.N) (y : S256x1024.Idx) : ((cfg0.win 3).blk t).view.emb y = (ix2 (at' t (y 0)) (y 1) : S16384x1024.Idx) := by
  unfold at'; blk_ext [e3]
theorem emb4 (t : Fin cfg0.N) (y : S256x1024.Idx) : ((cfg0.win 4).blk t).view.emb y = (ix2 (at' t (y 0)) (y 1) : S16384x1024.Idx) := by
  unfold at'; blk_ext [e4]
theorem emb5 (t : Fin cfg0.N) (y : S256x1024.Idx) : ((cfg0.win 5).blk t).view.emb y = (ix2 (at' t (y 0)) (y 1) : S16384x1024.Idx) := by
  unfold at'; blk_ext [e5]
theorem emb6 (t : Fin cfg0.N) (y : S256x2816.Idx) : ((cfg0.win 6).blk t).view.emb y = (ix2 (at' t (y 0)) (y 1) : S16384x2816.Idx) := by
  unfold at'; blk_ext [e6]
theorem emb7 (t : Fin cfg0.N) (y : S256x5632.Idx) : ((cfg0.win 7).blk t).view.emb y = (ix2 (at' t (y 0)) (y 1) : S16384x5632.Idx) := by
  unfold at'; blk_ext [e7]
theorem emb8 (t : Fin cfg0.N) (y : S256x1024.Idx) : ((cfg0.win 8).blk t).view.emb y = (ix2 (at' t (y 0)) (y 1) : S16384x1024.Idx) := by
  unfold at'; blk_ext [e8]

theorem point5 (t : Fin cfg0.N) (i : Fin 256) (j : Fin 1024) :
    k0_pay9 (rowsAt m c t).x (rowsAt m c t).g (ix2 i j) = Cert.Reference2Ideal.Read.val_main_v69 (F := Ideal) (X m c) (G m c) (ix2 (at' t i) j) := by
  refine (hid_at (rowsAt m c t) (weights m c) i j).trans ?_
  rw [par_block, x_block]
  exact (FfnRef.hid_at (X m c) (Wg m c) (Wu m c) (Wd m c) (G m c) (ix2 (at' t i) j)).symm

theorem final5 : (dats m 0 c).arrAt 5 cfg0.N = Cert.Reference2Ideal.Read.val_main_v69 (F := Ideal) (X m c) (G m c) := by
  refine (dats m 0 c).arrAt_eq_of_covers 5 _ (by decide +kernel) fun t _ y => ?_
  rw [emb5 t y]
  blk_simp
  rw [after5]
  exact (congrArg _ (eq_ix2 y)).trans (point5 m c t (y 0) (y 1))

theorem point8 (t : Fin cfg0.N) (i : Fin 256) (j : Fin 1024) :
    dyb (rowsAt m c t) (weights m c) (ix2 i j) = Cert.Reference2Ideal.Read.val_main_v73 (F := Ideal) (X m c) (T m c) (Wg m c) (Wu m c) (Wd m c) (G m c) (ix2 (at' t i) j) := by
  refine (dyb_at (rowsAt m c t) (weights m c) i j).trans ?_
  rw [par_block, x_block, t_block]
  exact (FfnRef.dy_at (X m c) (T m c) (Wg m c) (Wu m c) (Wd m c) (G m c) (ix2 (at' t i) j)).symm

theorem final8 : (dats m 0 c).arrAt 8 cfg0.N = Cert.Reference2Ideal.Read.val_main_v73 (F := Ideal) (X m c) (T m c) (Wg m c) (Wu m c) (Wd m c) (G m c) := by
  refine (dats m 0 c).arrAt_eq_of_covers 8 _ (by decide +kernel) fun t _ y => ?_
  rw [emb8 t y]
  blk_simp
  rw [after8]
  exact (congrArg _ (eq_ix2 y)).trans (point8 m c t (y 0) (y 1))

theorem point6 (t : Fin cfg0.N) (i : Fin 256) (j : Fin 2816) :
    act (rowsAt m c t) (weights m c) (ix2 i j) = Cert.Reference2Ideal.Read.val_main_v70 (F := Ideal) (X m c) (Wg m c) (Wu m c) (G m c) (ix2 (at' t i) j) := by
  refine (act_at (rowsAt m c t) (weights m c) i j).trans ?_
  rw [par_block, x_block]
  exact (FfnRef.act_at (X m c) (Wg m c) (Wu m c) (Wd m c) (G m c) (ix2 (at' t i) j)).symm

theorem final6 : (dats m 0 c).arrAt 6 cfg0.N = Cert.Reference2Ideal.Read.val_main_v70 (F := Ideal) (X m c) (Wg m c) (Wu m c) (G m c) := by
  refine (dats m 0 c).arrAt_eq_of_covers 6 _ (by decide +kernel) fun t _ y => ?_
  rw [emb6 t y]
  blk_simp
  rw [after6]
  exact (congrArg _ (eq_ix2 y)).trans (point6 m c t (y 0) (y 1))

section finite
variable (hf : FfnRef.AllFinite (X m c) (T m c) (Wg m c) (Wu m c) (Wd m c) (G m c))
include hf

theorem point3 (t : Fin cfg0.N) (i : Fin 256) (j : Fin 1024) :
    dx (rowsAt m c t) (weights m c) (ix2 i j) = Cert.Reference2Ideal.Read.val_main_v65 (F := Ideal) (X m c) (T m c) (Wg m c) (Wu m c) (Wd m c) (G m c) (ix2 (at' t i) j) := by
  refine (dx_at (rowsAt m c t) (weights m c) i j).trans ?_
  rw [par_block, x_block, t_block]
  exact (FfnRef.dx_at (X m c) (T m c) (Wg m c) (Wu m c) (Wd m c) (G m c) hf (ix2 (at' t i) j)).symm

theorem final3 : (dats m 0 c).arrAt 3 cfg0.N = Cert.Reference2Ideal.Read.val_main_v65 (F := Ideal) (X m c) (T m c) (Wg m c) (Wu m c) (Wd m c) (G m c) := by
  refine (dats m 0 c).arrAt_eq_of_covers 3 _ (by decide +kernel) fun t _ y => ?_
  rw [emb3 t y]
  blk_simp
  rw [after3]
  exact (congrArg _ (eq_ix2 y)).trans (point3 m c hf t (y 0) (y 1))

theorem point4 (t : Fin cfg0.N) (i : Fin 256) (j : Fin 1024) :
    dxb (rowsAt m c t) (weights m c) (ix2 i j) = Cert.Reference2Ideal.Read.val_main_v68 (F := Ideal) (X m c) (T m c) (Wg m c) (Wu m c) (Wd m c) (G m c) (ix2 (at' t i) j) := by
  refine (dxb_at (rowsAt m c t) (weights m c) i j).trans ?_
  rw [par_block, x_block, t_block]
  exact (FfnRef.dx_at (X m c) (T m c) (Wg m c) (Wu m c) (Wd m c) (G m c) hf (ix2 (at' t i) j)).symm

theorem final4 : (dats m 0 c).arrAt 4 cfg0.N = Cert.Reference2Ideal.Read.val_main_v68 (F := Ideal) (X m c) (T m c) (Wg m c) (Wu m c) (Wd m c) (G m c) := by
  refine (dats m 0 c).arrAt_eq_of_covers 4 _ (by decide +kernel) fun t _ y => ?_
  rw [emb4 t y]
  blk_simp
  rw [after4]
  exact (congrArg _ (eq_ix2 y)).trans (point4 m c hf t (y 0) (y 1))

/-- The reference's two gradients side by side, at a column of either. -/
theorem sides_ref (n : Fin 16384) (q : Fin 5632) :
    Cert.Reference2Ideal.Read.val_main_v72 (F := Ideal) (X m c) (T m c) (Wg m c) (Wu m c) (Wd m c) (G m c) (ix2 n q)
      = if h : q.val < 2816 then Spec.dgate (par m c) (FfnRef.rowOf (X m c) n) (FfnRef.rowOf (T m c) n) ⟨q.val, h⟩
        else Spec.dup (par m c) (FfnRef.rowOf (X m c) n) (FfnRef.rowOf (T m c) n) ⟨q.val - 2816, by have := q.isLt; omega⟩ := by
  show Cert.Reference2Ideal.Read.val_main_v71 (F := Ideal) (X m c) (T m c) (Wg m c) (Wu m c) (Wd m c) (G m c) (ix2 n q) = _
  unfold Cert.Reference2Ideal.Read.val_main_v71
  by_cases h : q.val < 2816
  · rw [dif_pos h]
    exact (concatenate_pair_apply_left (t := Cert.Reference2Ideal.S16384x5632) (s₁ := Cert.Reference2Ideal.S16384x2816) (s₂ := Cert.Reference2Ideal.S16384x2816) 1 _ _ _ (ix2 n q) rfl (ix2 n ⟨q.val, h⟩) fun b => match b with | ⟨0, _⟩ => rfl | ⟨1, _⟩ => rfl).trans
      (FfnRef.dgate_at (X m c) (T m c) (Wg m c) (Wu m c) (Wd m c) (G m c) hf (ix2 n ⟨q.val, h⟩))
  · rw [dif_neg h]
    exact (concatenate_pair_apply_right (t := Cert.Reference2Ideal.S16384x5632) (s₁ := Cert.Reference2Ideal.S16384x2816) (s₂ := Cert.Reference2Ideal.S16384x2816) 1 _ _ _ (ix2 n q) rfl rfl (ix2 n ⟨q.val - 2816, by have := q.isLt; omega⟩)
        (fun b => match b with | ⟨0, _⟩ => fun _ => rfl | ⟨1, _⟩ => fun hb => absurd rfl hb)
        (by show q.val - 2816 + 2816 = q.val; omega)).trans
      (FfnRef.dup_at (X m c) (T m c) (Wg m c) (Wu m c) (Wd m c) (G m c) (ix2 n ⟨q.val - 2816, by have := q.isLt; omega⟩))

theorem point7 (t : Fin cfg0.N) (i : Fin 256) (j : Fin 5632) :
    both (rowsAt m c t) (weights m c) (ix2 i j) = Cert.Reference2Ideal.Read.val_main_v72 (F := Ideal) (X m c) (T m c) (Wg m c) (Wu m c) (Wd m c) (G m c) (ix2 (at' t i) j) := by
  rw [sides_ref m c hf]
  refine (both_at (rowsAt m c t) (weights m c) i j).trans ?_
  by_cases h : j.val < 2816
  · rw [dif_pos h, dif_pos h, dgate_at, par_block, x_block, t_block]
  · rw [dif_neg h, dif_neg h, dup_at, par_block, x_block, t_block]

theorem final7 : (dats m 0 c).arrAt 7 cfg0.N = Cert.Reference2Ideal.Read.val_main_v72 (F := Ideal) (X m c) (T m c) (Wg m c) (Wu m c) (Wd m c) (G m c) := by
  refine (dats m 0 c).arrAt_eq_of_covers 7 _ (by decide +kernel) fun t _ y => ?_
  rw [emb7 t y]
  blk_simp
  rw [after7]
  exact (congrArg _ (eq_ix2 y)).trans (point7 m c hf t (y 0) (y 1))

end finite

/-! ## The two sums carried over the points -/

/-- The sum over the rows of the first `n` blocks. -/
def below (f : Fin 16384 → EReal) (n : ℕ) (h : n ≤ cfg0.N) : EReal := ∑ t : Fin n, ∑ i : Fin 256, f (at' ⟨t.val, lt_of_lt_of_le t.isLt h⟩ i)

theorem below_succ (f : Fin 16384 → EReal) (n : ℕ) (h : n + 1 ≤ cfg0.N) :
    below f (n + 1) h = below f n (Nat.le_of_lt h) + ∑ i : Fin 256, f (at' ⟨n, h⟩ i) := by
  unfold below; exact Fin.sum_univ_castSucc _

/-- All the blocks together are all the rows. -/
theorem below_all (f : Fin 16384 → EReal) (n : ℕ) (h : n ≤ cfg0.N) (hn : n = 64) : below f n h = ∑ k : Fin 16384, f k := by
  subst hn
  unfold below
  rw [← Fintype.sum_prod_type']
  refine Fintype.sum_equiv (finProdFinEquiv (m := 64) (n := 256)) _ _ fun p => congrArg f (Fin.ext ?_)
  show 256 * p.1.val + p.2.val = p.2.val + 256 * p.1.val
  omega

theorem lossAt_at (n : ℕ) (h : n ≤ cfg0.N) (z : Fin 1) (j : Fin 1024) :
    lossAt m c n h (ix2 z j) = below (fun k => Spec.err (par m c) (FfnRef.rowOf (X m c) k) (FfnRef.rowOf (T m c) k) j
      * Spec.err (par m c) (FfnRef.rowOf (X m c) k) (FfnRef.rowOf (T m c) k) j) n h := by
  induction n with
  | zero => exact Ideal.ofBits_zero_f32
  | succ n ih =>
    rw [below_succ, ← ih (Nat.le_of_lt h)]
    refine (lossAfter_at (rowsAt m c ⟨n, h⟩) (weights m c) (lossAt m c n (Nat.le_of_lt h)) z j).trans ?_
    refine congrArg (_ + ·) (Finset.sum_congr rfl fun i _ => ?_)
    rw [par_block, x_block, t_block]

theorem gainAt_at (n : ℕ) (h : n ≤ cfg0.N) (z : Fin 1) (j : Fin 1024) :
    gainAt m c n h (ix2 z j) = below (fun k => Spec.dh (par m c) (FfnRef.rowOf (X m c) k) (FfnRef.rowOf (T m c) k) j
      * Spec.normed (FfnRef.rowOf (X m c) k) j) n h := by
  induction n with
  | zero => exact Ideal.ofBits_zero_f32
  | succ n ih =>
    rw [below_succ, ← ih (Nat.le_of_lt h)]
    refine (gainAfter_at (rowsAt m c ⟨n, h⟩) (weights m c) (gainAt m c n (Nat.le_of_lt h)) z j).trans ?_
    refine congrArg (_ + ·) (Finset.sum_congr rfl fun i _ => ?_)
    rw [par_block, x_block, t_block]

/-- The last point. -/
def last : Fin cfg0.N := ⟨63, by rw [points]; decide⟩

theorem final9 : (dats m 0 c).arrAt 9 cfg0.N = Cert.Reference2Ideal.Read.val_main_v75 (F := Ideal) (X m c) (T m c) (Wg m c) (Wu m c) (Wd m c) (G m c) := by
  refine (dats m 0 c).arrAt_eq_of_after_last 9 last (by decide +kernel) _ fun j => ?_
  rw [after9]
  refine ((congrArg _ (eq_ix2 j)).trans (lossAt_at m c 64 (le_of_eq points.symm) (j 0) (j 1))).trans ?_
  rw [below_all _ _ _ rfl]
  exact (FfnRef.lossSum_at (X m c) (T m c) (Wg m c) (Wu m c) (Wd m c) (G m c) j).symm

theorem final10 (hf : FfnRef.AllFinite (X m c) (T m c) (Wg m c) (Wu m c) (Wd m c) (G m c)) :
    (dats m 0 c).arrAt 10 cfg0.N = Cert.Reference2Ideal.Read.val_main_v76 (F := Ideal) (X m c) (T m c) (Wg m c) (Wu m c) (Wd m c) (G m c) := by
  refine (dats m 0 c).arrAt_eq_of_after_last 10 last (by decide +kernel) _ fun j => ?_
  rw [after10]
  refine ((congrArg _ (eq_ix2 j)).trans (gainAt_at m c 64 (le_of_eq points.symm) (j 0) (j 1))).trans ?_
  rw [below_all _ _ _ rfl]
  exact (FfnRef.gainSum_at (X m c) (T m c) (Wg m c) (Wu m c) (Wd m c) (G m c) hf j).symm

end Cert.Ffn

end

end
-- ==== Proof.Ffn.Value.lean ====
module

public import proofs.«01_k».proof.Defs
public import proofs.«01_k».proof.Proof.Gen.Pre_finite
public import proofs.«01_k».proof.Proof.Ffn.Blocks

/-! The feed-forward kernel and its reference leave the same eight results, where the arguments are finite. -/

@[expose] public section

set_option maxRecDepth 16384

noncomputable section

namespace Cert.Ffn

open Cert.Kernel2Ideal Cert.Kernel2Ideal.Gen
open Idealize.ShloMosaic hiding ix1 ix2 ix3 eq_ix2
open Idealize.ShloMosaic.TcCoe Idealize.ShloMosaic.ValueIdx
open Idealize.SL.Sem
open scoped BigOperators

/-! ## What the precondition says -/

theorem inf_eq : Ideal.ofBits .f32 0x7F800000#32 = ⊤ := by simp [Ideal.ofBits, Ideal.ieee]

/-- A value whose magnitude is below infinity is a real number. -/
theorem real_of_lt {x : EReal} (h : Ideal.cmp .olt (max x (-x)) (Ideal.ofBits .f32 0x7F800000#32) = 1#1) : Spec.Real' x := by
  rw [inf_eq] at h
  have hlt : max x (-x) < ⊤ := by
    by_contra hn
    simp [Ideal.cmp, hn] at h
  rw [max_lt_iff] at hlt
  have hb : x ≠ ⊥ := fun hx => by rw [hx] at hlt; simp at hlt
  exact ⟨x.toReal, (EReal.coe_toReal hlt.1.ne hb).symm⟩

section
variable (m : (ℓ : Loc nD τ sig) → Buf (Elt Ideal) ℓ) (c : Dev nD)

/-- Where the precondition holds every argument that the results depend on is finite. -/
theorem finite_of_pre (h : Cert.Pre_Kernel2Ideal m) : FfnRef.AllFinite (X m c) (T m c) (Wg m c) (Wu m c) (Wd m c) (G m c) := by
  obtain ⟨h0, h1, h3, h4, h5, h6⟩ := h c
  exact fun n =>
    { x := fun k => real_of_lt (congrFun h0 (ix2 n k))
      t := fun k => real_of_lt (congrFun h1 (ix2 n k))
      wg := fun f k => real_of_lt (congrFun h3 (ix2 k f))
      wu := fun f k => real_of_lt (congrFun h4 (ix2 k f))
      wd := fun f k => real_of_lt (congrFun h5 (ix2 f k))
      g := fun k => real_of_lt (congrFun h6 (ix2 0 k)) }
end

/-! ## The two runs -/

/-- What the kernel leaves: its eight arrays, the arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8_0) = (dats m 0 c).arrAt 3 cfg0.N
      ∧ r.2.mem ((c.tc : Thread nD τ).loc main_v8_1) = (dats m 0 c).arrAt 4 cfg0.N
      ∧ r.2.mem ((c.tc : Thread nD τ).loc main_v8_2) = (dats m 0 c).arrAt 5 cfg0.N
      ∧ r.2.mem ((c.tc : Thread nD τ).loc main_v8_3) = (dats m 0 c).arrAt 6 cfg0.N
      ∧ r.2.mem ((c.tc : Thread nD τ).loc main_v8_4) = (dats m 0 c).arrAt 7 cfg0.N
      ∧ r.2.mem ((c.tc : Thread nD τ).loc main_v8_5) = (dats m 0 c).arrAt 8 cfg0.N
      ∧ r.2.mem ((c.tc : Thread nD τ).loc main_v8_6) = (dats m 0 c).arrAt 9 cfg0.N
      ∧ r.2.mem ((c.tc : Thread nD τ).loc main_v8_7) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (launched m ρ) (frame_run m ρ))
  have hp := h.1.1
  exact ⟨hp.out_eq c 3, hp.out_eq c 4, hp.out_eq c 5, hp.out_eq c 6, hp.out_eq c 7, hp.out_eq c 8, hp.out_eq c 9, hp.out_eq c 10,
    h.2.1 c⟩

section
open Cert.Reference2Ideal Cert.Reference2Ideal.Gen Cert.Reference2Ideal.Read

set_option maxHeartbeats 1000000 in
/-- What the reference leaves, each result by its name. -/
theorem reference_run (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩
      (fun r => ∀ c : Dev Cert.Reference2Ideal.nD,
      r.2.mem ((c.tc : Thread Cert.Reference2Ideal.nD Cert.Reference2Ideal.τ).loc Cert.Reference2Ideal.main_v65) = val_main_v65 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v68) = val_main_v68 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v69) = val_main_v69 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v70) = val_main_v70 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v72) = val_main_v72 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v73) = val_main_v73 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v75) = val_main_v75 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_v76) = val_main_v76 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)) := by
  refine (θ_run Cert.Reference2Ideal.defs _ _).mono (fun r h c => ?_) (Cert.Reference2Ideal.Value.run m ρ)
  obtain ⟨r0, r1, r2, r3, r4, r5, r6, r7, rest⟩ := h c
  exact ⟨r0.trans (val_main_v65_eq m c), r1.trans (val_main_v68_eq m c), r2.trans (val_main_v69_eq _ _),
    r3.trans (val_main_v70_eq _ _ _ _), r4.trans (val_main_v72_eq m c), r5.trans (val_main_v73_eq _ _ _ _ _ _),
    r6.trans (val_main_v75_eq m c), r7.trans (val_main_v76_eq m c), rest⟩
end

set_option maxHeartbeats 1000000 in
/-- The kernel and its reference agree on all eight results. -/
theorem same_results : Cert.algebraic_Kernel2Ideal_Reference2Ideal
    (hKernel2Ideal := Cert.Kernel2Ideal.Gen.facts) (hReference2Ideal := Cert.Reference2Ideal.Gen.facts) (hPre_finite := Cert.Pre_finite.Gen.facts) := by
  intro m g m' g' hpre hargs
  refine ⟨fun c => (dats m 0 c).arrAt 3 cfg0.N, fun c => (dats m 0 c).arrAt 4 cfg0.N, fun c => (dats m 0 c).arrAt 5 cfg0.N,
    fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, kernel_run m g, ?_⟩
  refine (θ_run Cert.Reference2Ideal.defs _ _).mono (fun r h c => ?_) (reference_run m' g')
  obtain ⟨r0, r1, r2, r3, r4, r5, r6, r7, rest⟩ := h c
  obtain ⟨a0, a1, a2, a3, a4, a5, a6⟩ := hargs c
  have hf := finite_of_pre m c hpre
  have A0 : m' ((c.tc : Thread Cert.Reference2Ideal.nD Cert.Reference2Ideal.τ).loc Cert.Reference2Ideal.main_arg0) = X m c := a0
  have A1 : m' ((c.tc : Thread Cert.Reference2Ideal.nD Cert.Reference2Ideal.τ).loc Cert.Reference2Ideal.main_arg1) = T m c := a1
  have A3 : m' ((c.tc : Thread Cert.Reference2Ideal.nD Cert.Reference2Ideal.τ).loc Cert.Reference2Ideal.main_arg3) = Wg m c := a3
  have A4 : m' ((c.tc : Thread Cert.Reference2Ideal.nD Cert.Reference2Ideal.τ).loc Cert.Reference2Ideal.main_arg4) = Wu m c := a4
  have A5 : m' ((c.tc : Thread Cert.Reference2Ideal.nD Cert.Reference2Ideal.τ).loc Cert.Reference2Ideal.main_arg5) = Wd m c := a5
  have A6 : m' ((c.tc : Thread Cert.Reference2Ideal.nD Cert.Reference2Ideal.τ).loc Cert.Reference2Ideal.main_arg6) = G m c := a6
  refine ⟨?_, ?_, ?_, ?_, ?_, ?_, ?_, ?_, rest⟩
  · rw [r0, A0, A1, A3, A4, A5, A6]; exact (final3 m c hf).symm
  · rw [r1, A0, A1, A3, A4, A5, A6]; exact (final4 m c hf).symm
  · rw [r2, A0, A6]; exact (final5 m c).symm
  · rw [r3, A0, A3, A4, A6]; exact (final6 m c).symm
  · rw [r4, A0, A1, A3, A4, A5, A6]; exact (final7 m c hf).symm
  · rw [r5, A0, A1, A3, A4, A5, A6]; exact (final8 m c).symm
  · rw [r6, A0, A1, A3, A4, A5, A6]; exact (final9 m c).symm
  · rw [r7, A0, A1, A3, A4, A5, A6]; exact (final10 m c hf).symm

end Cert.Ffn

end

end
-- ==== Proof.Wgrad.Sums.lean ====
module

public import Idealize.ShloMosaic.Lib.ValueIdx

/-! A sum over 16384 rows taken 1024 rows at a time. -/

@[expose] public section

noncomputable section

namespace Cert.Wgrad

open scoped BigOperators

/-- Row `k` of the `s`-th block of 1024 rows. -/
def row (s : ℕ) (k : Fin 1024) : Fin 16384 := ⟨(1024 * s + k.val) % 16384, Nat.mod_lt _ (by decide)⟩

/-- The sum of `f` over the rows of the first `n` blocks. -/
def below (f : Fin 16384 → EReal) (n : ℕ) : EReal := ∑ s ∈ Finset.range n, ∑ k : Fin 1024, f (row s k)

theorem below_succ (f : Fin 16384 → EReal) (n : ℕ) : below f (n + 1) = below f n + ∑ k : Fin 1024, f (row n k) :=
  Finset.sum_range_succ _ n

theorem below_one (f : Fin 16384 → EReal) : below f 1 = ∑ k : Fin 1024, f (row 0 k) := Finset.sum_range_one _

/-- Sixteen blocks are all the rows. -/
theorem below_all (f : Fin 16384 → EReal) : below f 16 = ∑ r : Fin 16384, f r := by
  unfold below
  rw [Finset.sum_range, ← Fintype.sum_prod_type']
  refine Fintype.sum_equiv (finProdFinEquiv (m := 16) (n := 1024)) _ _ fun p => congrArg f (Fin.ext ?_)
  have h1 := p.1.isLt
  have h2 := p.2.isLt
  show (1024 * p.1.val + p.2.val) % 16384 = p.2.val + 1024 * p.1.val
  omega

end Cert.Wgrad

end

end
-- ==== Proof.Wgrad.Down.lean ====
module

public import proofs.«01_k».proof.Defs
public import proofs.«01_k».proof.Proof.Gen.Kernel4Ideal.Value
public import proofs.«01_k».proof.Proof.Gen.Kernel4
public import proofs.«01_k».proof.Proof.Gen.Reference4Ideal.Run
public import proofs.«01_k».proof.Proof.Gen.Reference4Ideal.Read
public import proofs.«01_k».proof.Proof.Wgrad.Sums
public import Idealize.ShloMosaic.Lib.Pipeline.ValueKit.Geometry
public import Idealize.ShloMosaic.Lib.ValueIdx
public import Idealize.ShloMosaic.Lib.Ring
public import Idealize.ShloMosaic.Adequacy
public import Idealize.ShloMosaic.Init

/-! The gradient of the down product's weights: the kernel adds up the products of sixteen blocks of 1024 rows and the reference takes the
product over all the rows at once. -/

@[expose] public section

set_option maxRecDepth 16384

noncomputable section

namespace Cert.Down

open Cert.Kernel4Ideal Cert.Kernel4Ideal.Gen
open Idealize.ShloMosaic
open Idealize.ShloMosaic.TcCoe Idealize.ShloMosaic.ValueIdx
open Idealize.ShloMosaic.Tactic
open Idealize.ShloMosaic.Pipeline (Dat Cfg Window)
open Cert.Wgrad
open scoped BigOperators

theorem zeros : (![0, 0] : Fin 2 → Nat) = fun _ => 0 := funext fun a => by fin_cases a <;> rfl

/-! ## The payloads at an index -/

/-- A block's product, the rows contracted. -/
theorem product_at (a : FVec Ideal S1024x1024 .bf16) (b : FVec Ideal S1024x2816 .bf16) (i : Fin 1024) (j : Fin 2816) :
    matmul dot_S1024x1024_S1024x2816_S1024x2816_0_0_1_1_n_n none a b (constant S1024x2816 .f32 0x00000000#32) (ix2 i j)
      = ∑ k : Fin 1024, a (ix2 k i) * b (ix2 k j) := by
  simp only [matmul]
  rw [Ideal.matmul_apply, constant_apply, Ideal.ofBits_zero_f32, zero_add, ← Equiv.sum_comp (contrEquiv1 dot_S1024x1024_S1024x2816_S1024x2816_0_0_1_1_n_n 1024 rfl rfl).symm]
  refine Finset.sum_congr rfl fun k _ => ?_
  have hk := contrEquiv1_symm_val dot_S1024x1024_S1024x2816_S1024x2816_0_0_1_1_n_n 1024 rfl rfl k
  have el : dot_S1024x1024_S1024x2816_S1024x2816_0_0_1_1_n_n.lhsIdx (ix2 i j) ((contrEquiv1 dot_S1024x1024_S1024x2816_S1024x2816_0_0_1_1_n_n 1024 rfl rfl).symm k) = ix2 k i := funext fun d => Fin.ext (by
    match d with
    | ⟨0, _⟩ => exact (dot_S1024x1024_S1024x2816_S1024x2816_0_0_1_1_n_n.lhsIdx_val_of_single rfl _ _).trans hk
    | ⟨1, _⟩ => rfl)
  have er : dot_S1024x1024_S1024x2816_S1024x2816_0_0_1_1_n_n.rhsIdx (ix2 i j) ((contrEquiv1 dot_S1024x1024_S1024x2816_S1024x2816_0_0_1_1_n_n 1024 rfl rfl).symm k) = ix2 k j := funext fun d => Fin.ext (by
    match d with
    | ⟨0, _⟩ => exact (dot_S1024x1024_S1024x2816_S1024x2816_0_0_1_1_n_n.rhsIdx_val_of_single rfl _ _).trans hk
    | ⟨1, _⟩ => rfl)
  rw [el, er]

theorem start_at (i : Fin 1024) (j : Fin 2816) : k0_pay1 (F := Ideal) (ix2 i j) = 0 := by
  unfold k0_pay1
  rw [shapeCast_self]
  exact Ideal.ofBits_zero_f32

theorem step_at (s : Vec Ideal S1024x2816 .f32) (a : Vec Ideal S1024x1024 .bf16) (b : Vec Ideal S1024x2816 .bf16) (i : Fin 1024) (j : Fin 2816) :
    k0_pay2 s a b (ix2 i j) = s (ix2 i j) + ∑ k : Fin 1024, a (ix2 k i) * b (ix2 k j) := by
  unfold k0_pay2
  simp only [shapeCast_self]
  exact congrArg (s (ix2 i j) + ·) (product_at a b i j)

theorem store_at (s : Vec Ideal S1024x2816 .f32) (j : Fin 2816) (i : Fin 1024) : k0_pay3 s (ix2 j i) = s (ix2 i j) := by
  unfold k0_pay3
  dsimp only
  exact transpose_apply _ s _ (ix2 j i) (ix2 i j) fun b => match b with | ⟨0, _⟩ => rfl | ⟨1, _⟩ => rfl

/-! ## What a point leaves -/

theorem carried_A (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : cond0_0 i) (hc1 : ¬cond0_1 i) (x : Vec Ideal S1024x1024 .bf16) (y : Vec Ideal S1024x2816 .bf16) :
    sout0_A_0 c i a0 h0 a1 h1 a2 h2 a3 h3 hc0 hc1 x y = k0_pay2 k0_pay1 x y := by
  unfold sout0_A_0
  rw [View.read_writes_eq_canon _ _ _ (scover0_A_0 c i a0 h0 a1 h1 a2 h2 a3 h3 hc0 hc1 x y)]
  unfold kernelRun0_A
  dsimp only
  sl_unfold_words
  rw [View.canon_cons_unit_zero (S := S1024x2816) zeros, View.readCov_unit_zero (S := S1024x2816) _ zeros]
  simp only [View.readAt_eq_ld, h0.read_unread, h1.read_unread, View.ld_unit_zero (S := S1024x1024) zeros, View.ld_unit_zero (S := S1024x2816) zeros]

theorem carried_B (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : ¬cond0_0 i) (hc1 : ¬cond0_1 i) (x : Vec Ideal S1024x1024 .bf16) (y : Vec Ideal S1024x2816 .bf16) (s : Vec Ideal S1024x2816 .f32) :
    sout0_B_0 c i a0 h0 a1 h1 a2 h2 a3 h3 hc0 hc1 x y s = k0_pay2 s x y := by
  unfold sout0_B_0
  rw [View.read_writes_eq_canon _ _ _ (scover0_B_0 c i a0 h0 a1 h1 a2 h2 a3 h3 hc0 hc1 x y s)]
  unfold kernelRun0_B
  dsimp only
  rw [View.canon_unit_zero zeros]
  simp only [View.readAt_eq_ld, h0.read_unread, h1.read_unread, h3.read_unread, View.ld_unit_zero (S := S1024x1024) zeros, View.ld_unit_zero (S := S1024x2816) zeros]

theorem carried_C (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : ¬cond0_0 i) (hc1 : cond0_1 i) (x : Vec Ideal S1024x1024 .bf16) (y : Vec Ideal S1024x2816 .bf16) (s : Vec Ideal S1024x2816 .f32) :
    sout0_C_0 c i a0 h0 a1 h1 a2 h2 a3 h3 hc0 hc1 x y s = k0_pay2 s x y := by
  unfold sout0_C_0
  rw [View.read_writes_eq_canon _ _ _ (scover0_C_0 c i a0 h0 a1 h1 a2 h2 a3 h3 hc0 hc1 x y s)]
  unfold kernelRun0_C
  dsimp only
  sl_unfold_words
  rw [View.canon_unit_zero zeros]
  simp only [View.readAt_eq_ld, h0.read_unread, h1.read_unread, h3.read_unread, View.ld_unit_zero (S := S1024x1024) zeros, View.ld_unit_zero (S := S1024x2816) zeros]

theorem stored_C (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : ¬cond0_0 i) (hc1 : cond0_1 i) (x : Vec Ideal S1024x1024 .bf16) (y : Vec Ideal S1024x2816 .bf16) (s : Vec Ideal S1024x2816 .f32) :
    out0_C_2 c i a0 h0 a1 h1 a2 h2 a3 h3 hc0 hc1 x y s = k0_pay3 (k0_pay2 s x y) := by
  unfold out0_C_2
  rw [View.read_writes_eq_canon _ _ _ (cover0_C_2 c i a0 h0 a1 h1 a2 h2 a3 h3 hc0 hc1 x y s)]
  unfold kernelRun0_C
  dsimp only
  sl_unfold_words
  rw [View.canon_unit_zero zeros, View.readCov_unit_zero (S := S1024x2816) _ zeros]
  simp only [View.readAt_eq_ld, h0.read_unread, h1.read_unread, h3.read_unread, View.ld_unit_zero (S := S1024x1024) zeros, View.ld_unit_zero (S := S1024x2816) zeros]

/-! ## The blocks -/

section
variable (m : (ℓ : Loc nD τ sig) → Buf (Elt Ideal) ℓ) (c : Dev nD)

/-- The two factors of the product. -/
abbrev A : Vec Ideal S16384x1024 .f32 := m ((c : Thread nD τ).loc main_arg0)
abbrev B : Vec Ideal S16384x2816 .f32 := m ((c : Thread nD τ).loc main_arg1)

theorem V_a : V m c main_v0 = (truncf .bf16 (φ := .f32) (A m c) bitsLt_bf16_f32 : FVec Ideal S16384x1024 .bf16) := by
  simp only [V, hostOps0]
  after_results_simp <;> rfl

theorem V_b : V m c main_v1 = (truncf .bf16 (φ := .f32) (B m c) bitsLt_bf16_f32 : FVec Ideal S16384x2816 .bf16) := by
  simp only [V, hostOps0]
  after_results_simp <;> rfl

theorem points : cfg0.N = 16 := N_0

/-- Column `j` of the block of columns that point `n` works on. -/
def col (n : ℕ) (j : Fin 2816) : Fin 2816 := ⟨(2816 * (n / 16) + j.val) % 2816, Nat.mod_lt _ (by decide)⟩

theorem e0 : ∀ t : Fin cfg0.N, win0_0.index t = ![t.val % 16, 0] := (by decide +kernel : ∀ t : Fin grid0.N, win0_0.index t = ![t.val % 16, 0])
theorem e1 : ∀ t : Fin cfg0.N, win0_1.index t = ![t.val % 16, t.val / 16] := (by decide +kernel : ∀ t : Fin grid0.N, win0_1.index t = ![t.val % 16, t.val / 16])
theorem e2 : ∀ t : Fin cfg0.N, win0_2.index t = ![t.val / 16, 0] := (by decide +kernel : ∀ t : Fin grid0.N, win0_2.index t = ![t.val / 16, 0])

/-- The blocks of the two factors at a point. -/
def ab (t : Fin cfg0.N) : Vec Ideal S1024x1024 .bf16 := iblk m c 0 t
def bb (t : Fin cfg0.N) : Vec Ideal S1024x2816 .bf16 := iblk m c 1 t

theorem a_block (t : Fin cfg0.N) (k i : Fin 1024) : ab m c t (ix2 k i) = A m c (ix2 (row (t.val % 16) k) i) := by
  show iblk m c 0 t (ix2 k i) = _
  blk_simp [iblk]
  refine (congrFun (V_a m c) _).trans (congrArg (A m c) ?_)
  funext a
  match a with
  | ⟨0, _⟩ =>
    refine Fin.ext ?_
    blk_simp [e0]
    show t.val % 16 * 1024 + k.val = (1024 * (t.val % 16) + k.val) % 16384
    have := k.isLt
    omega
  | ⟨1, _⟩ =>
    refine Fin.ext ?_
    blk_simp [e0]

theorem b_block (t : Fin cfg0.N) (k : Fin 1024) (j : Fin 2816) : bb m c t (ix2 k j) = B m c (ix2 (row (t.val % 16) k) (col t.val j)) := by
  have ht := lt_of_lt_of_eq t.isLt points
  show iblk m c 1 t (ix2 k j) = _
  blk_simp [iblk]
  refine (congrFun (V_b m c) _).trans (congrArg (B m c) ?_)
  funext a
  match a with
  | ⟨0, _⟩ =>
    refine Fin.ext ?_
    blk_simp [e1]
    show t.val % 16 * 1024 + k.val = (1024 * (t.val % 16) + k.val) % 16384
    have := k.isLt
    omega
  | ⟨1, _⟩ =>
    refine Fin.ext ?_
    blk_simp [e1]
    show t.val / 16 * 2816 + j.val = (2816 * (t.val / 16) + j.val) % 2816
    have := j.isLt
    omega

/-! ## The sum carried over the points -/

/-- The summand of the product at row `i` and column `q`. -/
def term (i : Fin 1024) (q : Fin 2816) (r : Fin 16384) : EReal := A m c (ix2 r i) * B m c (ix2 r q)

theorem blocks_sum (t : Fin cfg0.N) (i : Fin 1024) (j : Fin 2816) :
    ∑ k : Fin 1024, ab m c t (ix2 k i) * bb m c t (ix2 k j) = ∑ k : Fin 1024, term m c i (col t.val j) (row (t.val % 16) k) :=
  Finset.sum_congr rfl fun k _ => by rw [a_block, b_block]; rfl

theorem at_A (t : Fin cfg0.N) (h0 : t.val % 16 = 0) (h1 : ¬t.val % 16 = 15) : (outsAt0 m c t.val t.isLt).2 = k0_pay2 k0_pay1 (ab m c t) (bb m c t) := by
  rw [outsAt0_A m c t h0 h1, carried_A]
  rfl

/-- What the point before left in the scratch. -/
def prev (t : Fin cfg0.N) : Vec Ideal S1024x2816 .f32 := (outsAt0 m c (t.val - 1) (Nat.lt_of_le_of_lt (Nat.sub_le _ _) t.isLt)).2

theorem at_B (t : Fin cfg0.N) (h0 : ¬t.val % 16 = 0) (h1 : ¬t.val % 16 = 15) : (outsAt0 m c t.val t.isLt).2 = k0_pay2 (prev m c t) (ab m c t) (bb m c t) := by
  rw [outsAt0_B m c t h0 h1, carried_B]
  rfl

theorem at_C (t : Fin cfg0.N) (h0 : ¬t.val % 16 = 0) (h1 : t.val % 16 = 15) : (outsAt0 m c t.val t.isLt).2 = k0_pay2 (prev m c t) (ab m c t) (bb m c t) := by
  rw [outsAt0_C m c t h0 h1, carried_C]
  rfl

theorem result_C (t : Fin cfg0.N) (h0 : ¬t.val % 16 = 0) (h1 : t.val % 16 = 15) :
    (outsAt0 m c t.val t.isLt).1 = k0_pay3 (outsAt0 m c t.val t.isLt).2 := by
  rw [at_C m c t h0 h1, outsAt0_C m c t h0 h1, stored_C]
  rfl

theorem at_rest (t : Fin cfg0.N) (h0 : ¬t.val % 16 = 0) : (outsAt0 m c t.val t.isLt).2 = k0_pay2 (prev m c t) (ab m c t) (bb m c t) := by
  by_cases h1 : t.val % 16 = 15
  · exact at_C m c t h0 h1
  · exact at_B m c t h0 h1

theorem col_succ (n : ℕ) (h : ¬(n + 1) % 16 = 0) (j : Fin 2816) : col (n + 1) j = col n j := by
  refine Fin.ext ?_
  show (2816 * ((n + 1) / 16) + j.val) % 2816 = (2816 * (n / 16) + j.val) % 2816
  rw [show (n + 1) / 16 = n / 16 by omega]

/-- After each point the scratch holds the sum over the rows of its blocks so far. -/
theorem carried_at (i : Fin 1024) (j : Fin 2816) : ∀ (n : ℕ) (h : n < cfg0.N),
    (outsAt0 m c n h).2 (ix2 i j) = below (term m c i (col n j)) (n % 16 + 1)
  | n, h => by
    by_cases h0 : n % 16 = 0
    · refine (congrFun (at_A m c ⟨n, h⟩ h0 (by show ¬n % 16 = 15; omega)) _).trans ?_
      rw [step_at, start_at, zero_add, h0, below_one, blocks_sum m c ⟨n, h⟩ i j]
      rw [show (⟨n, h⟩ : Fin cfg0.N).val % 16 = 0 from h0]
    · match n, h, h0 with
      | n + 1, h, h0 =>
        have hprev : prev m c ⟨n + 1, h⟩ (ix2 i j) = _ := carried_at i j n (Nat.lt_of_succ_lt h)
        refine (congrFun (at_rest m c ⟨n + 1, h⟩ h0) _).trans ?_
        rw [step_at, hprev, blocks_sum m c ⟨n + 1, h⟩ i j, show (n + 1) % 16 + 1 = (n % 16 + 1) + 1 by omega, col_succ n h0,
          show (⟨n + 1, h⟩ : Fin cfg0.N).val % 16 = n % 16 + 1 by show (n + 1) % 16 = _; omega]
        exact (below_succ _ _).symm

/-- The product over all the rows. -/
def whole : Vec Ideal S2816x1024 .bf16 := fun y => ∑ r : Fin 16384, term m c (y 1) (y 0) r

theorem point2 (t : Fin cfg0.N) (h1 : t.val % 16 = 15) (j : Fin 2816) (i : Fin 1024) : (outsAt0 m c t.val t.isLt).1 (ix2 j i) = whole m c (ix2 (col t.val j) i) := by
  have h0 : ¬t.val % 16 = 0 := by omega
  refine (congrFun (result_C m c t h0 h1) _).trans ((store_at ..).trans ((carried_at m c i j t.val t.isLt).trans ?_))
  rw [h1]
  exact below_all _

theorem emb2 (t : Fin cfg0.N) (y : S2816x1024.Idx) : ((cfg0.win 2).blk t).view.emb y = (ix2 (col t.val (y 0)) (y 1) : S2816x1024.Idx) := by
  have ht := lt_of_lt_of_eq t.isLt points
  funext a
  match a with
  | ⟨0, _⟩ =>
    refine Fin.ext ?_
    have := (y 0).isLt
    blk_simp [e2]
    show t.val / 16 * 2816 + (y 0).val = (2816 * (t.val / 16) + (y 0).val) % 2816
    have hy : (y 0).val < 2816 := (y 0).isLt
    omega
  | ⟨1, _⟩ =>
    refine Fin.ext ?_
    blk_simp [e2]
    rfl

theorem final2 : (dats m 0 c).arrAt 2 cfg0.N = whole m c := by
  refine (dats m 0 c).arrAt_eq_of_covers 2 _ (by decide +kernel) fun t hf y => ?_
  rw [emb2 t y]
  blk_simp
  rw [after0_2]
  exact (congrArg _ (eq_ix2 y)).trans (point2 m c t ((flush0_2 t).mp hf) (y 0) (y 1))
end

/-! ## The reference -/

section
open Cert.Reference4Ideal.Read

theorem reference_at (m : (ℓ : Loc nD τ sig) → Buf (Elt Ideal) ℓ) (c : Dev nD) :
    val_main_v4 (F := Ideal) (A m c) (B m c) = whole m c := by
  refine funext fun y => ?_
  show val_main_v3 (F := Ideal) _ _ y = _
  rw [val_main_v3_apply, val_main_v2_apply]
  refine Finset.sum_congr rfl fun r _ => ?_
  exact congrArg₂ (· * ·) (congrArg (A m c) (funext fun a => match a with | ⟨0, _⟩ => rfl | ⟨1, _⟩ => rfl))
    (congrArg (B m c) (funext fun a => match a with | ⟨0, _⟩ => rfl | ⟨1, _⟩ => rfl))
end

set_option maxHeartbeats 1000000 in
/-- The kernel and the reference leave the same gradient. -/
theorem same_results : Cert.algebraic_Kernel4Ideal_Reference4Ideal
    (hKernel4Ideal := Cert.Kernel4Ideal.Gen.facts) (hReference4Ideal := Cert.Reference4Ideal.Gen.facts) := by
  intro m g m' g' _ hargs
  refine ⟨fun c => whole m c, ?_, ?_⟩
  · exact (θ_run Cert.Kernel4Ideal.defs _ _).mono (fun r h c => ⟨(h c).1.trans (final2 m c), (h c).2⟩) (Cert.Kernel4Ideal.Value.run_blocks m g)
  · refine (θ_run Cert.Reference4Ideal.defs _ _).mono (fun r h c => ?_) (Cert.Reference4Ideal.Value.run m' g')
    obtain ⟨r0, rest⟩ := h c
    obtain ⟨a0, a1⟩ := hargs c
    have A0 : m' ((c.tc : Thread Cert.Reference4Ideal.nD Cert.Reference4Ideal.τ).loc Cert.Reference4Ideal.main_arg0) = (m ((c : Thread nD τ).loc main_arg0)) := a0
    have A1 : m' ((c.tc : Thread Cert.Reference4Ideal.nD Cert.Reference4Ideal.τ).loc Cert.Reference4Ideal.main_arg1) = (m ((c : Thread nD τ).loc main_arg1)) := a1
    refine ⟨r0.trans ((Cert.Reference4Ideal.Read.val_main_v4_eq _ _).trans ?_), rest⟩
    rw [A0, A1]
    exact reference_at m c

/-- The reference changes no argument and leaves no counter raised. -/
theorem reference_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The compiled kernel and the idealised one have the same bodies. -/
theorem same_defs : Cert.Kernel4.defs (F := Bits) = Cert.Kernel4Ideal.defs (F := Bits) := by
  sl_kernel_rfl

theorem compiled_frame : Cert.quiescent_Kernel4 (hKernel4 := Cert.Kernel4.Gen.facts) := fun m ρ _ => by
  rw [same_defs]
  exact (θ_run Cert.Kernel4Ideal.defs _ _).mono (fun _ h => h) (Cert.Kernel4Ideal.Gen.frame (F := Bits) m ρ)

end Cert.Down

end

end
-- ==== Proof.Wgrad.Out.lean ====
module

public import proofs.«01_k».proof.Defs
public import proofs.«01_k».proof.Proof.Gen.Kernel5Ideal.Value
public import proofs.«01_k».proof.Proof.Gen.Kernel5
public import proofs.«01_k».proof.Proof.Gen.Reference5Ideal.Run
public import proofs.«01_k».proof.Proof.Gen.Reference5Ideal.Read
public import proofs.«01_k».proof.Proof.Wgrad.Sums
public import Idealize.ShloMosaic.Lib.Pipeline.ValueKit.Geometry
public import Idealize.ShloMosaic.Lib.ValueIdx
public import Idealize.ShloMosaic.Lib.Ring
public import Idealize.ShloMosaic.Adequacy
public import Idealize.ShloMosaic.Init

/-! The gradient of the output projection's weights: the kernel adds up the products of sixteen blocks of 1024 rows and the reference takes the
product over all the rows at once. -/

@[expose] public section

set_option maxRecDepth 16384

noncomputable section

namespace Cert.Out

open Cert.Kernel5Ideal Cert.Kernel5Ideal.Gen
open Idealize.ShloMosaic
open Idealize.ShloMosaic.TcCoe Idealize.ShloMosaic.ValueIdx
open Idealize.ShloMosaic.Tactic
open Idealize.ShloMosaic.Pipeline (Dat Cfg Window)
open Cert.Wgrad
open scoped BigOperators

theorem zeros : (![0, 0] : Fin 2 → Nat) = fun _ => 0 := funext fun a => by fin_cases a <;> rfl

/-! ## The payloads at an index -/

/-- A block's product, the rows contracted. -/
theorem product_at (a : FVec Ideal S1024x1024 .bf16) (b : FVec Ideal S1024x1024 .bf16) (i : Fin 1024) (j : Fin 1024) :
    matmul dot_S1024x1024_S1024x1024_S1024x1024_0_0_1_1_n_n none a b (constant S1024x1024 .f32 0x00000000#32) (ix2 i j)
      = ∑ k : Fin 1024, a (ix2 k i) * b (ix2 k j) := by
  simp only [matmul]
  rw [Ideal.matmul_apply, constant_apply, Ideal.ofBits_zero_f32, zero_add, ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 i j) ((contrEquiv1 dot_S1024x1024_S1024x1024_S1024x1024_0_0_1_1_n_n 1024 rfl rfl).symm k) = ix2 k i := funext fun d => Fin.ext (by
    match d with
    | ⟨0, _⟩ => exact (dot_S1024x1024_S1024x1024_S1024x1024_0_0_1_1_n_n.lhsIdx_val_of_single rfl _ _).trans hk
    | ⟨1, _⟩ => rfl)
  have er : dot_S1024x1024_S1024x1024_S1024x1024_0_0_1_1_n_n.rhsIdx (ix2 i j) ((contrEquiv1 dot_S1024x1024_S1024x1024_S1024x1024_0_0_1_1_n_n 1024 rfl rfl).symm k) = ix2 k j := funext fun d => Fin.ext (by
    match d with
    | ⟨0, _⟩ => exact (dot_S1024x1024_S1024x1024_S1024x1024_0_0_1_1_n_n.rhsIdx_val_of_single rfl _ _).trans hk
    | ⟨1, _⟩ => rfl)
  rw [el, er]

theorem start_at (i : Fin 1024) (j : Fin 1024) : k0_pay1 (F := Ideal) (ix2 i j) = 0 := by
  unfold k0_pay1
  rw [shapeCast_self]
  exact Ideal.ofBits_zero_f32

theorem step_at (s : Vec Ideal S1024x1024 .f32) (a : Vec Ideal S1024x1024 .bf16) (b : Vec Ideal S1024x1024 .bf16) (i : Fin 1024) (j : Fin 1024) :
    k0_pay2 s a b (ix2 i j) = s (ix2 i j) + ∑ k : Fin 1024, a (ix2 k i) * b (ix2 k j) := by
  unfold k0_pay2
  simp only [shapeCast_self]
  exact congrArg (s (ix2 i j) + ·) (product_at a b i j)

theorem store_at (s : Vec Ideal S1024x1024 .f32) (i : Fin 1024) (j : Fin 1024) : k0_pay3 s (ix2 i j) = s (ix2 i j) := by
  unfold k0_pay3
  rfl

/-! ## What a point leaves -/

theorem carried_A (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .bf16) (h2 : a2.IsWhole)
    (a3 : Memref sig .tc .vmem S1024x1024 .f32) (h3 : a3.IsWhole) (hc0 : cond0_0 i) (hc1 : ¬cond0_1 i) (x : Vec Ideal S1024x1024 .bf16) (y : Vec Ideal S1024x1024 .bf16) :
    sout0_A_0 c i a0 h0 a1 h1 a2 h2 a3 h3 hc0 hc1 x y = k0_pay2 k0_pay1 x y := by
  unfold sout0_A_0
  rw [View.read_writes_eq_canon _ _ _ (scover0_A_0 c i a0 h0 a1 h1 a2 h2 a3 h3 hc0 hc1 x y)]
  unfold kernelRun0_A
  dsimp only
  sl_unfold_words
  rw [View.canon_cons_unit_zero (S := S1024x1024) zeros, View.readCov_unit_zero (S := S1024x1024) _ zeros]
  simp only [View.readAt_eq_ld, h0.read_unread, h1.read_unread, View.ld_unit_zero (S := S1024x1024) zeros, View.ld_unit_zero (S := S1024x1024) zeros]

theorem carried_B (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .bf16) (h2 : a2.IsWhole)
    (a3 : Memref sig .tc .vmem S1024x1024 .f32) (h3 : a3.IsWhole) (hc0 : ¬cond0_0 i) (hc1 : ¬cond0_1 i) (x : Vec Ideal S1024x1024 .bf16) (y : Vec Ideal S1024x1024 .bf16) (s : Vec Ideal S1024x1024 .f32) :
    sout0_B_0 c i a0 h0 a1 h1 a2 h2 a3 h3 hc0 hc1 x y s = k0_pay2 s x y := by
  unfold sout0_B_0
  rw [View.read_writes_eq_canon _ _ _ (scover0_B_0 c i a0 h0 a1 h1 a2 h2 a3 h3 hc0 hc1 x y s)]
  unfold kernelRun0_B
  dsimp only
  rw [View.canon_unit_zero zeros]
  simp only [View.readAt_eq_ld, h0.read_unread, h1.read_unread, h3.read_unread, View.ld_unit_zero (S := S1024x1024) zeros, View.ld_unit_zero (S := S1024x1024) zeros]

theorem carried_C (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .bf16) (h2 : a2.IsWhole)
    (a3 : Memref sig .tc .vmem S1024x1024 .f32) (h3 : a3.IsWhole) (hc0 : ¬cond0_0 i) (hc1 : cond0_1 i) (x : Vec Ideal S1024x1024 .bf16) (y : Vec Ideal S1024x1024 .bf16) (s : Vec Ideal S1024x1024 .f32) :
    sout0_C_0 c i a0 h0 a1 h1 a2 h2 a3 h3 hc0 hc1 x y s = k0_pay2 s x y := by
  unfold sout0_C_0
  rw [View.read_writes_eq_canon _ _ _ (scover0_C_0 c i a0 h0 a1 h1 a2 h2 a3 h3 hc0 hc1 x y s)]
  unfold kernelRun0_C
  dsimp only
  sl_unfold_words
  rw [View.canon_unit_zero zeros]
  simp only [View.readAt_eq_ld, h0.read_unread, h1.read_unread, h3.read_unread, View.ld_unit_zero (S := S1024x1024) zeros, View.ld_unit_zero (S := S1024x1024) zeros]

theorem stored_C (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .bf16) (h2 : a2.IsWhole)
    (a3 : Memref sig .tc .vmem S1024x1024 .f32) (h3 : a3.IsWhole) (hc0 : ¬cond0_0 i) (hc1 : cond0_1 i) (x : Vec Ideal S1024x1024 .bf16) (y : Vec Ideal S1024x1024 .bf16) (s : Vec Ideal S1024x1024 .f32) :
    out0_C_2 c i a0 h0 a1 h1 a2 h2 a3 h3 hc0 hc1 x y s = k0_pay3 (k0_pay2 s x y) := by
  unfold out0_C_2
  rw [View.read_writes_eq_canon _ _ _ (cover0_C_2 c i a0 h0 a1 h1 a2 h2 a3 h3 hc0 hc1 x y s)]
  unfold kernelRun0_C
  dsimp only
  sl_unfold_words
  rw [View.canon_unit_zero zeros, View.readCov_unit_zero (S := S1024x1024) _ zeros]
  simp only [View.readAt_eq_ld, h0.read_unread, h1.read_unread, h3.read_unread, View.ld_unit_zero (S := S1024x1024) zeros, View.ld_unit_zero (S := S1024x1024) zeros]

/-! ## The blocks -/

section
variable (m : (ℓ : Loc nD τ sig) → Buf (Elt Ideal) ℓ) (c : Dev nD)

/-- The two factors of the product. -/
abbrev A : Vec Ideal S16384x1024 .f32 := m ((c : Thread nD τ).loc main_arg0)
abbrev B : Vec Ideal S16384x1024 .f32 := m ((c : Thread nD τ).loc main_arg1)

theorem V_a : V m c main_v0 = (truncf .bf16 (φ := .f32) (A m c) bitsLt_bf16_f32 : FVec Ideal S16384x1024 .bf16) := by
  simp only [V, hostOps0]
  after_results_simp <;> rfl

theorem V_b : V m c main_v1 = (truncf .bf16 (φ := .f32) (B m c) bitsLt_bf16_f32 : FVec Ideal S16384x1024 .bf16) := by
  simp only [V, hostOps0]
  after_results_simp <;> rfl

theorem points : cfg0.N = 16 := N_0

/-- Column `j` of the block of columns that point `n` works on. -/
def col (n : ℕ) (j : Fin 1024) : Fin 1024 := ⟨(1024 * (n / 16) + j.val) % 1024, Nat.mod_lt _ (by decide)⟩

theorem e0 : ∀ t : Fin cfg0.N, win0_0.index t = ![t.val % 16, 0] := (by decide +kernel : ∀ t : Fin grid0.N, win0_0.index t = ![t.val % 16, 0])
theorem e1 : ∀ t : Fin cfg0.N, win0_1.index t = ![t.val % 16, t.val / 16] := (by decide +kernel : ∀ t : Fin grid0.N, win0_1.index t = ![t.val % 16, t.val / 16])
theorem e2 : ∀ t : Fin cfg0.N, win0_2.index t = ![0, t.val / 16] := (by decide +kernel : ∀ t : Fin grid0.N, win0_2.index t = ![0, t.val / 16])

/-- The blocks of the two factors at a point. -/
def ab (t : Fin cfg0.N) : Vec Ideal S1024x1024 .bf16 := iblk m c 0 t
def bb (t : Fin cfg0.N) : Vec Ideal S1024x1024 .bf16 := iblk m c 1 t

theorem a_block (t : Fin cfg0.N) (k i : Fin 1024) : ab m c t (ix2 k i) = A m c (ix2 (row (t.val % 16) k) i) := by
  show iblk m c 0 t (ix2 k i) = _
  blk_simp [iblk]
  refine (congrFun (V_a m c) _).trans (congrArg (A m c) ?_)
  funext a
  match a with
  | ⟨0, _⟩ =>
    refine Fin.ext ?_
    blk_simp [e0]
    show t.val % 16 * 1024 + k.val = (1024 * (t.val % 16) + k.val) % 16384
    have := k.isLt
    omega
  | ⟨1, _⟩ =>
    refine Fin.ext ?_
    blk_simp [e0]

theorem b_block (t : Fin cfg0.N) (k : Fin 1024) (j : Fin 1024) : bb m c t (ix2 k j) = B m c (ix2 (row (t.val % 16) k) (col t.val j)) := by
  have ht := lt_of_lt_of_eq t.isLt points
  show iblk m c 1 t (ix2 k j) = _
  blk_simp [iblk]
  refine (congrFun (V_b m c) _).trans (congrArg (B m c) ?_)
  funext a
  match a with
  | ⟨0, _⟩ =>
    refine Fin.ext ?_
    blk_simp [e1]
    show t.val % 16 * 1024 + k.val = (1024 * (t.val % 16) + k.val) % 16384
    have := k.isLt
    omega
  | ⟨1, _⟩ =>
    refine Fin.ext ?_
    blk_simp [e1]
    show t.val / 16 * 1024 + j.val = (1024 * (t.val / 16) + j.val) % 1024
    have := j.isLt
    omega

/-! ## The sum carried over the points -/

/-- The summand of the product at row `i` and column `q`. -/
def term (i : Fin 1024) (q : Fin 1024) (r : Fin 16384) : EReal := A m c (ix2 r i) * B m c (ix2 r q)

theorem blocks_sum (t : Fin cfg0.N) (i : Fin 1024) (j : Fin 1024) :
    ∑ k : Fin 1024, ab m c t (ix2 k i) * bb m c t (ix2 k j) = ∑ k : Fin 1024, term m c i (col t.val j) (row (t.val % 16) k) :=
  Finset.sum_congr rfl fun k _ => by rw [a_block, b_block]; rfl

theorem at_A (t : Fin cfg0.N) (h0 : t.val % 16 = 0) (h1 : ¬t.val % 16 = 15) : (outsAt0 m c t.val t.isLt).2 = k0_pay2 k0_pay1 (ab m c t) (bb m c t) := by
  rw [outsAt0_A m c t h0 h1, carried_A]
  rfl

/-- What the point before left in the scratch. -/
def prev (t : Fin cfg0.N) : Vec Ideal S1024x1024 .f32 := (outsAt0 m c (t.val - 1) (Nat.lt_of_le_of_lt (Nat.sub_le _ _) t.isLt)).2

theorem at_B (t : Fin cfg0.N) (h0 : ¬t.val % 16 = 0) (h1 : ¬t.val % 16 = 15) : (outsAt0 m c t.val t.isLt).2 = k0_pay2 (prev m c t) (ab m c t) (bb m c t) := by
  rw [outsAt0_B m c t h0 h1, carried_B]
  rfl

theorem at_C (t : Fin cfg0.N) (h0 : ¬t.val % 16 = 0) (h1 : t.val % 16 = 15) : (outsAt0 m c t.val t.isLt).2 = k0_pay2 (prev m c t) (ab m c t) (bb m c t) := by
  rw [outsAt0_C m c t h0 h1, carried_C]
  rfl

theorem result_C (t : Fin cfg0.N) (h0 : ¬t.val % 16 = 0) (h1 : t.val % 16 = 15) :
    (outsAt0 m c t.val t.isLt).1 = k0_pay3 (outsAt0 m c t.val t.isLt).2 := by
  rw [at_C m c t h0 h1, outsAt0_C m c t h0 h1, stored_C]
  rfl

theorem at_rest (t : Fin cfg0.N) (h0 : ¬t.val % 16 = 0) : (outsAt0 m c t.val t.isLt).2 = k0_pay2 (prev m c t) (ab m c t) (bb m c t) := by
  by_cases h1 : t.val % 16 = 15
  · exact at_C m c t h0 h1
  · exact at_B m c t h0 h1

theorem col_succ (n : ℕ) (h : ¬(n + 1) % 16 = 0) (j : Fin 1024) : col (n + 1) j = col n j := by
  refine Fin.ext ?_
  show (1024 * ((n + 1) / 16) + j.val) % 1024 = (1024 * (n / 16) + j.val) % 1024
  rw [show (n + 1) / 16 = n / 16 by omega]

/-- After each point the scratch holds the sum over the rows of its blocks so far. -/
theorem carried_at (i : Fin 1024) (j : Fin 1024) : ∀ (n : ℕ) (h : n < cfg0.N),
    (outsAt0 m c n h).2 (ix2 i j) = below (term m c i (col n j)) (n % 16 + 1)
  | n, h => by
    by_cases h0 : n % 16 = 0
    · refine (congrFun (at_A m c ⟨n, h⟩ h0 (by show ¬n % 16 = 15; omega)) _).trans ?_
      rw [step_at, start_at, zero_add, h0, below_one, blocks_sum m c ⟨n, h⟩ i j]
      rw [show (⟨n, h⟩ : Fin cfg0.N).val % 16 = 0 from h0]
    · match n, h, h0 with
      | n + 1, h, h0 =>
        have hprev : prev m c ⟨n + 1, h⟩ (ix2 i j) = _ := carried_at i j n (Nat.lt_of_succ_lt h)
        refine (congrFun (at_rest m c ⟨n + 1, h⟩ h0) _).trans ?_
        rw [step_at, hprev, blocks_sum m c ⟨n + 1, h⟩ i j, show (n + 1) % 16 + 1 = (n % 16 + 1) + 1 by omega, col_succ n h0,
          show (⟨n + 1, h⟩ : Fin cfg0.N).val % 16 = n % 16 + 1 by show (n + 1) % 16 = _; omega]
        exact (below_succ _ _).symm

/-- The product over all the rows. -/
def whole : Vec Ideal S1024x1024 .bf16 := fun y => ∑ r : Fin 16384, term m c (y 0) (y 1) r

theorem point2 (t : Fin cfg0.N) (h1 : t.val % 16 = 15) (i : Fin 1024) (j : Fin 1024) : (outsAt0 m c t.val t.isLt).1 (ix2 i j) = whole m c (ix2 i (col t.val j)) := by
  have h0 : ¬t.val % 16 = 0 := by omega
  refine (congrFun (result_C m c t h0 h1) _).trans ((store_at ..).trans ((carried_at m c i j t.val t.isLt).trans ?_))
  rw [h1]
  exact below_all _

theorem emb2 (t : Fin cfg0.N) (y : S1024x1024.Idx) : ((cfg0.win 2).blk t).view.emb y = (ix2 (y 0) (col t.val (y 1)) : S1024x1024.Idx) := by
  have ht := lt_of_lt_of_eq t.isLt points
  funext a
  match a with
  | ⟨1, _⟩ =>
    refine Fin.ext ?_
    have := (y 1).isLt
    blk_simp [e2]
    show t.val / 16 * 1024 + (y 1).val = (1024 * (t.val / 16) + (y 1).val) % 1024
    have hy : (y 1).val < 1024 := (y 1).isLt
    omega
  | ⟨0, _⟩ =>
    refine Fin.ext ?_
    blk_simp [e2]
    rfl

theorem final2 : (dats m 0 c).arrAt 2 cfg0.N = whole m c := by
  refine (dats m 0 c).arrAt_eq_of_covers 2 _ (by decide +kernel) fun t hf y => ?_
  rw [emb2 t y]
  blk_simp
  rw [after0_2]
  exact (congrArg _ (eq_ix2 y)).trans (point2 m c t ((flush0_2 t).mp hf) (y 0) (y 1))
end

/-! ## The reference -/

section
open Cert.Reference5Ideal.Read

theorem reference_at (m : (ℓ : Loc nD τ sig) → Buf (Elt Ideal) ℓ) (c : Dev nD) :
    val_main_v4 (F := Ideal) (A m c) (B m c) = whole m c := by
  refine funext fun y => ?_
  show val_main_v3 (F := Ideal) _ _ y = _
  rw [val_main_v3_apply, val_main_v2_apply]
  refine Finset.sum_congr rfl fun r _ => ?_
  rw [mul_comm]
  exact congrArg₂ (· * ·) (congrArg (A m c) (funext fun a => match a with | ⟨0, _⟩ => rfl | ⟨1, _⟩ => rfl))
    (congrArg (B m c) (funext fun a => match a with | ⟨0, _⟩ => rfl | ⟨1, _⟩ => rfl))
end

set_option maxHeartbeats 1000000 in
/-- The kernel and the reference leave the same gradient. -/
theorem same_results : Cert.algebraic_Kernel5Ideal_Reference5Ideal
    (hKernel5Ideal := Cert.Kernel5Ideal.Gen.facts) (hReference5Ideal := Cert.Reference5Ideal.Gen.facts) := by
  intro m g m' g' _ hargs
  refine ⟨fun c => whole m c, ?_, ?_⟩
  · exact (θ_run Cert.Kernel5Ideal.defs _ _).mono (fun r h c => ⟨(h c).1.trans (final2 m c), (h c).2⟩) (Cert.Kernel5Ideal.Value.run_blocks m g)
  · refine (θ_run Cert.Reference5Ideal.defs _ _).mono (fun r h c => ?_) (Cert.Reference5Ideal.Value.run m' g')
    obtain ⟨r0, rest⟩ := h c
    obtain ⟨a0, a1⟩ := hargs c
    have A0 : m' ((c.tc : Thread Cert.Reference5Ideal.nD Cert.Reference5Ideal.τ).loc Cert.Reference5Ideal.main_arg0) = (m ((c : Thread nD τ).loc main_arg0)) := a0
    have A1 : m' ((c.tc : Thread Cert.Reference5Ideal.nD Cert.Reference5Ideal.τ).loc Cert.Reference5Ideal.main_arg1) = (m ((c : Thread nD τ).loc main_arg1)) := a1
    refine ⟨r0.trans ((Cert.Reference5Ideal.Read.val_main_v4_eq _ _).trans ?_), rest⟩
    rw [A0, A1]
    exact reference_at m c

/-- The reference changes no argument and leaves no counter raised. -/
theorem reference_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The compiled kernel and the idealised one have the same bodies. -/
theorem same_defs : Cert.Kernel5.defs (F := Bits) = Cert.Kernel5Ideal.defs (F := Bits) := by
  sl_kernel_rfl

theorem compiled_frame : Cert.quiescent_Kernel5 (hKernel5 := Cert.Kernel5.Gen.facts) := fun m ρ _ => by
  rw [same_defs]
  exact (θ_run Cert.Kernel5Ideal.defs _ _).mono (fun _ h => h) (Cert.Kernel5Ideal.Gen.frame (F := Bits) m ρ)

end Cert.Out

end

end
-- ==== Proof.Wgrad.GateUp.lean ====
module

public import proofs.«01_k».proof.Defs
public import proofs.«01_k».proof.Proof.Gen.Kernel3Ideal.Value
public import proofs.«01_k».proof.Proof.Gen.Kernel3
public import proofs.«01_k».proof.Proof.Gen.Reference3Ideal.Run
public import proofs.«01_k».proof.Proof.Gen.Reference3Ideal.Read
public import proofs.«01_k».proof.Proof.Wgrad.Sums
public import Idealize.ShloMosaic.Lib.Pipeline.ValueKit.Geometry
public import Idealize.ShloMosaic.Lib.ValueIdx
public import Idealize.ShloMosaic.Lib.Ring
public import Idealize.ShloMosaic.Adequacy
public import Idealize.ShloMosaic.Init

/-! The gradient of the gate and up products' weights: the kernel adds up the products of sixteen blocks of 1024 rows and the reference takes the
product over all the rows at once. -/

@[expose] public section

set_option maxRecDepth 16384

noncomputable section

namespace Cert.GateUp

open Cert.Kernel3Ideal Cert.Kernel3Ideal.Gen
open Idealize.ShloMosaic
open Idealize.ShloMosaic.TcCoe Idealize.ShloMosaic.ValueIdx
open Idealize.ShloMosaic.Tactic
open Idealize.ShloMosaic.Pipeline (Dat Cfg Window)
open Cert.Wgrad
open scoped BigOperators

theorem zeros : (![0, 0] : Fin 2 → Nat) = fun _ => 0 := funext fun a => by fin_cases a <;> rfl

/-! ## The payloads at an index -/

/-- A block's product, the rows contracted. -/
theorem product_at (a : FVec Ideal S1024x1024 .bf16) (b : FVec Ideal S1024x2816 .bf16) (i : Fin 1024) (j : Fin 2816) :
    matmul dot_S1024x1024_S1024x2816_S1024x2816_0_0_1_1_n_n none a b (constant S1024x2816 .f32 0x00000000#32) (ix2 i j)
      = ∑ k : Fin 1024, a (ix2 k i) * b (ix2 k j) := by
  simp only [matmul]
  rw [Ideal.matmul_apply, constant_apply, Ideal.ofBits_zero_f32, zero_add, ← Equiv.sum_comp (contrEquiv1 dot_S1024x1024_S1024x2816_S1024x2816_0_0_1_1_n_n 1024 rfl rfl).symm]
  refine Finset.sum_congr rfl fun k _ => ?_
  have hk := contrEquiv1_symm_val dot_S1024x1024_S1024x2816_S1024x2816_0_0_1_1_n_n 1024 rfl rfl k
  have el : dot_S1024x1024_S1024x2816_S1024x2816_0_0_1_1_n_n.lhsIdx (ix2 i j) ((contrEquiv1 dot_S1024x1024_S1024x2816_S1024x2816_0_0_1_1_n_n 1024 rfl rfl).symm k) = ix2 k i := funext fun d => Fin.ext (by
    match d with
    | ⟨0, _⟩ => exact (dot_S1024x1024_S1024x2816_S1024x2816_0_0_1_1_n_n.lhsIdx_val_of_single rfl _ _).trans hk
    | ⟨1, _⟩ => rfl)
  have er : dot_S1024x1024_S1024x2816_S1024x2816_0_0_1_1_n_n.rhsIdx (ix2 i j) ((contrEquiv1 dot_S1024x1024_S1024x2816_S1024x2816_0_0_1_1_n_n 1024 rfl rfl).symm k) = ix2 k j := funext fun d => Fin.ext (by
    match d with
    | ⟨0, _⟩ => exact (dot_S1024x1024_S1024x2816_S1024x2816_0_0_1_1_n_n.rhsIdx_val_of_single rfl _ _).trans hk
    | ⟨1, _⟩ => rfl)
  rw [el, er]

theorem start_at (i : Fin 1024) (j : Fin 2816) : k0_pay1 (F := Ideal) (ix2 i j) = 0 := by
  unfold k0_pay1
  rw [shapeCast_self]
  exact Ideal.ofBits_zero_f32

theorem step_at (s : Vec Ideal S1024x2816 .f32) (a : Vec Ideal S1024x1024 .bf16) (b : Vec Ideal S1024x2816 .bf16) (i : Fin 1024) (j : Fin 2816) :
    k0_pay2 s a b (ix2 i j) = s (ix2 i j) + ∑ k : Fin 1024, a (ix2 k i) * b (ix2 k j) := by
  unfold k0_pay2
  simp only [shapeCast_self]
  exact congrArg (s (ix2 i j) + ·) (product_at a b i j)

theorem store_at (s : Vec Ideal S1024x2816 .f32) (j : Fin 2816) (i : Fin 1024) : k0_pay3 s (ix2 j i) = s (ix2 i j) := by
  unfold k0_pay3
  dsimp only
  exact transpose_apply _ s _ (ix2 j i) (ix2 i j) fun b => match b with | ⟨0, _⟩ => rfl | ⟨1, _⟩ => rfl

/-! ## What a point leaves -/

theorem carried_A (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : cond0_0 i) (hc1 : ¬cond0_1 i) (x : Vec Ideal S1024x1024 .bf16) (y : Vec Ideal S1024x2816 .bf16) :
    sout0_A_0 c i a0 h0 a1 h1 a2 h2 a3 h3 hc0 hc1 x y = k0_pay2 k0_pay1 x y := by
  unfold sout0_A_0
  rw [View.read_writes_eq_canon _ _ _ (scover0_A_0 c i a0 h0 a1 h1 a2 h2 a3 h3 hc0 hc1 x y)]
  unfold kernelRun0_A
  dsimp only
  sl_unfold_words
  rw [View.canon_cons_unit_zero (S := S1024x2816) zeros, View.readCov_unit_zero (S := S1024x2816) _ zeros]
  simp only [View.readAt_eq_ld, h0.read_unread, h1.read_unread, View.ld_unit_zero (S := S1024x1024) zeros, View.ld_unit_zero (S := S1024x2816) zeros]

theorem carried_B (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : ¬cond0_0 i) (hc1 : ¬cond0_1 i) (x : Vec Ideal S1024x1024 .bf16) (y : Vec Ideal S1024x2816 .bf16) (s : Vec Ideal S1024x2816 .f32) :
    sout0_B_0 c i a0 h0 a1 h1 a2 h2 a3 h3 hc0 hc1 x y s = k0_pay2 s x y := by
  unfold sout0_B_0
  rw [View.read_writes_eq_canon _ _ _ (scover0_B_0 c i a0 h0 a1 h1 a2 h2 a3 h3 hc0 hc1 x y s)]
  unfold kernelRun0_B
  dsimp only
  rw [View.canon_unit_zero zeros]
  simp only [View.readAt_eq_ld, h0.read_unread, h1.read_unread, h3.read_unread, View.ld_unit_zero (S := S1024x1024) zeros, View.ld_unit_zero (S := S1024x2816) zeros]

theorem carried_C (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : ¬cond0_0 i) (hc1 : cond0_1 i) (x : Vec Ideal S1024x1024 .bf16) (y : Vec Ideal S1024x2816 .bf16) (s : Vec Ideal S1024x2816 .f32) :
    sout0_C_0 c i a0 h0 a1 h1 a2 h2 a3 h3 hc0 hc1 x y s = k0_pay2 s x y := by
  unfold sout0_C_0
  rw [View.read_writes_eq_canon _ _ _ (scover0_C_0 c i a0 h0 a1 h1 a2 h2 a3 h3 hc0 hc1 x y s)]
  unfold kernelRun0_C
  dsimp only
  sl_unfold_words
  rw [View.canon_unit_zero zeros]
  simp only [View.readAt_eq_ld, h0.read_unread, h1.read_unread, h3.read_unread, View.ld_unit_zero (S := S1024x1024) zeros, View.ld_unit_zero (S := S1024x2816) zeros]

theorem stored_C (c : Dev nD) (i : grid0.Coords) (a0 : Memref sig .tc .vmem S1024x1024 .bf16) (h0 : a0.IsWhole)
    (a1 : Memref sig .tc .vmem S1024x2816 .bf16) (h1 : a1.IsWhole) (a2 : Memref sig .tc .vmem S2816x1024 .bf16) (h2 : a2.IsWhole)
    (a3 : Memref sig .tc .vmem S1024x2816 .f32) (h3 : a3.IsWhole) (hc0 : ¬cond0_0 i) (hc1 : cond0_1 i) (x : Vec Ideal S1024x1024 .bf16) (y : Vec Ideal S1024x2816 .bf16) (s : Vec Ideal S1024x2816 .f32) :
    out0_C_2 c i a0 h0 a1 h1 a2 h2 a3 h3 hc0 hc1 x y s = k0_pay3 (k0_pay2 s x y) := by
  unfold out0_C_2
  rw [View.read_writes_eq_canon _ _ _ (cover0_C_2 c i a0 h0 a1 h1 a2 h2 a3 h3 hc0 hc1 x y s)]
  unfold kernelRun0_C
  dsimp only
  sl_unfold_words
  rw [View.canon_unit_zero zeros, View.readCov_unit_zero (S := S1024x2816) _ zeros]
  simp only [View.readAt_eq_ld, h0.read_unread, h1.read_unread, h3.read_unread, View.ld_unit_zero (S := S1024x1024) zeros, View.ld_unit_zero (S := S1024x2816) zeros]

/-! ## The blocks -/

section
variable (m : (ℓ : Loc nD τ sig) → Buf (Elt Ideal) ℓ) (c : Dev nD)

/-- The two factors of the product. -/
abbrev A : Vec Ideal S16384x1024 .f32 := m ((c : Thread nD τ).loc main_arg0)
abbrev B : Vec Ideal S16384x5632 .f32 := concatenate S16384x5632 1 [⟨S16384x2816, m ((c : Thread nD τ).loc main_arg1)⟩, ⟨S16384x2816, m ((c : Thread nD τ).loc main_arg2)⟩] concatenates_S16384x2816_S16384x2816_S16384x5632_d1

theorem V_a : V m c main_v0 = (truncf .bf16 (φ := .f32) (A m c) bitsLt_bf16_f32 : FVec Ideal S16384x1024 .bf16) := by
  simp only [V, hostOps0]
  after_results_simp <;> rfl

theorem V_b : V m c main_v2 = (truncf .bf16 (φ := .f32) (B m c) bitsLt_bf16_f32 : FVec Ideal S16384x5632 .bf16) := by
  simp only [V, hostOps0]
  after_results_simp <;> rfl

theorem points : cfg0.N = 32 := N_0

/-- Column `j` of the block of columns that point `n` works on. -/
def col (n : ℕ) (j : Fin 2816) : Fin 5632 := ⟨(2816 * (n / 16) + j.val) % 5632, Nat.mod_lt _ (by decide)⟩

theorem e0 : ∀ t : Fin cfg0.N, win0_0.index t = ![t.val % 16, 0] := (by decide +kernel : ∀ t : Fin grid0.N, win0_0.index t = ![t.val % 16, 0])
theorem e1 : ∀ t : Fin cfg0.N, win0_1.index t = ![t.val % 16, t.val / 16] := (by decide +kernel : ∀ t : Fin grid0.N, win0_1.index t = ![t.val % 16, t.val / 16])
theorem e2 : ∀ t : Fin cfg0.N, win0_2.index t = ![t.val / 16, 0] := (by decide +kernel : ∀ t : Fin grid0.N, win0_2.index t = ![t.val / 16, 0])

/-- The blocks of the two factors at a point. -/
def ab (t : Fin cfg0.N) : Vec Ideal S1024x1024 .bf16 := iblk m c 0 t
def bb (t : Fin cfg0.N) : Vec Ideal S1024x2816 .bf16 := iblk m c 1 t

theorem a_block (t : Fin cfg0.N) (k i : Fin 1024) : ab m c t (ix2 k i) = A m c (ix2 (row (t.val % 16) k) i) := by
  show iblk m c 0 t (ix2 k i) = _
  blk_simp [iblk]
  refine (congrFun (V_a m c) _).trans (congrArg (A m c) ?_)
  funext a
  match a with
  | ⟨0, _⟩ =>
    refine Fin.ext ?_
    blk_simp [e0]
    show t.val % 16 * 1024 + k.val = (1024 * (t.val % 16) + k.val) % 16384
    have := k.isLt
    omega
  | ⟨1, _⟩ =>
    refine Fin.ext ?_
    blk_simp [e0]

theorem b_block (t : Fin cfg0.N) (k : Fin 1024) (j : Fin 2816) : bb m c t (ix2 k j) = B m c (ix2 (row (t.val % 16) k) (col t.val j)) := by
  have ht := lt_of_lt_of_eq t.isLt points
  show iblk m c 1 t (ix2 k j) = _
  blk_simp [iblk]
  refine (congrFun (V_b m c) _).trans (congrArg (B m c) ?_)
  funext a
  match a with
  | ⟨0, _⟩ =>
    refine Fin.ext ?_
    blk_simp [e1]
    show t.val % 16 * 1024 + k.val = (1024 * (t.val % 16) + k.val) % 16384
    have := k.isLt
    omega
  | ⟨1, _⟩ =>
    refine Fin.ext ?_
    blk_simp [e1]
    show t.val / 16 * 2816 + j.val = (2816 * (t.val / 16) + j.val) % 5632
    have := j.isLt
    omega

/-! ## The sum carried over the points -/

/-- The summand of the product at row `i` and column `q`. -/
def term (i : Fin 1024) (q : Fin 5632) (r : Fin 16384) : EReal := A m c (ix2 r i) * B m c (ix2 r q)

theorem blocks_sum (t : Fin cfg0.N) (i : Fin 1024) (j : Fin 2816) :
    ∑ k : Fin 1024, ab m c t (ix2 k i) * bb m c t (ix2 k j) = ∑ k : Fin 1024, term m c i (col t.val j) (row (t.val % 16) k) :=
  Finset.sum_congr rfl fun k _ => by rw [a_block, b_block]; rfl

theorem at_A (t : Fin cfg0.N) (h0 : t.val % 16 = 0) (h1 : ¬t.val % 16 = 15) : (outsAt0 m c t.val t.isLt).2 = k0_pay2 k0_pay1 (ab m c t) (bb m c t) := by
  rw [outsAt0_A m c t h0 h1, carried_A]
  rfl

/-- What the point before left in the scratch. -/
def prev (t : Fin cfg0.N) : Vec Ideal S1024x2816 .f32 := (outsAt0 m c (t.val - 1) (Nat.lt_of_le_of_lt (Nat.sub_le _ _) t.isLt)).2

theorem at_B (t : Fin cfg0.N) (h0 : ¬t.val % 16 = 0) (h1 : ¬t.val % 16 = 15) : (outsAt0 m c t.val t.isLt).2 = k0_pay2 (prev m c t) (ab m c t) (bb m c t) := by
  rw [outsAt0_B m c t h0 h1, carried_B]
  rfl

theorem at_C (t : Fin cfg0.N) (h0 : ¬t.val % 16 = 0) (h1 : t.val % 16 = 15) : (outsAt0 m c t.val t.isLt).2 = k0_pay2 (prev m c t) (ab m c t) (bb m c t) := by
  rw [outsAt0_C m c t h0 h1, carried_C]
  rfl

theorem result_C (t : Fin cfg0.N) (h0 : ¬t.val % 16 = 0) (h1 : t.val % 16 = 15) :
    (outsAt0 m c t.val t.isLt).1 = k0_pay3 (outsAt0 m c t.val t.isLt).2 := by
  rw [at_C m c t h0 h1, outsAt0_C m c t h0 h1, stored_C]
  rfl

theorem at_rest (t : Fin cfg0.N) (h0 : ¬t.val % 16 = 0) : (outsAt0 m c t.val t.isLt).2 = k0_pay2 (prev m c t) (ab m c t) (bb m c t) := by
  by_cases h1 : t.val % 16 = 15
  · exact at_C m c t h0 h1
  · exact at_B m c t h0 h1

theorem col_succ (n : ℕ) (h : ¬(n + 1) % 16 = 0) (j : Fin 2816) : col (n + 1) j = col n j := by
  refine Fin.ext ?_
  show (2816 * ((n + 1) / 16) + j.val) % 5632 = (2816 * (n / 16) + j.val) % 5632
  rw [show (n + 1) / 16 = n / 16 by omega]

/-- After each point the scratch holds the sum over the rows of its blocks so far. -/
theorem carried_at (i : Fin 1024) (j : Fin 2816) : ∀ (n : ℕ) (h : n < cfg0.N),
    (outsAt0 m c n h).2 (ix2 i j) = below (term m c i (col n j)) (n % 16 + 1)
  | n, h => by
    by_cases h0 : n % 16 = 0
    · refine (congrFun (at_A m c ⟨n, h⟩ h0 (by show ¬n % 16 = 15; omega)) _).trans ?_
      rw [step_at, start_at, zero_add, h0, below_one, blocks_sum m c ⟨n, h⟩ i j]
      rw [show (⟨n, h⟩ : Fin cfg0.N).val % 16 = 0 from h0]
    · match n, h, h0 with
      | n + 1, h, h0 =>
        have hprev : prev m c ⟨n + 1, h⟩ (ix2 i j) = _ := carried_at i j n (Nat.lt_of_succ_lt h)
        refine (congrFun (at_rest m c ⟨n + 1, h⟩ h0) _).trans ?_
        rw [step_at, hprev, blocks_sum m c ⟨n + 1, h⟩ i j, show (n + 1) % 16 + 1 = (n % 16 + 1) + 1 by omega, col_succ n h0,
          show (⟨n + 1, h⟩ : Fin cfg0.N).val % 16 = n % 16 + 1 by show (n + 1) % 16 = _; omega]
        exact (below_succ _ _).symm

/-- The product over all the rows. -/
def whole : Vec Ideal S5632x1024 .bf16 := fun y => ∑ r : Fin 16384, term m c (y 1) (y 0) r

theorem point2 (t : Fin cfg0.N) (h1 : t.val % 16 = 15) (j : Fin 2816) (i : Fin 1024) : (outsAt0 m c t.val t.isLt).1 (ix2 j i) = whole m c (ix2 (col t.val j) i) := by
  have h0 : ¬t.val % 16 = 0 := by omega
  refine (congrFun (result_C m c t h0 h1) _).trans ((store_at ..).trans ((carried_at m c i j t.val t.isLt).trans ?_))
  rw [h1]
  exact below_all _

theorem emb2 (t : Fin cfg0.N) (y : S2816x1024.Idx) : ((cfg0.win 2).blk t).view.emb y = (ix2 (col t.val (y 0)) (y 1) : S5632x1024.Idx) := by
  have ht := lt_of_lt_of_eq t.isLt points
  funext a
  match a with
  | ⟨0, _⟩ =>
    refine Fin.ext ?_
    have := (y 0).isLt
    blk_simp [e2]
    show t.val / 16 * 2816 + (y 0).val = (2816 * (t.val / 16) + (y 0).val) % 5632
    have hy : (y 0).val < 2816 := (y 0).isLt
    omega
  | ⟨1, _⟩ =>
    refine Fin.ext ?_
    blk_simp [e2]
    rfl

theorem final2 : (dats m 0 c).arrAt 2 cfg0.N = whole m c := by
  refine (dats m 0 c).arrAt_eq_of_covers 2 _ (by decide +kernel) fun t hf y => ?_
  rw [emb2 t y]
  blk_simp
  rw [after0_2]
  exact (congrArg _ (eq_ix2 y)).trans (point2 m c t ((flush0_2 t).mp hf) (y 0) (y 1))
end

/-! ## The reference -/

section
open Cert.Reference3Ideal.Read

theorem reference_gate (x0 : Vec Ideal S16384x1024 .f32) (x1 : Vec Ideal S16384x2816 .f32) (q : Fin 2816) (d : Fin 1024) :
    val_main_v7 (F := Ideal) x0 x1 (ix2 q d) = ∑ r : Fin 16384, x0 (ix2 r d) * x1 (ix2 r q) := by
  rw [val_main_v7_apply, val_main_v6_apply, val_main_v5_apply]
  refine Finset.sum_congr rfl fun r _ => ?_
  rw [mul_comm]
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem reference_up (x0 : Vec Ideal S16384x1024 .f32) (x2 : Vec Ideal S16384x2816 .f32) (q : Fin 2816) (d : Fin 1024) :
    val_main_v8 (F := Ideal) x0 x2 (ix2 q d) = ∑ r : Fin 16384, x0 (ix2 r d) * x2 (ix2 r q) := by
  rw [val_main_v8_apply, val_main_v4_apply, val_main_v3_apply]
  refine Finset.sum_congr rfl fun r _ => ?_
  rw [mul_comm]
  exact congrArg₂ (· * ·) (congrArg x0 (funext fun a => match a with | ⟨0, _⟩ => rfl | ⟨1, _⟩ => rfl))
    (congrArg x2 (funext fun a => match a with | ⟨0, _⟩ => rfl | ⟨1, _⟩ => rfl))

theorem B_left (m : (ℓ : Loc nD τ sig) → Buf (Elt Ideal) ℓ) (c : Dev nD) (r : Fin 16384) (q : Fin 5632) (h : q.val < 2816) :
    B m c (ix2 r q) = (m ((c : Thread nD τ).loc main_arg1) : Vec Ideal S16384x2816 .f32) (ix2 r ⟨q.val, h⟩) :=
  concatenate_pair_apply_left (t := S16384x5632) (s₁ := S16384x2816) (s₂ := S16384x2816) 1 _ _ _ (ix2 r q) rfl (ix2 r ⟨q.val, h⟩)
    fun b => match b with | ⟨0, _⟩ => rfl | ⟨1, _⟩ => rfl

theorem B_right (m : (ℓ : Loc nD τ sig) → Buf (Elt Ideal) ℓ) (c : Dev nD) (r : Fin 16384) (q : Fin 5632) (h : ¬q.val < 2816) :
    B m c (ix2 r q) = (m ((c : Thread nD τ).loc main_arg2) : Vec Ideal S16384x2816 .f32) (ix2 r ⟨q.val - 2816, by have := q.isLt; omega⟩) :=
  concatenate_pair_apply_right (t := S16384x5632) (s₁ := S16384x2816) (s₂ := S16384x2816) 1 _ _ _ (ix2 r q) rfl rfl
    (ix2 r ⟨q.val - 2816, by have := q.isLt; omega⟩)
    (fun b hb => match b with | ⟨0, _⟩ => rfl | ⟨1, _⟩ => absurd rfl hb)
    (by show q.val - 2816 + 2816 = q.val; omega)

theorem reference_at (m : (ℓ : Loc nD τ sig) → Buf (Elt Ideal) ℓ) (c : Dev nD) :
    val_main_v10 (F := Ideal) (A m c) (m ((c : Thread nD τ).loc main_arg1)) (m ((c : Thread nD τ).loc main_arg2)) = whole m c := by
  refine funext fun y => ?_
  obtain ⟨q, d, rfl⟩ : ∃ (q : Fin 5632) (d : Fin 1024), y = ix2 q d := ⟨y 0, y 1, eq_ix2 y⟩
  show val_main_v9 (F := Ideal) _ _ _ (ix2 q d) = ∑ r : Fin 16384, A m c (ix2 r d) * B m c (ix2 r q)
  unfold val_main_v9
  by_cases h : q.val < 2816
  · refine (concatenate_pair_apply_left (t := S5632x1024) (s₁ := Cert.Reference3Ideal.S2816x1024) (s₂ := Cert.Reference3Ideal.S2816x1024) 0 _ _ _ (ix2 q d) rfl (ix2 ⟨q.val, h⟩ d)
      fun b => match b with | ⟨0, _⟩ => rfl | ⟨1, _⟩ => rfl).trans ((reference_gate _ _ ⟨q.val, h⟩ d).trans ?_)
    exact Finset.sum_congr rfl fun r _ => by rw [B_left m c r q h]
  · refine (concatenate_pair_apply_right (t := S5632x1024) (s₁ := Cert.Reference3Ideal.S2816x1024) (s₂ := Cert.Reference3Ideal.S2816x1024) 0 _ _ _ (ix2 q d) rfl rfl
      (ix2 ⟨q.val - 2816, by have := q.isLt; omega⟩ d)
      (fun b hb => match b with | ⟨1, _⟩ => rfl | ⟨0, _⟩ => absurd rfl hb) (by show q.val - 2816 + 2816 = q.val; omega)).trans
      ((reference_up _ _ ⟨q.val - 2816, by have := q.isLt; omega⟩ d).trans ?_)
    exact Finset.sum_congr rfl fun r _ => by rw [B_right m c r q h]
end

set_option maxHeartbeats 1000000 in
/-- The kernel and the reference leave the same gradient. -/
theorem same_results : Cert.algebraic_Kernel3Ideal_Reference3Ideal
    (hKernel3Ideal := Cert.Kernel3Ideal.Gen.facts) (hReference3Ideal := Cert.Reference3Ideal.Gen.facts) := by
  intro m g m' g' _ hargs
  refine ⟨fun c => whole m c, ?_, ?_⟩
  · exact (θ_run Cert.Kernel3Ideal.defs _ _).mono (fun r h c => ⟨(h c).1.trans (final2 m c), (h c).2⟩) (Cert.Kernel3Ideal.Value.run_blocks m g)
  · refine (θ_run Cert.Reference3Ideal.defs _ _).mono (fun r h c => ?_) (Cert.Reference3Ideal.Value.run m' g')
    obtain ⟨r0, rest⟩ := h c
    obtain ⟨a0, a1, a2⟩ := hargs c
    have A0 : m' ((c.tc : Thread Cert.Reference3Ideal.nD Cert.Reference3Ideal.τ).loc Cert.Reference3Ideal.main_arg0) = (m ((c : Thread nD τ).loc main_arg0)) := a0
    have A1 : m' ((c.tc : Thread Cert.Reference3Ideal.nD Cert.Reference3Ideal.τ).loc Cert.Reference3Ideal.main_arg1) = (m ((c : Thread nD τ).loc main_arg1)) := a1
    have A2 : m' ((c.tc : Thread Cert.Reference3Ideal.nD Cert.Reference3Ideal.τ).loc Cert.Reference3Ideal.main_arg2) = (m ((c : Thread nD τ).loc main_arg2)) := a2
    refine ⟨r0.trans ((Cert.Reference3Ideal.Read.val_main_v10_eq _ _ _).trans ?_), rest⟩
    rw [A0, A1, A2]
    exact reference_at m c

/-- The reference changes no argument and leaves no counter raised. -/
theorem reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The compiled kernel and the idealised one have the same bodies. -/
theorem same_defs : Cert.Kernel3.defs (F := Bits) = Cert.Kernel3Ideal.defs (F := Bits) := by
  sl_kernel_rfl

theorem compiled_frame : Cert.quiescent_Kernel3 (hKernel3 := Cert.Kernel3.Gen.facts) := fun m ρ _ => by
  rw [same_defs]
  exact (θ_run Cert.Kernel3Ideal.defs _ _).mono (fun _ h => h) (Cert.Kernel3Ideal.Gen.frame (F := Bits) m ρ)

end Cert.GateUp

end

end
-- ==== Proof.Mix.Spec.lean ====
module

public import proofs.«01_k».proof.Proof.Ffn.Spec
public import Idealize.ShloMosaic.Lib.Pipeline.Value
public import Idealize.ShloMosaic.Lib.MatmulPlain

/-! The normalisation of one row of any width, its gradient and the gate, over the extended reals, and the operations of
a block read at an index. -/

@[expose] public section

set_option maxRecDepth 16384

noncomputable section

namespace Cert.Norm

open Idealize.ShloMosaic Idealize.ShloMosaic.ValueIdx
open Cert.Ffn.Spec (Real' eps one one_eq eps_pos real_add real_sub real_mul real_sum real_one coe_sum div_coe rsqrt_coe minusHalf_eq coe_prod)
open scoped BigOperators

/-! ## The normalisation of a row -/

section row
variable {n : ℕ} (w : EReal) (x d : Fin n → EReal)

/-- The mean square plus the small number. -/
def meanSq : EReal := Ideal.div (∑ k, x k * x k) w + eps
/-- What each coordinate is multiplied by. -/
def scale : EReal := Ideal.rsqrt (meanSq w x)
def normed (j : Fin n) : EReal := x j * scale w x
/-- The gradient with respect to the row, from the gradient `d` with respect to the normalised one. -/
def back (j : Fin n) : EReal := scale w x * (d j - normed w x j * Ideal.div (∑ k, d k * normed w x k) w)

/-- A divisor that is a positive real number. -/
def Pos (w : EReal) : Prop := ∃ W : ℝ, 0 < W ∧ w = (W : EReal)

variable {w x d}

theorem meanSq_pos (hw : Pos w) (hx : ∀ k, Real' (x k)) : ∃ m : ℝ, 0 < m ∧ meanSq w x = (m : EReal) := by
  obtain ⟨W, hW, rfl⟩ := hw
  choose u hu using hx
  obtain ⟨e, he, hee⟩ := eps_pos
  refine ⟨(∑ k, u k * u k) / W + e, add_pos_of_nonneg_of_pos
    (div_nonneg (Finset.sum_nonneg fun k _ => mul_self_nonneg _) hW.le) he, ?_⟩
  have hs : (∑ k, x k * x k) = ((∑ k, u k * u k : ℝ) : EReal) := by
    rw [coe_sum]; exact Finset.sum_congr rfl fun k _ => by rw [hu k, EReal.coe_mul]
  rw [meanSq, hee, hs, div_coe hW.ne', EReal.coe_add]

theorem real_scale (hw : Pos w) (hx : ∀ k, Real' (x k)) : Real' (scale w x) := by
  obtain ⟨m, hm, e⟩ := meanSq_pos hw hx
  exact ⟨_, by rw [scale, e, rsqrt_coe hm]⟩

theorem real_normed (hw : Pos w) (hx : ∀ k, Real' (x k)) (j : Fin n) : Real' (normed w x j) :=
  real_mul (hx j) (real_scale hw hx)

theorem real_div {a : EReal} (hw : Pos w) : Real' a → Real' (Ideal.div a w) := by
  rintro ⟨r, rfl⟩
  obtain ⟨W, hW, rfl⟩ := hw
  exact ⟨r / W, div_coe hW.ne'⟩

theorem real_back (hw : Pos w) (hx : ∀ k, Real' (x k)) (hd : ∀ k, Real' (d k)) (j : Fin n) : Real' (back w x d j) :=
  real_mul (real_scale hw hx) (real_sub (hd j) (real_mul (real_normed hw hx j)
    (real_div hw (real_sum fun k => real_mul (hd k) (real_normed hw hx k)))))

/-- The derivative of the normalisation, written out from the two places a coordinate enters it. -/
theorem back_textbook (hw : Pos w) (hx : ∀ k, Real' (x k)) (hd : ∀ k, Real' (d k)) (j : Fin n)
    (q : EReal) (hq : q = Ideal.div ((∑ k, x k * d k) * (Ideal.ofBits .f32 0xBF000000#32 * Ideal.div (scale w x) (meanSq w x))) w) :
    (d j * scale w x + x j * q) + q * x j = back w x d j := by
  unfold back normed
  obtain ⟨m, hm, em⟩ := meanSq_pos hw hx
  obtain ⟨W, hW, rfl⟩ := hw
  have er : scale (W : EReal) x = (((Real.sqrt m)⁻¹ : ℝ) : EReal) := by rw [scale, em, rsqrt_coe hm]
  choose u hu using hx
  choose v hv using hd
  have hr : (Real.sqrt m)⁻¹ * (Real.sqrt m)⁻¹ = m⁻¹ := by
    rw [← mul_inv, Real.mul_self_sqrt hm.le]
  generalize (Real.sqrt m)⁻¹ = r at er hr
  have hs : (∑ k, x k * d k) = ((∑ k, u k * v k : ℝ) : EReal) := by
    rw [coe_sum]; exact Finset.sum_congr rfl fun k _ => by rw [hu k, hv k, EReal.coe_mul]
  have hs' : (∑ k, d k * (x k * scale (W : EReal) x)) = ((r * ∑ k, u k * v k : ℝ) : EReal) := by
    rw [Finset.mul_sum, coe_sum]
    exact Finset.sum_congr rfl fun k _ => by
      rw [hu k, hv k, er, ← EReal.coe_mul, ← EReal.coe_mul]; congr 1; ring
  rw [hs, er, em, div_coe hm.ne', minusHalf_eq, ← EReal.coe_mul, ← EReal.coe_mul, div_coe hW.ne'] at hq
  rw [hs', er, hq, hu j, hv j, div_coe hW.ne']
  norm_cast
  rw [div_eq_mul_inv r m, ← hr]
  ring

end row

/-! ## The gate -/

/-- The logistic function. -/
def sg (z : EReal) : EReal := Ideal.div one (one + Ideal.exp (-z))
def silu (z : EReal) : EReal := z * sg z
/-- The derivative of `silu`. -/
def dsilu (z : EReal) : EReal := sg z * (one + z * (one - sg z))

theorem real_sg {z : EReal} : Real' z → Real' (sg z) := by
  rintro ⟨u, rfl⟩
  have he : Ideal.exp (-(u : EReal)) = ((Real.exp (-u) : ℝ) : EReal) := by
    rw [← EReal.coe_neg]; rfl
  refine ⟨1 / (1 + Real.exp (-u)), ?_⟩
  rw [sg, he, one_eq, ← EReal.coe_add, div_coe (by positivity)]
theorem real_silu {z : EReal} (h : Real' z) : Real' (silu z) := real_mul h (real_sg h)
theorem real_dsilu {z : EReal} (h : Real' z) : Real' (dsilu z) :=
  real_mul (real_sg h) (real_add real_one (real_mul h (real_sub real_one (real_sg h))))

/-- The derivative of `z * sg z` as the sum of its two parts. -/
theorem dsilu_textbook {z a : EReal} (hz : Real' z) (ha : Real' a) :
    a * sg z + (z * a) * (sg z * (one - sg z)) = a * dsilu z := by
  unfold dsilu
  obtain ⟨s, hs⟩ := real_sg hz
  obtain ⟨u, rfl⟩ := hz
  obtain ⟨c, rfl⟩ := ha
  rw [hs, one_eq]
  norm_cast
  ring

/-- A head's rows normalised, times their gain, times the gate. -/
def gated {n : ℕ} (w : EReal) (o g z : Fin n → EReal) (d : Fin n) : EReal := (normed w o d * g d) * silu (z d)

/-! ## The columns of the joined rows: 512 of the first part, then four heads of 128 -/

def left (j : Fin 512) : Fin 1024 := ⟨j.val, by omega⟩
def head (h : Fin 4) (d : Fin 128) : Fin 512 := ⟨128 * h.val + d.val, by omega⟩
def right (j : Fin 512) : Fin 1024 := ⟨512 + j.val, by omega⟩

theorem heads {P : Fin 512 → Prop} (hh : ∀ h d, P (head h d)) (q : Fin 512) : P q := by
  have := hh ⟨q.val / 128, by omega⟩ ⟨q.val % 128, by omega⟩
  rwa [show head ⟨q.val / 128, by omega⟩ ⟨q.val % 128, by omega⟩ = q from Fin.ext (by show 128 * (q.val / 128) + q.val % 128 = q.val; omega)] at this

theorem cols {P : Fin 1024 → Prop} (hl : ∀ j, P (left j)) (hr : ∀ h d, P (right (head h d))) (q : Fin 1024) : P q := by
  by_cases hq : q.val < 512
  · exact hl ⟨q.val, hq⟩
  · have := heads (P := fun j => P (right j)) hr ⟨q.val - 512, by omega⟩
    rwa [show right ⟨q.val - 512, by omega⟩ = q from Fin.ext (by show 512 + (q.val - 512) = q.val; omega)] at this

/-! ## The widths -/

abbrev w1024 : EReal := Ideal.ofBits .f32 0x44800000#32
abbrev w512 : EReal := Ideal.ofBits .f32 0x44000000#32
abbrev w128 : EReal := Ideal.ofBits .f32 0x43000000#32
abbrev w64 : EReal := Ideal.ofBits .f32 0x42800000#32

theorem pos1024 : Pos w1024 := ⟨1024, by norm_num, Cert.Ffn.Spec.width_eq⟩
theorem pos512 : Pos w512 := ⟨512, by norm_num, by
  simp [w512, Ideal.ofBits, Ideal.ieee]; norm_num; exact coe_prod (by norm_num)⟩
theorem pos128 : Pos w128 := ⟨128, by norm_num, by
  simp [w128, Ideal.ofBits, Ideal.ieee]; norm_num; exact coe_prod (by norm_num)⟩
theorem pos64 : Pos w64 := ⟨64, by norm_num, by
  simp [w64, Ideal.ofBits, Ideal.ieee]; norm_num; exact coe_prod (by norm_num)⟩

/-! ## The operations of a block at an index -/

section block
variable {M N : ℕ}

/-- Row `i` of a block. -/
def rowOf {φ : FTy} (a : FVec Ideal ⟨2, ![M, N]⟩ φ) (i : Fin M) : Fin N → EReal := fun k => a (ix2 i k)

theorem rowSum (a : FVec Ideal ⟨2, ![M, N]⟩ .f32) (h hφ hacc) (i : Fin M) :
    multiReduction (F := Ideal) .add [1] ⟨1, ![M]⟩ a 0x00000000#32 h hφ hacc (ix1 i) = ∑ k : Fin N, a (ix2 i k) :=
  (Ideal.multiReduction_add_single a _ h hφ hacc (ix1 i)).trans (Finset.sum_congr rfl fun k _ =>
    congrArg a (funext fun d => Fin.ext (match d with | ⟨0, _⟩ => rfl | ⟨1, _⟩ => rfl)))

theorem colSum (a : FVec Ideal ⟨2, ![M, N]⟩ .f32) (h hφ hacc) (j : Fin N) :
    multiReduction (F := Ideal) .add [0] ⟨1, ![N]⟩ a 0x00000000#32 h hφ hacc (ix1 j) = ∑ i : Fin M, a (ix2 i j) :=
  (Ideal.multiReduction_add_single a _ h hφ hacc (ix1 j)).trans (Finset.sum_congr rfl fun k _ =>
    congrArg a (funext fun d => Fin.ext (match d with | ⟨0, _⟩ => rfl | ⟨1, _⟩ => rfl)))

theorem column {α : Type} (a : (⟨1, ![M]⟩ : Shape).Idx → α) (h : (⟨1, ![M]⟩ : Shape).ShapeCasts ⟨2, ![M, 1]⟩) (i : Fin M) (z : Fin 1) :
    shapeCast ⟨2, ![M, 1]⟩ a h (ix2 i z) = a (ix1 i) :=
  shapeCast_apply a h (ix2 i z) (ix1 i) (by
    rewrite [Shape.rowMajor_val_two, Shape.rowMajor_val_one]
    have := z.isLt
    show i.val = i.val * 1 + z.val; omega)

theorem asRow {α : Type} (a : (⟨1, ![N]⟩ : Shape).Idx → α) (h : (⟨1, ![N]⟩ : Shape).ShapeCasts ⟨2, ![1, N]⟩) (z : Fin 1) (j : Fin N) :
    shapeCast ⟨2, ![1, N]⟩ a h (ix2 z j) = a (ix1 j) :=
  shapeCast_apply a h (ix2 z j) (ix1 j) (by
    rewrite [Shape.rowMajor_val_two, Shape.rowMajor_val_one]
    have hz : z.val = 0 := by have := z.isLt; omega
    show j.val = z.val * N + j.val; rw [hz]; omega)

theorem rowsOf {α : Type} (a : (⟨2, ![1, N]⟩ : Shape).Idx → α) (h : (⟨2, ![1, N]⟩ : Shape).Broadcasts ⟨2, ![M, N]⟩) (hN : N ≠ 1)
    (i : Fin M) (j : Fin N) : broadcastTo ⟨2, ![M, N]⟩ a h (ix2 i j) = a (ix2 0 j) :=
  broadcastTo_apply a h (ix2 i j) (ix2 0 j) fun d => match d with
    | ⟨0, _⟩ => rfl
    | ⟨1, _⟩ => (if_neg hN).symm

theorem colsOf {α : Type} (a : (⟨2, ![M, 1]⟩ : Shape).Idx → α) (h : (⟨2, ![M, 1]⟩ : Shape).Broadcasts ⟨2, ![M, N]⟩) (hM : M ≠ 1)
    (i : Fin M) (j : Fin N) : broadcastTo ⟨2, ![M, N]⟩ a h (ix2 i j) = a (ix2 i 0) :=
  broadcastTo_apply a h (ix2 i j) (ix2 i 0) fun d => match d with
    | ⟨0, _⟩ => (if_neg hM).symm
    | ⟨1, _⟩ => rfl

/-- The columns from `off` on. -/
theorem sliceCols {α : Type} {K : ℕ} (a : (⟨2, ![M, N]⟩ : Shape).Idx → α) (off : ℕ) (h : (⟨2, ![M, N]⟩ : Shape).Slices ![0, off] ⟨2, ![M, K]⟩)
    (i : Fin M) (j : Fin K) (hj : off + j.val < N) :
    extractStridedSlice ⟨2, ![M, K]⟩ ![0, off] a h (ix2 i j) = a (ix2 i ⟨off + j.val, hj⟩) :=
  extractStridedSlice_apply ![0, off] a h (ix2 i j) (ix2 i ⟨off + j.val, hj⟩) fun d => match d with
    | ⟨0, _⟩ => (Nat.zero_add _).symm
    | ⟨1, _⟩ => rfl

/-- A block of one page read as a matrix. -/
theorem page {α : Type} (a : (⟨3, ![1, M, N]⟩ : Shape).Idx → α) (h : (⟨3, ![1, M, N]⟩ : Shape).ShapeCasts ⟨2, ![M, N]⟩)
    (i : Fin M) (j : Fin N) : shapeCast ⟨2, ![M, N]⟩ a h (ix2 i j) = a (ix3 0 i j) :=
  shapeCast_apply a h (ix2 i j) (ix3 0 i j) (by
    rewrite [Shape.rowMajor_val_two, Shape.rowMajor_val_three]
    show (0 * M + i.val) * N + j.val = i.val * N + j.val
    rw [Nat.zero_mul, Nat.zero_add])

/-- A matrix read as a block of one page. -/
theorem toPage {α : Type} (a : (⟨2, ![M, N]⟩ : Shape).Idx → α) (h : (⟨2, ![M, N]⟩ : Shape).ShapeCasts ⟨3, ![1, M, N]⟩)
    (z : Fin 1) (i : Fin M) (j : Fin N) : shapeCast ⟨3, ![1, M, N]⟩ a h (ix3 z i j) = a (ix2 i j) :=
  shapeCast_apply a h (ix3 z i j) (ix2 i j) (by
    rewrite [Shape.rowMajor_val_two, Shape.rowMajor_val_three]
    have hz : z.val = 0 := by have := z.isLt; omega
    show i.val * N + j.val = (z.val * M + i.val) * N + j.val
    rw [hz, Nat.zero_mul, Nat.zero_add])

/-- The scale of each row, computed on a block. -/
theorem scale_at (w : BitVec 32) (a : FVec Ideal ⟨2, ![M, N]⟩ .f32) (h : (⟨2, ![M, N]⟩ : Shape).Reduces [1] ⟨1, ![M]⟩) (hφ hacc)
    (hc : (⟨1, ![M]⟩ : Shape).ShapeCasts ⟨2, ![M, 1]⟩) (i : Fin M) (z : Fin 1) :
    Idealize.ShloMosaic.rsqrt (addf (divf (shapeCast ⟨2, ![M, 1]⟩ (multiReduction (F := Ideal) .add [1] ⟨1, ![M]⟩ (mulf a a) 0x00000000#32 h hφ hacc) hc)
      (broadcast ⟨2, ![M, 1]⟩ (Scalar.ofBits .f32 w))) (broadcast ⟨2, ![M, 1]⟩ (Scalar.ofBits .f32 0x358637BD#32))) (ix2 i z)
      = scale (Ideal.ofBits .f32 w) (rowOf a i) := by
  show Ideal.rsqrt (Ideal.div (shapeCast ⟨2, ![M, 1]⟩ _ _ (ix2 i z)) (Ideal.ofBits .f32 w) + eps) = _
  exact congrArg (fun s => Ideal.rsqrt (Ideal.div s _ + eps)) ((column _ hc i z).trans (rowSum (mulf a a) h hφ hacc i))

/-- The mean of the products of two rows, computed on a block. -/
theorem mean_at (w : BitVec 32) (a b : FVec Ideal ⟨2, ![M, N]⟩ .f32) (h : (⟨2, ![M, N]⟩ : Shape).Reduces [1] ⟨1, ![M]⟩) (hφ hacc)
    (hc : (⟨1, ![M]⟩ : Shape).ShapeCasts ⟨2, ![M, 1]⟩) (i : Fin M) (z : Fin 1) :
    divf (shapeCast ⟨2, ![M, 1]⟩ (multiReduction (F := Ideal) .add [1] ⟨1, ![M]⟩ (mulf a b) 0x00000000#32 h hφ hacc) hc)
      (broadcast ⟨2, ![M, 1]⟩ (Scalar.ofBits .f32 w)) (ix2 i z)
      = Ideal.div (∑ k, rowOf a i k * rowOf b i k) (Ideal.ofBits .f32 w) := by
  show Ideal.div (shapeCast ⟨2, ![M, 1]⟩ _ _ (ix2 i z)) (Ideal.ofBits .f32 w) = _
  exact congrArg (fun s => Ideal.div s _) ((column _ hc i z).trans (rowSum (mulf a b) h hφ hacc i))

/-- The normalised rows, computed on a block. -/
theorem normed_at (w : BitVec 32) (a : FVec Ideal ⟨2, ![M, N]⟩ .f32) (h : (⟨2, ![M, N]⟩ : Shape).Reduces [1] ⟨1, ![M]⟩) (hφ hacc)
    (hc : (⟨1, ![M]⟩ : Shape).ShapeCasts ⟨2, ![M, 1]⟩) (hb : (⟨2, ![M, 1]⟩ : Shape).Broadcasts ⟨2, ![M, N]⟩) (hM : M ≠ 1) (i : Fin M) (j : Fin N) :
    mulf a (broadcastTo ⟨2, ![M, N]⟩ (Idealize.ShloMosaic.rsqrt (addf (divf (shapeCast ⟨2, ![M, 1]⟩ (multiReduction (F := Ideal) .add [1] ⟨1, ![M]⟩ (mulf a a) 0x00000000#32 h hφ hacc) hc)
      (broadcast ⟨2, ![M, 1]⟩ (Scalar.ofBits .f32 w))) (broadcast ⟨2, ![M, 1]⟩ (Scalar.ofBits .f32 0x358637BD#32)))) hb) (ix2 i j)
      = normed (Ideal.ofBits .f32 w) (rowOf a i) j := by
  refine congrArg (a (ix2 i j) * ·) ?_
  exact (colsOf _ hb hM i j).trans (scale_at w a h hφ hacc hc i 0)

/-- The logistic function on a block. -/
theorem sg_at {S : Shape} (z : FVec Ideal S .f32) (y : S.Idx) :
    divf (broadcast S (Scalar.ofBits .f32 0x3F800000#32)) (addf (broadcast S (Scalar.ofBits .f32 0x3F800000#32))
      (Idealize.ShloMosaic.exp (subf (broadcast S (Scalar.ofBits .f32 0x00000000#32)) z))) y = sg (z y) := by
  show Ideal.div one (one + Ideal.exp (Ideal.ofBits .f32 0x00000000#32 - z y)) = _
  rw [Ideal.ofBits_zero_f32, zero_sub]; rfl

end block

end Cert.Norm

end
-- ==== Proof.Mix.Post.lean ====
module

public import proofs.«01_k».proof.Defs
public import proofs.«01_k».proof.Proof.Mix.Spec
public import proofs.«01_k».proof.Proof.Gen.Kernel6Ideal.Value
public import proofs.«01_k».proof.Proof.Gen.Kernel6
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pipeline.ValueKit.Tiles
public import Idealize.ShloMosaic.Lib.ValueIdx
public import Idealize.ShloMosaic.Lib.Ring
public import Idealize.ShloMosaic.Adequacy
public import Idealize.ShloMosaic.Init

/-! The mix of the two branches and its projection: what each point of the kernel computes is the reference at the
point's rows. -/

@[expose] public section

set_option maxRecDepth 16384

noncomputable section

namespace Cert.Post

open Cert.Kernel6Ideal Cert.Kernel6Ideal.Gen
open Idealize.ShloMosaic
open Idealize.ShloMosaic.TcCoe Idealize.ShloMosaic.ValueIdx
open Idealize.ShloMosaic.Tactic
open Idealize.ShloMosaic.Pipeline (Dat Cfg Window)
open Cert.Norm
open scoped BigOperators

theorem zeros : (![0, 0] : Fin 2 → Nat) = fun _ => 0 := funext fun a => match a with | ⟨0, _⟩ => rfl | ⟨1, _⟩ => rfl

/-! ## What a point computes -/

/-- One head of a block, computed. -/
theorem head_block (o z : FVec Ideal S512x128 .f32) (g : Vec Ideal S1x128 .f32) (i : Fin 512) (d : Fin 128) :
    mulf (mulf (mulf o (broadcastTo S512x128 (Idealize.ShloMosaic.rsqrt (addf (divf (shapeCast S512x1 (multiReduction .add [1] S512 (mulf o o) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
      (broadcastTo S512x128 g broadcasts_S1x128_S512x128))
      (mulf z (divf (broadcast S512x128 (Scalar.ofBits .f32 0x3F800000#32)) (addf (broadcast S512x128 (Scalar.ofBits .f32 0x3F800000#32))
        (Idealize.ShloMosaic.exp (subf (broadcast S512x128 (Scalar.ofBits .f32 0x00000000#32)) z))))) (ix2 i d)
      = gated w128 (rowOf o i) (rowOf (φ := .f32) g 0) (rowOf z i) d := by
  refine congrArg₂ (· * ·) (congrArg₂ (· * ·) (normed_at 0x43000000#32 o _ _ _ _ _ (by decide) i d) (rowsOf g _ (by decide) i d)) ?_
  exact congrArg (z (ix2 i d) * ·) (sg_at z (ix2 i d))

/-! Five pieces joined along the columns. -/

section join
variable (a : FVec Ideal S512x512 .f32) (p0 p1 p2 p3 : FVec Ideal S512x128 .f32)

def pieces : List ((s : Shape) × FVec Ideal s .f32) :=
  [⟨S512x512, a⟩, ⟨S512x128, p0⟩, ⟨S512x128, p1⟩, ⟨S512x128, p2⟩, ⟨S512x128, p3⟩]

theorem join_left (h) (i j : Fin 512) : concatenate S512x1024 1 (pieces a p0 p1 p2 p3) h (ix2 i (left j)) = a (ix2 i j) :=
  concatenate_apply_piece (t := S512x1024) 1 (pieces a p0 p1 p2 p3) h (ix2 i (left j)) 0 (show 0 < 5 by decide) S512x512 a rfl rfl 0 rfl (ix2 i j)
    (fun b => match b with | ⟨0, _⟩ => fun _ => rfl | ⟨1, _⟩ => fun hb => absurd rfl hb) (Nat.zero_add _)
theorem join_0 (h) (i : Fin 512) (d : Fin 128) : concatenate S512x1024 1 (pieces a p0 p1 p2 p3) h (ix2 i (right (head 0 d))) = p0 (ix2 i d) :=
  concatenate_apply_piece (t := S512x1024) 1 (pieces a p0 p1 p2 p3) h (ix2 i (right (head 0 d))) 1 (show 1 < 5 by decide) S512x128 p0 rfl rfl 512 rfl (ix2 i d)
    (fun b => match b with | ⟨0, _⟩ => fun _ => rfl | ⟨1, _⟩ => fun hb => absurd rfl hb) (by show 512 + d.val = 512 + (128 * 0 + d.val); omega)
theorem join_1 (h) (i : Fin 512) (d : Fin 128) : concatenate S512x1024 1 (pieces a p0 p1 p2 p3) h (ix2 i (right (head 1 d))) = p1 (ix2 i d) :=
  concatenate_apply_piece (t := S512x1024) 1 (pieces a p0 p1 p2 p3) h (ix2 i (right (head 1 d))) 2 (show 2 < 5 by decide) S512x128 p1 rfl rfl 640 rfl (ix2 i d)
    (fun b => match b with | ⟨0, _⟩ => fun _ => rfl | ⟨1, _⟩ => fun hb => absurd rfl hb) (by show 640 + d.val = 512 + (128 * 1 + d.val); omega)
theorem join_2 (h) (i : Fin 512) (d : Fin 128) : concatenate S512x1024 1 (pieces a p0 p1 p2 p3) h (ix2 i (right (head 2 d))) = p2 (ix2 i d) :=
  concatenate_apply_piece (t := S512x1024) 1 (pieces a p0 p1 p2 p3) h (ix2 i (right (head 2 d))) 3 (show 3 < 5 by decide) S512x128 p2 rfl rfl 768 rfl (ix2 i d)
    (fun b => match b with | ⟨0, _⟩ => fun _ => rfl | ⟨1, _⟩ => fun hb => absurd rfl hb) (by show 768 + d.val = 512 + (128 * 2 + d.val); omega)
theorem join_3 (h) (i : Fin 512) (d : Fin 128) : concatenate S512x1024 1 (pieces a p0 p1 p2 p3) h (ix2 i (right (head 3 d))) = p3 (ix2 i d) :=
  concatenate_apply_piece (t := S512x1024) 1 (pieces a p0 p1 p2 p3) h (ix2 i (right (head 3 d))) 4 (show 4 < 5 by decide) S512x128 p3 rfl rfl 896 rfl (ix2 i d)
    (fun b => match b with | ⟨0, _⟩ => fun _ => rfl | ⟨1, _⟩ => fun hb => absurd rfl hb) (by show 896 + d.val = 512 + (128 * 3 + d.val); omega)
end join

section point
variable (x0 : Vec Ideal S512x512 .f32) (x1 : Vec Ideal S4x512x128 .f32) (x2 : Vec Ideal S512x512 .f32) (x3 : Vec Ideal S512x1024 .f32)
  (x4 : Vec Ideal S1024x1024 .bf16) (x5 : Vec Ideal S1x512 .f32) (x6 : Vec Ideal S1x128 .f32)

/-- The joined rows of a block. -/
def joined : FVec Ideal S512x1024 .bf16 :=
  k0_pay10 (k0_pay11 x0 x1 x2 x3 x4 x5 x6) (View.ld x2 r0_0) (k0_pay12 x0 x1 x2 x3 x4 x5 x6) (k0_pay13 x0 x1 x2 x3 x4 x5 x6)
    (k0_pay14 x0 x1 x2 x3 x4 x5 x6) (k0_pay15 x0 x1 x2 x3 x4 x5 x6) (k0_pay16 x0 x1 x2 x3 x4 x5 x6) (View.ld x1 r0_6) (View.ld x6 r0_3)

/-- What head `h` of row `i` is. -/
def headOf (h : Fin 4) (i : Fin 512) (d : Fin 128) : EReal :=
  gated w128 (fun d => x1 (ix3 h i d)) (fun d => x6 (ix2 0 d)) (fun d => x2 (ix2 i (head h d))) d

theorem page_ld (off : Fin 3 → ℕ) (inb) (h : Fin 4) (ho : off = ![h.val, 0, 0]) (i : Fin 512) :
    rowOf (φ := .f32) (shapeCast S512x128 (View.ld x1 (Rect.unit (s := S4x512x128) off S1x512x128.size inb)) shapeCasts_S1x512x128_S512x128) i
      = fun d => x1 (ix3 h i d) := by
  subst ho
  refine funext fun d => (page (M := 512) (N := 128) _ _ i d).trans (View.ld_unit_apply_of x1 _ _ _ _ (ix3 h i d) fun a => match a with
    | ⟨0, _⟩ => rfl
    | ⟨1, _⟩ => (Nat.zero_add _).symm
    | ⟨2, _⟩ => (Nat.zero_add _).symm)

theorem cols_ld (off : ℕ) (hs) (h : Fin 4) (ho : off = 128 * h.val) (i : Fin 512) :
    rowOf (φ := .f32) (extractStridedSlice S512x128 ![0, off] (View.ld x2 r0_0) hs) i = fun d => x2 (ix2 i (head h d)) := by
  subst ho
  refine funext fun d => (sliceCols (M := 512) (N := 512) (K := 128) _ _ _ i d (by omega)).trans ?_
  rw [View.ld_unit_zero (S := S512x512) zeros]
  rfl

theorem gain_ld : rowOf (φ := .f32) (View.ld x6 r0_3) (0 : Fin 1) = fun d => x6 (ix2 0 d) := by
  rw [View.ld_unit_zero (S := S1x128) zeros]; rfl

theorem head_of (o z : FVec Ideal S512x128 .f32) (h : Fin 4) (i : Fin 512) (d : Fin 128)
    (ho : rowOf o i = fun d => x1 (ix3 h i d)) (hz : rowOf z i = fun d => x2 (ix2 i (head h d))) :
    gated w128 (rowOf o i) (rowOf (φ := .f32) (View.ld x6 r0_3) (0 : Fin 1)) (rowOf z i) d = headOf x1 x2 x6 h i d := by
  rw [ho, hz, gain_ld]; rfl

theorem joined_left (i : Fin 512) (j : Fin 512) :
    joined x0 x1 x2 x3 x4 x5 x6 (ix2 i (left j)) = normed w512 (fun k => x0 (ix2 i k)) j * x5 (ix2 0 j) := by
  refine (join_left _ _ _ _ _ concatenates_S512x512_S512x128_S512x128_S512x128_S512x128_S512x1024_d1 i j).trans ?_
  unfold k0_pay11 k0_pay2
  rw [View.ld_unit_zero (S := S512x512) zeros, View.ld_unit_zero (S := S1x512) zeros]
  exact congrArg₂ (· * ·) (normed_at 0x44000000#32 x0 _ _ _ _ _ (by decide) i j) (rowsOf x5 _ (by decide) i j)

theorem joined_0 (i : Fin 512) (d : Fin 128) : joined x0 x1 x2 x3 x4 x5 x6 (ix2 i (right (head 0 d))) = headOf x1 x2 x6 0 i d := by
  refine (join_0 _ _ _ _ _ concatenates_S512x512_S512x128_S512x128_S512x128_S512x128_S512x1024_d1 i d).trans ?_
  unfold k0_pay12 k0_pay5 k0_pay3 k0_pay4
  exact (head_block _ _ _ i d).trans (head_of x1 x2 x6 _ _ 0 i d (page_ld x1 _ _ 0 rfl i) (cols_ld x2 _ _ 0 rfl i))

theorem joined_1 (i : Fin 512) (d : Fin 128) : joined x0 x1 x2 x3 x4 x5 x6 (ix2 i (right (head 1 d))) = headOf x1 x2 x6 1 i d := by
  refine (join_1 _ _ _ _ _ concatenates_S512x512_S512x128_S512x128_S512x128_S512x128_S512x1024_d1 i d).trans ?_
  unfold k0_pay13 k0_pay6
  exact (head_block _ _ _ i d).trans (head_of x1 x2 x6 _ _ 1 i d (page_ld x1 _ _ 1 rfl i) (cols_ld x2 _ _ 1 rfl i))

theorem joined_2 (i : Fin 512) (d : Fin 128) : joined x0 x1 x2 x3 x4 x5 x6 (ix2 i (right (head 2 d))) = headOf x1 x2 x6 2 i d := by
  refine (join_2 _ _ _ _ _ concatenates_S512x512_S512x128_S512x128_S512x128_S512x128_S512x1024_d1 i d).trans ?_
  unfold k0_pay14 k0_pay15 k0_pay16 k0_pay7 k0_pay8 k0_pay9
  exact (head_block _ _ _ i d).trans (head_of x1 x2 x6 _ _ 2 i d (page_ld x1 _ _ 2 rfl i) (cols_ld x2 _ _ 2 rfl i))

theorem joined_3 (i : Fin 512) (d : Fin 128) : joined x0 x1 x2 x3 x4 x5 x6 (ix2 i (right (head 3 d))) = headOf x1 x2 x6 3 i d := by
  refine (join_3 _ _ _ _ _ concatenates_S512x512_S512x128_S512x128_S512x128_S512x128_S512x1024_d1 i d).trans ?_
  exact (head_block _ _ _ i d).trans (head_of x1 x2 x6 _ _ 3 i d (page_ld x1 _ _ 3 rfl i) (cols_ld x2 _ _ 3 rfl i))

theorem joined_right (h : Fin 4) (i : Fin 512) (d : Fin 128) :
    joined x0 x1 x2 x3 x4 x5 x6 (ix2 i (right (head h d))) = headOf x1 x2 x6 h i d :=
  match h with
  | ⟨0, _⟩ => joined_0 x0 x1 x2 x3 x4 x5 x6 i d
  | ⟨1, _⟩ => joined_1 x0 x1 x2 x3 x4 x5 x6 i d
  | ⟨2, _⟩ => joined_2 x0 x1 x2 x3 x4 x5 x6 i d
  | ⟨3, _⟩ => joined_3 x0 x1 x2 x3 x4 x5 x6 i d

theorem out8 : out0_8 x0 x1 x2 x3 x4 x5 x6 = joined x0 x1 x2 x3 x4 x5 x6 := View.canon_unit_zero (S := S512x1024) zeros _ _

theorem out7_at (i : Fin 512) (j : Fin 1024) : out0_7 x0 x1 x2 x3 x4 x5 x6 (ix2 i j)
    = x3 (ix2 i j) + ∑ k : Fin 1024, joined x0 x1 x2 x3 x4 x5 x6 (ix2 i k) * x4 (ix2 k j) := by
  refine (congrFun (View.canon_unit_zero (S := S512x1024) zeros _ _) (ix2 i j)).trans ?_
  show k0_pay1 (joined x0 x1 x2 x3 x4 x5 x6) (View.ld x3 r0_7) (View.ld x4 r0_8) (ix2 i j) = _
  rw [View.ld_unit_zero (S := S512x1024) zeros, View.ld_unit_zero (S := S1024x1024) zeros]
  unfold k0_pay1
  rw [shapeCast_self]
  refine congrArg (x3 (ix2 i j) + ·) ?_
  refine (Ideal.matmul_plain_apply (M := 512) (K := 1024) (N := 1024) none _ x4 _ i j).trans ?_
  rw [constant_apply, Ideal.ofBits_zero_f32, zero_add]

end point

/-! ## The reference -/

section ref
open Cert.Reference6Ideal.Read

variable (x0 : (⟨S16384x512, .f32⟩ : BufTy).Contents (Elt Ideal)) (x1 : (⟨S4x16384x128, .f32⟩ : BufTy).Contents (Elt Ideal))
  (x2 : (⟨S16384x512, .f32⟩ : BufTy).Contents (Elt Ideal)) (x3 : (⟨S16384x1024, .f32⟩ : BufTy).Contents (Elt Ideal))
  (x4 : (⟨S1024x1024, .f32⟩ : BufTy).Contents (Elt Ideal)) (x5 : (⟨S1x512, .f32⟩ : BufTy).Contents (Elt Ideal))
  (x6 : (⟨S1x128, .f32⟩ : BufTy).Contents (Elt Ideal))

theorem ref_scale (n : Fin 16384) (z : Fin 1) : val_main_v8 (F := Ideal) x0 (ix2 n z) = scale w512 (fun k => x0 (ix2 n k)) := by
  rw [val_main_v8_apply, val_main_v7_apply, val_main_v5_apply, val_main_v3_apply, val_main_v2_apply, val_main_v4_apply, val_main_v6_apply]
  rw [show val_main_cst (F := Ideal) _ = 0 from Ideal.ofBits_zero_f32, zero_add]
  refine congrArg (fun s => Ideal.rsqrt (Ideal.div s _ + _)) (Finset.sum_congr rfl fun k _ => ?_)
  rw [val_main_v1_apply, eq_ix2 (idx_main_v2 _ k)]; rfl

theorem ref_left (n : Fin 16384) (j : Fin 512) :
    val_main_v13 (F := Ideal) x0 x5 (ix2 n j) = normed w512 (fun k => x0 (ix2 n k)) j * x5 (ix2 0 j) := by
  rw [val_main_v13_apply, val_main_v10_apply, val_main_v9_apply, eq_ix2 (idx_main_v9 _), val_main_v12_apply, val_main_v11_apply, val_main_v0_apply]
  refine congrArg₂ (· * ·) (congrArg (x0 (ix2 n j) * ·) (ref_scale x0 n _)) (congrArg x5 (funext fun a => Fin.ext ?_))
  match a with
  | ⟨0, _⟩ => rfl
  | ⟨1, _⟩ => exact Nat.mod_eq_of_lt j.isLt

theorem ref_scale' (n : Fin 16384) (h : Fin 4) (z : Fin 1) : val_main_v23 (F := Ideal) x1 (ix3 n h z) = scale w128 (fun k => x1 (ix3 h n k)) := by
  rw [val_main_v23_apply, val_main_v22_apply, val_main_v20_apply, val_main_v18_apply, val_main_v17_apply, val_main_v19_apply, val_main_v21_apply]
  rw [show val_main_cst_2 (F := Ideal) _ = 0 from Ideal.ofBits_zero_f32, zero_add]
  refine congrArg (fun s => Ideal.rsqrt (Ideal.div s _ + _)) (Finset.sum_congr rfl fun k _ => ?_)
  rw [val_main_v16_apply, val_main_v14_apply, eq_ix3 (idx_main_v14 _)]; rfl

theorem ref_gain (n : Fin 16384) (h : Fin 4) (d : Fin 128) : val_main_v27 (F := Ideal) x6 (ix3 n h d) = x6 (ix2 0 d) := by
  rw [val_main_v27_apply, val_main_v26_apply, val_main_v15_apply]
  refine congrArg x6 (funext fun a => Fin.ext ?_)
  match a with
  | ⟨0, _⟩ => rfl
  | ⟨1, _⟩ => exact Nat.mod_eq_of_lt d.isLt

theorem ref_z (n : Fin 16384) (h : Fin 4) (d : Fin 128) : val_main_v29 (F := Ideal) x2 (ix3 n h d) = x2 (ix2 n (head h d)) := by
  rw [val_main_v29_apply]
  refine congrArg x2 (funext fun a => Fin.ext ?_)
  have := h.isLt
  have := d.isLt
  match a with
  | ⟨0, _⟩ => show ((n.val * 4 + h.val) * 128 + d.val) / 512 = n.val; omega
  | ⟨1, _⟩ => show ((n.val * 4 + h.val) * 128 + d.val) % 512 = 128 * h.val + d.val; omega

theorem ref_head (n : Fin 16384) (h : Fin 4) (d : Fin 128) : val_main_v31 (F := Ideal) x1 x2 x6 (ix3 n h d)
    = gated w128 (fun d => x1 (ix3 h n d)) (fun d => x6 (ix2 0 d)) (fun d => x2 (ix2 n (head h d))) d := by
  rw [val_main_v31_apply, val_main_v28_apply, val_main_v25_apply, val_main_v24_apply, eq_ix3 (idx_main_v24 _), ref_gain, val_main_v30_apply,
    val_main_v14_apply, eq_ix3 (idx_main_v14 _), val_main_call0_v5_apply, val_main_call0_v3_apply, val_main_call0_v1_apply, val_main_call0_v0_apply, ref_z]
  exact congrArg (fun s => (x1 (ix3 h n d) * s) * x6 (ix2 0 d) * silu (x2 (ix2 n (head h d)))) (ref_scale' x1 n h _)

theorem ref_right (n : Fin 16384) (h : Fin 4) (d : Fin 128) : val_main_v32 (F := Ideal) x1 x2 x6 (ix2 n (head h d))
    = gated w128 (fun d => x1 (ix3 h n d)) (fun d => x6 (ix2 0 d)) (fun d => x2 (ix2 n (head h d))) d := by
  rw [val_main_v32_apply]
  refine (congrArg (val_main_v31 (F := Ideal) x1 x2 x6) (funext fun a => Fin.ext ?_)).trans (ref_head x1 x2 x6 n h d)
  have := h.isLt
  have := d.isLt
  match a with
  | ⟨0, _⟩ => show (n.val * 512 + (128 * h.val + d.val)) / 512 = n.val; omega
  | ⟨1, _⟩ => show (n.val * 512 + (128 * h.val + d.val)) / 128 % 4 = h.val; omega
  | ⟨2, _⟩ => show (n.val * 512 + (128 * h.val + d.val)) % 128 = d.val; omega

theorem ref_joined_left (n : Fin 16384) (j : Fin 512) : val_main_v33 (F := Ideal) x0 x1 x2 x5 x6 (ix2 n (left j))
    = normed w512 (fun k => x0 (ix2 n k)) j * x5 (ix2 0 j) := by
  unfold val_main_v33
  exact (concatenate_pair_apply_left (t := S16384x1024) (s₁ := S16384x512) (s₂ := S16384x512) 1 _ _ _ (ix2 n (left j)) rfl (ix2 n j)
    fun b => match b with | ⟨0, _⟩ => rfl | ⟨1, _⟩ => rfl).trans (ref_left x0 x5 n j)

theorem ref_joined_right (n : Fin 16384) (h : Fin 4) (d : Fin 128) : val_main_v33 (F := Ideal) x0 x1 x2 x5 x6 (ix2 n (right (head h d)))
    = gated w128 (fun d => x1 (ix3 h n d)) (fun d => x6 (ix2 0 d)) (fun d => x2 (ix2 n (head h d))) d := by
  unfold val_main_v33
  exact (concatenate_pair_apply_right (t := S16384x1024) (s₁ := S16384x512) (s₂ := S16384x512) 1 _ _ _ (ix2 n (right (head h d))) rfl rfl (ix2 n (head h d))
    (fun b => match b with | ⟨0, _⟩ => fun _ => rfl | ⟨1, _⟩ => fun hb => absurd rfl hb) (Nat.add_comm _ _)).trans (ref_right x1 x2 x6 n h d)

theorem ref_sum (n : Fin 16384) (j : Fin 1024) : val_main_v35 (F := Ideal) x0 x1 x2 x3 x4 x5 x6 (ix2 n j)
    = x3 (ix2 n j) + ∑ k : Fin 1024, val_main_v33 (F := Ideal) x0 x1 x2 x5 x6 (ix2 n k) * x4 (ix2 k j) := by
  rw [val_main_v35_apply, val_main_v34_apply]
  refine congrArg (x3 (ix2 n j) + ·) (Finset.sum_congr rfl fun k _ => ?_)
  rw [eq_ix2 (lidx_main_v34 _ k), eq_ix2 (ridx_main_v34 _ k)]; rfl

end ref

/-! ## The blocks -/

section
variable (m : (ℓ : Loc nD τ sig) → Buf (Elt Ideal) ℓ) (c : Dev nD)

def A0 : (⟨S16384x512, .f32⟩ : BufTy).Contents (Elt Ideal) := m ((c : Thread nD τ).loc main_arg0)
def A1 : (⟨S4x16384x128, .f32⟩ : BufTy).Contents (Elt Ideal) := m ((c : Thread nD τ).loc main_arg1)
def A2 : (⟨S16384x512, .f32⟩ : BufTy).Contents (Elt Ideal) := m ((c : Thread nD τ).loc main_arg2)
def A3 : (⟨S16384x1024, .f32⟩ : BufTy).Contents (Elt Ideal) := m ((c : Thread nD τ).loc main_arg3)
def A4 : (⟨S1024x1024, .f32⟩ : BufTy).Contents (Elt Ideal) := m ((c : Thread nD τ).loc main_arg4)
def A5 : (⟨S1x512, .f32⟩ : BufTy).Contents (Elt Ideal) := m ((c : Thread nD τ).loc main_arg5)
def A6 : (⟨S1x128, .f32⟩ : BufTy).Contents (Elt Ideal) := m ((c : Thread nD τ).loc main_arg6)

theorem points : cfg0.N = 32 := N_0

/-- Row `i` of the point's block, in the array. -/
def at' (t : Fin cfg0.N) (i : Fin 512) : Fin 16384 := ⟨512 * t.val + i.val, by
  have := lt_of_lt_of_eq t.isLt points; have := i.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, t.val, 0] := (by decide +kernel : ∀ t : Fin grid0.N, win0_1.index t = ![0, t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])

theorem V_w : V m c main_v0 = (truncf .bf16 (φ := .f32) (A4 m c) bitsLt_bf16_f32 : FVec Ideal S1024x1024 .bf16) := by
  simp only [V, hostOps0]; after_results_simp <;> rfl

def b0 (t : Fin cfg0.N) : Vec Ideal S512x512 .f32 := iblk m c 0 t
def b1 (t : Fin cfg0.N) : Vec Ideal S4x512x128 .f32 := iblk m c 1 t
def b2 (t : Fin cfg0.N) : Vec Ideal S512x512 .f32 := iblk m c 2 t
def b3 (t : Fin cfg0.N) : Vec Ideal S512x1024 .f32 := iblk m c 3 t
def b4 (t : Fin cfg0.N) : Vec Ideal S1024x1024 .bf16 := iblk m c 4 t
def b5 (t : Fin cfg0.N) : Vec Ideal S1x512 .f32 := iblk m c 5 t
def b6 (t : Fin cfg0.N) : Vec Ideal S1x128 .f32 := iblk m c 6 t

theorem b0_at (t : Fin cfg0.N) (i : Fin 512) (k : Fin 512) : b0 m c t (ix2 i k) = A0 m c (ix2 (at' t i) k) := by
  show iblk m c 0 t (ix2 i k) = _
  blk_simp [iblk]
  refine (congrFun (V_main_arg0 m c) _).trans (congrArg (A0 m c) ?_)
  unfold at'; blk_ext [e0]
  exact congrArg (· + i.val) (Nat.mul_comm _ _)
theorem b1_at (t : Fin cfg0.N) (h : Fin 4) (i : Fin 512) (d : Fin 128) : b1 m c t (ix3 h i d) = A1 m c (ix3 h (at' t i) d) := by
  show iblk m c 1 t (ix3 h i d) = _
  blk_simp [iblk]
  refine (congrFun (V_main_arg1 m c) _).trans (congrArg (A1 m c) ?_)
  unfold at'; blk_ext [e1]
  exact congrArg (· + i.val) (Nat.mul_comm _ _)
theorem b2_at (t : Fin cfg0.N) (i : Fin 512) (k : Fin 512) : b2 m c t (ix2 i k) = A2 m c (ix2 (at' t i) k) := by
  show iblk m c 2 t (ix2 i k) = _
  blk_simp [iblk]
  refine (congrFun (V_main_arg2 m c) _).trans (congrArg (A2 m c) ?_)
  unfold at'; blk_ext [e2]
  exact congrArg (· + i.val) (Nat.mul_comm _ _)
theorem b3_at (t : Fin cfg0.N) (i : Fin 512) (k : Fin 1024) : b3 m c t (ix2 i k) = A3 m c (ix2 (at' t i) k) := by
  show iblk m c 3 t (ix2 i k) = _
  blk_simp [iblk]
  refine (congrFun (V_main_arg3 m c) _).trans (congrArg (A3 m c) ?_)
  unfold at'; blk_ext [e3]
  exact congrArg (· + i.val) (Nat.mul_comm _ _)
theorem b4_at (t : Fin cfg0.N) (i : Fin 1024) (k : Fin 1024) : b4 m c t (ix2 i k) = A4 m c (ix2 i k) := by
  show iblk m c 4 t (ix2 i k) = _
  blk_simp [iblk]
  refine (congrFun (V_w m c) _).trans (congrArg (A4 m c) ?_)
  blk_ext [e4]
theorem b5_at (t : Fin cfg0.N) (i : Fin 1) (k : Fin 512) : b5 m c t (ix2 i k) = A5 m c (ix2 i k) := by
  show iblk m c 5 t (ix2 i k) = _
  blk_simp [iblk]
  refine (congrFun (V_main_arg5 m c) _).trans (congrArg (A5 m c) ?_)
  blk_ext [e5]
theorem b6_at (t : Fin cfg0.N) (i : Fin 1) (k : Fin 128) : b6 m c t (ix2 i k) = A6 m c (ix2 i k) := by
  show iblk m c 6 t (ix2 i k) = _
  blk_simp [iblk]
  refine (congrFun (V_main_arg6 m c) _).trans (congrArg (A6 m c) ?_)
  blk_ext [e6]

/-- The joined rows of the point. -/
def joinedAt (t : Fin cfg0.N) : FVec Ideal S512x1024 .bf16 :=
  joined (b0 m c t) (b1 m c t) (b2 m c t) (b3 m c t) (b4 m c t) (b5 m c t) (b6 m c t)

/-- The two results, as the reference has them. -/
def sumOf : Vec Ideal S16384x1024 .f32 := Cert.Reference6Ideal.Read.val_main_v35 (F := Ideal) (A0 m c) (A1 m c) (A2 m c) (A3 m c) (A4 m c) (A5 m c) (A6 m c)
def mixOf : Vec Ideal S16384x1024 .bf16 := Cert.Reference6Ideal.Read.val_main_v36 (F := Ideal) (A0 m c) (A1 m c) (A2 m c) (A5 m c) (A6 m c)

theorem joined_at (t : Fin cfg0.N) (i : Fin 512) (q : Fin 1024) :
    joinedAt m c t (ix2 i q) = Cert.Reference6Ideal.Read.val_main_v33 (F := Ideal) (A0 m c) (A1 m c) (A2 m c) (A5 m c) (A6 m c) (ix2 (at' t i) q) := by
  refine cols (P := fun q => joinedAt m c t (ix2 i q) = Cert.Reference6Ideal.Read.val_main_v33 (F := Ideal) (A0 m c) (A1 m c) (A2 m c) (A5 m c) (A6 m c) (ix2 (at' t i) q))
    (fun j => ?_) (fun h d => ?_) q
  · refine (joined_left _ _ _ _ _ _ _ i j).trans (Eq.trans ?_ (ref_joined_left _ _ _ _ _ (at' t i) j).symm)
    simp only [b0_at, b5_at]
  · refine (joined_right _ _ _ _ _ _ _ h i d).trans (Eq.trans ?_ (ref_joined_right _ _ _ _ _ (at' t i) h d).symm)
    unfold headOf
    simp only [b1_at, b2_at, b6_at]

theorem point8 (t : Fin cfg0.N) (i : Fin 512) (q : Fin 1024) : out0_8 (b0 m c t) (b1 m c t) (b2 m c t) (b3 m c t) (b4 m c t) (b5 m c t) (b6 m c t) (ix2 i q)
    = mixOf m c (ix2 (at' t i) q) := by
  rw [out8]; exact joined_at m c t i q

theorem point7 (t : Fin cfg0.N) (i : Fin 512) (j : Fin 1024) : out0_7 (b0 m c t) (b1 m c t) (b2 m c t) (b3 m c t) (b4 m c t) (b5 m c t) (b6 m c t) (ix2 i j)
    = sumOf m c (ix2 (at' t i) j) := by
  rw [out7_at, sumOf, ref_sum, b3_at]
  refine congrArg (_ + ·) (Finset.sum_congr rfl fun k _ => ?_)
  rw [b4_at]
  exact congrArg (· * _) (joined_at m c t i k)

theorem emb7 (t : Fin cfg0.N) (y : S512x1024.Idx) : ((cfg0.win 7).blk t).view.emb y = (ix2 (at' t (y 0)) (y 1) : S16384x1024.Idx) := by
  unfold at'; blk_ext [e7]
theorem emb8 (t : Fin cfg0.N) (y : S512x1024.Idx) : ((cfg0.win 8).blk t).view.emb y = (ix2 (at' t (y 0)) (y 1) : S16384x1024.Idx) := by
  unfold at'; blk_ext [e8]

theorem final7 : (dats m 0 c).arrAt 7 cfg0.N = sumOf m c := by
  refine (dats m 0 c).arrAt_eq_of_covers 7 _ (by decide +kernel) fun t hf y => ?_
  rw [emb7 t y]
  blk_simp
  rw [after0_7]
  exact (congrArg _ (eq_ix2 y)).trans (point7 m c t (y 0) (y 1))

theorem final8 : (dats m 0 c).arrAt 8 cfg0.N = mixOf m c := by
  refine (dats m 0 c).arrAt_eq_of_covers 8 _ (by decide +kernel) fun t hf y => ?_
  rw [emb8 t y]
  blk_simp
  rw [after0_8]
  exact (congrArg _ (eq_ix2 y)).trans (point8 m c t (y 0) (y 1))
end

set_option maxHeartbeats 1000000 in
/-- The kernel and the reference leave the same two results. -/
theorem same_results : Cert.algebraic_Kernel6Ideal_Reference6Ideal
    (hKernel6Ideal := Cert.Kernel6Ideal.Gen.facts) (hReference6Ideal := Cert.Reference6Ideal.Gen.facts) := by
  intro m g m' g' _ hargs
  refine ⟨fun c => sumOf m c, fun c => mixOf m c, ?_, ?_⟩
  · exact (θ_run Cert.Kernel6Ideal.defs _ _).mono (fun r h c => ⟨(h c).1.trans (final7 m c), (h c).2.1.trans (final8 m c), (h c).2.2⟩) (Cert.Kernel6Ideal.Value.run_blocks m g)
  · refine (θ_run Cert.Reference6Ideal.defs _ _).mono (fun r h c => ?_) (Cert.Reference6Ideal.Value.run m' g')
    obtain ⟨r0, r1, rest⟩ := h c
    obtain ⟨a0, a1, a2, a3, a4, a5, a6⟩ := hargs c
    have E0 : m' ((c.tc : Thread Cert.Reference6Ideal.nD Cert.Reference6Ideal.τ).loc Cert.Reference6Ideal.main_arg0) = A0 m c := a0
    have E1 : m' ((c.tc : Thread Cert.Reference6Ideal.nD Cert.Reference6Ideal.τ).loc Cert.Reference6Ideal.main_arg1) = A1 m c := a1
    have E2 : m' ((c.tc : Thread Cert.Reference6Ideal.nD Cert.Reference6Ideal.τ).loc Cert.Reference6Ideal.main_arg2) = A2 m c := a2
    have E3 : m' ((c.tc : Thread Cert.Reference6Ideal.nD Cert.Reference6Ideal.τ).loc Cert.Reference6Ideal.main_arg3) = A3 m c := a3
    have E4 : m' ((c.tc : Thread Cert.Reference6Ideal.nD Cert.Reference6Ideal.τ).loc Cert.Reference6Ideal.main_arg4) = A4 m c := a4
    have E5 : m' ((c.tc : Thread Cert.Reference6Ideal.nD Cert.Reference6Ideal.τ).loc Cert.Reference6Ideal.main_arg5) = A5 m c := a5
    have E6 : m' ((c.tc : Thread Cert.Reference6Ideal.nD Cert.Reference6Ideal.τ).loc Cert.Reference6Ideal.main_arg6) = A6 m c := a6
    refine ⟨r0.trans ((Cert.Reference6Ideal.Read.val_main_v35_eq _ _ _ _ _ _ _).trans ?_), r1.trans ((Cert.Reference6Ideal.Read.val_main_v36_eq _ _ _ _ _).trans ?_), rest⟩
    · rw [E0, E1, E2, E3, E4, E5, E6]; rfl
    · rw [E0, E1, E2, E5, E6]; rfl

/-- The reference changes no argument and leaves no counter raised. -/
theorem reference_frame : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run m ρ)

/-- The compiled kernel and the idealised one have the same bodies. -/
theorem same_defs : Cert.Kernel6.defs (F := Bits) = Cert.Kernel6Ideal.defs (F := Bits) := by
  sl_kernel_rfl

theorem compiled_frame : Cert.quiescent_Kernel6 (hKernel6 := Cert.Kernel6.Gen.facts) := fun m ρ _ => by
  rw [same_defs]
  exact (θ_run Cert.Kernel6Ideal.defs _ _).mono (fun _ h => h) (Cert.Kernel6Ideal.Gen.frame (F := Bits) m ρ)

end Cert.Post

end

end
-- ==== Proof.Mix.Rows.lean ====
module

public import proofs.«01_k».proof.Proof.Mix.Spec

/-! A sum over all the rows, taken block by block: 32 blocks of 512 rows. What it means that a value is finite. -/

@[expose] public section

noncomputable section

namespace Cert.Rows

open Idealize.ShloMosaic
open scoped BigOperators

/-- Row `i` of block `s`. -/
def row (s : ℕ) (i : Fin 512) : Fin 16384 := ⟨(512 * s + i.val) % 16384, Nat.mod_lt _ (by decide)⟩

/-- The sum over the rows of the first `n` blocks. -/
def below (f : Fin 16384 → EReal) (n : ℕ) : EReal := ∑ s ∈ Finset.range n, ∑ i : Fin 512, f (row s i)

theorem below_succ (f : Fin 16384 → EReal) (n : ℕ) : below f (n + 1) = below f n + ∑ i : Fin 512, f (row n i) :=
  Finset.sum_range_succ _ n

theorem below_one (f : Fin 16384 → EReal) : below f 1 = ∑ i : Fin 512, f (row 0 i) := Finset.sum_range_one _

theorem below_all (f : Fin 16384 → EReal) : below f 32 = ∑ n, f n := by
  unfold below
  rw [Finset.sum_range, ← Fintype.sum_prod_type']
  refine Fintype.sum_equiv (finProdFinEquiv (m := 32) (n := 512)) _ _ fun p => congrArg f (Fin.ext ?_)
  have h1 := p.1.isLt
  have h2 := p.2.isLt
  show (512 * p.1.val + p.2.val) % 16384 = p.2.val + 512 * p.1.val
  omega

/-! ## Finite values -/

theorem top_eq : Ideal.ofBits .f32 0x7F800000#32 = ⊤ := by simp [Ideal.ofBits, Ideal.ieee]

/-- A value whose magnitude is below infinity is a real number. -/
theorem real_of_lt {x : EReal} (h : Ideal.cmp .olt (max x (-x)) (Ideal.ofBits .f32 0x7F800000#32) = 1#1) : Cert.Ffn.Spec.Real' x := by
  have hlt : max x (-x) < ⊤ := by
    by_contra hn
    rw [top_eq] at h
    simp [Ideal.cmp, hn] at h
  obtain ⟨h1, h2⟩ := max_lt_iff.mp hlt
  have hb : x ≠ ⊥ := fun e => by rw [e] at h2; simp at h2
  exact ⟨x.toReal, (EReal.coe_toReal h1.ne hb).symm⟩

end Cert.Rows

end

end
-- ==== Proof.Mix.BackBlock.lean ====
module

public import proofs.«01_k».proof.Defs
public import proofs.«01_k».proof.Proof.Mix.Spec
public import proofs.«01_k».proof.Proof.Gen.Kernel7Ideal.Value
public import Idealize.ShloMosaic.Lib.Pipeline.ValueKit.Geometry
public import Idealize.ShloMosaic.Lib.Pipeline.ValueKit.Tiles
public import Idealize.ShloMosaic.Lib.ValueIdx
public import Idealize.ShloMosaic.Lib.Ring

/-! The gradient of the mix of the two branches: what a point of the kernel computes from its blocks, and what it leaves
in each of its five windows. -/

@[expose] public section

set_option maxRecDepth 16384

noncomputable section

namespace Cert.BackBlock

open Cert.Kernel7Ideal Cert.Kernel7Ideal.Gen
open Idealize.ShloMosaic
open Idealize.ShloMosaic.TcCoe Idealize.ShloMosaic.ValueIdx
open Idealize.ShloMosaic.Tactic
open Idealize.ShloMosaic.Pipeline (Dat Cfg Window)
open Cert.Norm
open Cert.Ffn.Spec (one)
open scoped BigOperators

theorem zeros : (![0, 0] : Fin 2 → Nat) = fun _ => 0 := funext fun a => match a with | ⟨0, _⟩ => rfl | ⟨1, _⟩ => rfl

/-- A load of the whole of what stores through it left reads the last one. -/
theorem read_last {S : Shape} {e : EltTy} {κ : Kind} {sp : Space} (v : View sig κ sp S e) {off : Fin S.rank → Nat} (h : off = fun _ => 0)
    (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The formulas of one head -/

section head
variable (D N Z S : FVec Ideal S512x128 .f32) (r : FVec Ideal S512x1 .f32) (g p : Vec Ideal S1x128 .f32)
variable {i : Fin 512} {δ x z : Fin 128 → EReal}

/-- The gradient with respect to the normalised head. -/
theorem inner_at (hD : ∀ d, D (ix2 i d) = δ d) (hZ : ∀ d, Z (ix2 i d) = z d) (hS : ∀ d, S (ix2 i d) = sg (z d)) (d : Fin 128) :
    mulf D (mulf Z S) (ix2 i d) = δ d * silu (z d) := by
  show D (ix2 i d) * (Z (ix2 i d) * S (ix2 i d)) = _
  rw [hD, hZ, hS]; rfl

theorem gate_at (hD : ∀ d, D (ix2 i d) = δ d) (hZ : ∀ d, Z (ix2 i d) = z d) (hS : ∀ d, S (ix2 i d) = sg (z d)) (hN : ∀ d, N (ix2 i d) = normed w128 x d) (d : Fin 128) :
    mulf (mulf D (mulf N (broadcastTo S512x128 g broadcasts_S1x128_S512x128)))
      (mulf S (addf (broadcast S512x128 (Scalar.ofBits .f32 0x3F800000#32)) (mulf Z (subf (broadcast S512x128 (Scalar.ofBits .f32 0x3F800000#32)) S)))) (ix2 i d)
      = (δ d * (normed w128 x d * g (ix2 0 d))) * dsilu (z d) := by
  show (D (ix2 i d) * (N (ix2 i d) * broadcastTo S512x128 g _ (ix2 i d))) * (S (ix2 i d) * (one + Z (ix2 i d) * (one - S (ix2 i d)))) = _
  rw [hD, hZ, hS, hN]
  exact congrArg (fun s => (δ d * (normed w128 x d * s)) * dsilu (z d)) (rowsOf g _ (by decide) i d)

theorem page_at (A : FVec Ideal S512x128 .f32) (hA : ∀ d, A (ix2 i d) = δ d) (hN : ∀ d, N (ix2 i d) = normed w128 x d) (hr : r (ix2 i 0) = scale w128 x) (u : Fin 1) (d : Fin 128) :
    shapeCast S1x512x128 (mulf (broadcastTo S512x128 r broadcasts_S512x1_S512x128) (subf (mulf A (broadcastTo S512x128 g broadcasts_S1x128_S512x128))
      (mulf N (broadcastTo S512x128 (divf (shapeCast S512x1 (multiReduction .add [1] S512 (mulf (mulf A (broadcastTo S512x128 g broadcasts_S1x128_S512x128)) N) 0x00000000#32 reduces_S512x128_S512 (.inl rfl) rfl) shapeCasts_S512_S512x1)
        (broadcast S512x1 (Scalar.ofBits .f32 0x43000000#32))) broadcasts_S512x1_S512x128)))) shapeCasts_S512x128_S1x512x128 (ix3 u i d)
      = back w128 x (fun d => δ d * g (ix2 0 d)) d := by
  have hg : ∀ d, mulf A (broadcastTo S512x128 g broadcasts_S1x128_S512x128) (ix2 i d) = δ d * g (ix2 0 d) := fun d =>
    congrArg₂ (· * ·) (hA d) (rowsOf g _ (by decide) i d)
  refine (toPage (M := 512) (N := 128) _ _ u i d).trans ?_
  refine congrArg₂ (· * ·) ((colsOf r _ (by decide) i d).trans hr) (congrArg₂ (· - ·) (hg d) (congrArg₂ (· * ·) (hN d) ?_))
  refine (colsOf _ _ (by decide) i d).trans ((mean_at 0x43000000#32 _ N _ _ _ _ i 0).trans ?_)
  exact congrArg (Ideal.div · w128) (Finset.sum_congr rfl fun k _ => congrArg₂ (· * ·) (hg k) (hN k))
end head

theorem gains_at (A N : FVec Ideal S512x128 .f32) (p : Vec Ideal S1x128 .f32) {δ ν : Fin 512 → Fin 128 → EReal}
    (hA : ∀ i d, A (ix2 i d) = δ i d) (hN : ∀ i d, N (ix2 i d) = ν i d) (d : Fin 128) :
    addf (shapeCast S1x128 p shapeCasts_S1x128_S1x128) (shapeCast S1x128 (multiReduction .add [0] S128 (mulf A N) 0x00000000#32 reduces_S512x128_S128 (.inl rfl) rfl) shapeCasts_S128_S1x128) (ix2 0 d)
      = p (ix2 0 d) + ∑ i : Fin 512, δ i d * ν i d := by
  rw [shapeCast_self]
  refine congrArg (p (ix2 0 d) + ·) ((asRow _ _ 0 d).trans ((colSum _ _ _ _ d).trans (Finset.sum_congr rfl fun i _ => congrArg₂ (· * ·) (hA i d) (hN i d))))

/-! ## What a point computes -/

section point
variable (x0 : Vec Ideal S512x1024 .bf16) (x1 : Vec Ideal S1024x1024 .bf16) (x2 : Vec Ideal S512x512 .f32) (x3 : Vec Ideal S4x512x128 .f32)
  (x4 : Vec Ideal S512x512 .f32) (x5 : Vec Ideal S1x512 .f32) (x6 : Vec Ideal S1x128 .f32)

/-- The gradient with respect to the joined rows. -/
def dm (i : Fin 512) (q : Fin 1024) : EReal := ∑ k : Fin 1024, x0 (ix2 i k) * x1 (ix2 q k)
/-- The gradient with respect to a normalised head. -/
def dh (h : Fin 4) (i : Fin 512) (d : Fin 128) : EReal := dm x0 x1 i (right (head h d)) * silu (x4 (ix2 i (head h d)))
/-- The five results of the point: three blocks and what is added to two sums. -/
def leftOf (i j : Fin 512) : EReal := back w512 (fun k => x2 (ix2 i k)) (fun k => dm x0 x1 i (left k) * x5 (ix2 0 k)) j
def pageOf (h : Fin 4) (i : Fin 512) (d : Fin 128) : EReal := back w128 (fun k => x3 (ix3 h i k)) (fun k => dh x0 x1 x4 h i k * x6 (ix2 0 k)) d
def gateOf (h : Fin 4) (i : Fin 512) (d : Fin 128) : EReal :=
  (dm x0 x1 i (right (head h d)) * (normed w128 (fun k => x3 (ix3 h i k)) d * x6 (ix2 0 d))) * dsilu (x4 (ix2 i (head h d)))
def leftGain (j : Fin 512) : EReal := ∑ i : Fin 512, dm x0 x1 i (left j) * normed w512 (fun k => x2 (ix2 i k)) j
def headGain (h : Fin 4) (d : Fin 128) : EReal := ∑ i : Fin 512, dh x0 x1 x4 h i d * normed w128 (fun k => x3 (ix3 h i k)) d

theorem product_at (i : Fin 512) (q : Fin 1024) : k0_pay7 x0 x1 (ix2 i q) = dm x0 x1 i q := by
  unfold k0_pay7
  simp only [shapeCast_self]
  refine (Ideal.matmul_transposedRhs_apply (M := 512) (K := 1024) (N := 1024) none x0 x1 _ i q).trans ?_
  rw [constant_apply, Ideal.ofBits_zero_f32, zero_add]; rfl

theorem slice_at (off : ℕ) (hs) (h : Fin 4) (ho : off = 512 + 128 * h.val) (i : Fin 512) (d : Fin 128) :
    extractStridedSlice S512x128 ![0, off] (k0_pay7 x0 x1) hs (ix2 i d) = dm x0 x1 i (right (head h d)) := by
  subst ho
  refine (sliceCols (M := 512) (N := 1024) (K := 128) _ _ _ i d (by omega)).trans ((congrArg (fun q => k0_pay7 x0 x1 (ix2 i q)) (Fin.ext ?_)).trans (product_at x0 x1 i _))
  show 512 + 128 * h.val + d.val = 512 + (128 * h.val + d.val); omega

theorem z_at (off : ℕ) (hs) (h : Fin 4) (ho : off = 128 * h.val) (i : Fin 512) (d : Fin 128) :
    extractStridedSlice S512x128 ![0, off] x4 hs (ix2 i d) = x4 (ix2 i (head h d)) := by
  subst ho
  exact sliceCols (M := 512) (N := 512) (K := 128) _ _ _ i d (by omega)

/-- Page `h` of the block. -/
abbrev pg (off : Fin 3 → ℕ) (inb : ∀ a, off a + S1x512x128.size a ≤ S4x512x128.size a) : Vec Ideal S1x512x128 .f32 := View.ld x3 (Rect.unit (s := S4x512x128) off S1x512x128.size inb)

theorem page_ld (off : Fin 3 → ℕ) (inb) (h : Fin 4) (ho : off = ![h.val, 0, 0]) (i : Fin 512) :
    rowOf (φ := .f32) (shapeCast S512x128 (pg x3 off inb) shapeCasts_S1x512x128_S512x128) i = fun d => x3 (ix3 h i d) := by
  subst ho
  refine funext fun d => (page (M := 512) (N := 128) _ _ i d).trans (View.ld_unit_apply_of x3 _ _ _ _ (ix3 h i d) fun a => match a with
    | ⟨0, _⟩ => rfl
    | ⟨1, _⟩ => (Nat.zero_add _).symm
    | ⟨2, _⟩ => (Nat.zero_add _).symm)

/-! Head 0. -/
section
variable (i : Fin 512) (d : Fin 128)
theorem d0 : k0_pay15 (k0_pay7 x0 x1) (ix2 i d) = dm x0 x1 i (right (head 0 d)) := by
  unfold k0_pay15; exact slice_at x0 x1 _ _ 0 rfl i d
theorem z0 : k0_pay19 x4 (ix2 i d) = x4 (ix2 i (head 0 d)) := by
  unfold k0_pay19; exact z_at x4 _ _ 0 rfl i d
theorem s0 : k0_pay20 x4 (ix2 i d) = sg (x4 (ix2 i (head 0 d))) := by
  unfold k0_pay20; exact (sg_at (k0_pay19 x4) (ix2 i d)).trans (congrArg sg (z0 x4 i d))
theorem r0 (inb) : k0_pay17 (pg x3 ![0, 0, 0] inb) (ix2 i 0) = scale w128 (fun k => x3 (ix3 0 i k)) := by
  unfold k0_pay17 k0_pay16
  exact (scale_at 0x43000000#32 _ _ _ _ _ i 0).trans (congrArg (scale w128) (page_ld x3 _ inb 0 rfl i))
theorem n0 (inb) : k0_pay18 (pg x3 ![0, 0, 0] inb) (ix2 i d) = normed w128 (fun k => x3 (ix3 0 i k)) d := by
  unfold k0_pay18 k0_pay17 k0_pay16
  exact (normed_at 0x43000000#32 _ _ _ _ _ _ (by decide) i d).trans (congrArg (fun x => normed w128 x d) (page_ld x3 _ inb 0 rfl i))
end

/-! Head 1. -/
section
variable (i : Fin 512) (d : Fin 128)
theorem d1 : k0_pay25 (k0_pay7 x0 x1) (ix2 i d) = dm x0 x1 i (right (head 1 d)) := by
  unfold k0_pay25; exact slice_at x0 x1 _ _ 1 rfl i d
theorem z1 : k0_pay29 x4 (ix2 i d) = x4 (ix2 i (head 1 d)) := by
  unfold k0_pay29; exact z_at x4 _ _ 1 rfl i d
theorem s1 : k0_pay31 (k0_pay30 x4) (ix2 i d) = sg (x4 (ix2 i (head 1 d))) := by
  unfold k0_pay31 k0_pay30; exact (sg_at (k0_pay29 x4) (ix2 i d)).trans (congrArg sg (z1 x4 i d))
theorem r1 (inb) : k0_pay27 (pg x3 ![1, 0, 0] inb) (ix2 i 0) = scale w128 (fun k => x3 (ix3 1 i k)) := by
  unfold k0_pay27 k0_pay26
  exact (scale_at 0x43000000#32 _ _ _ _ _ i 0).trans (congrArg (scale w128) (page_ld x3 _ inb 1 rfl i))
theorem n1 (inb) : k0_pay28 (pg x3 ![1, 0, 0] inb) (ix2 i d) = normed w128 (fun k => x3 (ix3 1 i k)) d := by
  unfold k0_pay28 k0_pay27 k0_pay26
  exact (normed_at 0x43000000#32 _ _ _ _ _ _ (by decide) i d).trans (congrArg (fun x => normed w128 x d) (page_ld x3 _ inb 1 rfl i))
end

/-! Head 2. -/
section
variable (i : Fin 512) (d : Fin 128)
theorem d2 : k0_pay36 (k0_pay7 x0 x1) (ix2 i d) = dm x0 x1 i (right (head 2 d)) := by
  unfold k0_pay36; exact slice_at x0 x1 _ _ 2 rfl i d
theorem z2 : k0_pay40 x4 (ix2 i d) = x4 (ix2 i (head 2 d)) := by
  unfold k0_pay40; exact z_at x4 _ _ 2 rfl i d
theorem s2 : k0_pay41 x4 (ix2 i d) = sg (x4 (ix2 i (head 2 d))) := by
  unfold k0_pay41; exact (sg_at (k0_pay40 x4) (ix2 i d)).trans (congrArg sg (z2 x4 i d))
theorem r2 (inb) : k0_pay38 (pg x3 ![2, 0, 0] inb) (ix2 i 0) = scale w128 (fun k => x3 (ix3 2 i k)) := by
  unfold k0_pay38 k0_pay37
  exact (scale_at 0x43000000#32 _ _ _ _ _ i 0).trans (congrArg (scale w128) (page_ld x3 _ inb 2 rfl i))
theorem n2 (inb) : k0_pay39 (pg x3 ![2, 0, 0] inb) (ix2 i d) = normed w128 (fun k => x3 (ix3 2 i k)) d := by
  unfold k0_pay39 k0_pay38 k0_pay37
  exact (normed_at 0x43000000#32 _ _ _ _ _ _ (by decide) i d).trans (congrArg (fun x => normed w128 x d) (page_ld x3 _ inb 2 rfl i))
end

/-! Head 3. -/
section
variable (i : Fin 512) (d : Fin 128)
theorem d3 : k0_pay47 (k0_pay7 x0 x1) (ix2 i d) = dm x0 x1 i (right (head 3 d)) := by
  unfold k0_pay47; exact slice_at x0 x1 _ _ 3 rfl i d
theorem z3 : k0_pay51 x4 (ix2 i d) = x4 (ix2 i (head 3 d)) := by
  unfold k0_pay51; exact z_at x4 _ _ 3 rfl i d
theorem s3 : k0_pay52 x4 (ix2 i d) = sg (x4 (ix2 i (head 3 d))) := by
  unfold k0_pay52; exact (sg_at (k0_pay51 x4) (ix2 i d)).trans (congrArg sg (z3 x4 i d))
theorem r3 (inb) : k0_pay49 (pg x3 ![3, 0, 0] inb) (ix2 i 0) = scale w128 (fun k => x3 (ix3 3 i k)) := by
  unfold k0_pay49 k0_pay48
  exact (scale_at 0x43000000#32 _ _ _ _ _ i 0).trans (congrArg (scale w128) (page_ld x3 _ inb 3 rfl i))
theorem n3 (inb) : k0_pay50 (pg x3 ![3, 0, 0] inb) (ix2 i d) = normed w128 (fun k => x3 (ix3 3 i k)) d := by
  unfold k0_pay50 k0_pay49 k0_pay48
  exact (normed_at 0x43000000#32 _ _ _ _ _ _ (by decide) i d).trans (congrArg (fun x => normed w128 x d) (page_ld x3 _ inb 3 rfl i))
end

theorem gate0 (inb) (i : Fin 512) (d : Fin 128) : k0_pay21 (k0_pay7 x0 x1) x4 x6 (pg x3 ![0, 0, 0] inb) (ix2 i d) = gateOf x0 x1 x3 x4 x6 0 i d := by
  unfold k0_pay21
  exact gate_at (k0_pay15 (k0_pay7 x0 x1)) (k0_pay18 (pg x3 ![0, 0, 0] inb)) (k0_pay19 x4) (k0_pay20 x4) x6 (i := i)
    (δ := fun d => dm x0 x1 i (right (head 0 d))) (x := fun k => x3 (ix3 0 i k)) (z := fun d => x4 (ix2 i (head 0 d)))
    (d0 x0 x1 i) (z0 x4 i) (s0 x4 i) (fun d => n0 x3 i d inb) d
theorem inner0 (i : Fin 512) (d : Fin 128) : mulf (k0_pay15 (k0_pay7 x0 x1)) (mulf (k0_pay19 x4) (k0_pay20 x4)) (ix2 i d) = dh x0 x1 x4 0 i d :=
  inner_at (k0_pay15 (k0_pay7 x0 x1)) (k0_pay19 x4) (k0_pay20 x4) (i := i)
    (δ := fun d => dm x0 x1 i (right (head 0 d))) (z := fun d => x4 (ix2 i (head 0 d))) (d0 x0 x1 i) (z0 x4 i) (s0 x4 i) d
theorem page0 (inb) (u : Fin 1) (i : Fin 512) (d : Fin 128) : k0_pay24 x6 (k0_pay15 (k0_pay7 x0 x1)) (k0_pay17 (pg x3 ![0, 0, 0] inb)) (k0_pay18 (pg x3 ![0, 0, 0] inb)) (k0_pay19 x4) (k0_pay20 x4) (ix3 u i d) = pageOf x0 x1 x3 x4 x6 0 i d := by
  unfold k0_pay24 k0_pay22
  exact page_at (k0_pay18 (pg x3 ![0, 0, 0] inb)) (k0_pay17 (pg x3 ![0, 0, 0] inb)) x6 (i := i)
    (δ := fun d => dh x0 x1 x4 0 i d) (x := fun k => x3 (ix3 0 i k)) (mulf (k0_pay15 (k0_pay7 x0 x1)) (mulf (k0_pay19 x4) (k0_pay20 x4)))
    (inner0 x0 x1 x4 i) (fun d => n0 x3 i d inb) (r0 x3 i inb) u d
theorem gain0 (inb) (p : Vec Ideal S1x128 .f32) (d : Fin 128) : k0_pay23 (k0_pay15 (k0_pay7 x0 x1)) (k0_pay18 (pg x3 ![0, 0, 0] inb)) (k0_pay19 x4) (k0_pay20 x4) p (ix2 0 d) = p (ix2 0 d) + headGain x0 x1 x3 x4 0 d := by
  unfold k0_pay23 k0_pay22
  exact gains_at (mulf (k0_pay15 (k0_pay7 x0 x1)) (mulf (k0_pay19 x4) (k0_pay20 x4))) (k0_pay18 (pg x3 ![0, 0, 0] inb)) p
    (δ := fun i d => dh x0 x1 x4 0 i d) (ν := fun i d => normed w128 (fun k => x3 (ix3 0 i k)) d) (inner0 x0 x1 x4) (fun i d => n0 x3 i d inb) d

theorem gate1 (inb) (i : Fin 512) (d : Fin 128) : k0_pay32 x6 (k0_pay25 (k0_pay7 x0 x1)) (k0_pay28 (pg x3 ![1, 0, 0] inb)) (k0_pay29 x4) (k0_pay30 x4) (ix2 i d) = gateOf x0 x1 x3 x4 x6 1 i d := by
  unfold k0_pay32
  exact gate_at (k0_pay25 (k0_pay7 x0 x1)) (k0_pay28 (pg x3 ![1, 0, 0] inb)) (k0_pay29 x4) (k0_pay31 (k0_pay30 x4)) x6 (i := i)
    (δ := fun d => dm x0 x1 i (right (head 1 d))) (x := fun k => x3 (ix3 1 i k)) (z := fun d => x4 (ix2 i (head 1 d)))
    (d1 x0 x1 i) (z1 x4 i) (s1 x4 i) (fun d => n1 x3 i d inb) d
theorem inner1 (i : Fin 512) (d : Fin 128) : mulf (k0_pay25 (k0_pay7 x0 x1)) (mulf (k0_pay29 x4) (k0_pay31 (k0_pay30 x4))) (ix2 i d) = dh x0 x1 x4 1 i d :=
  inner_at (k0_pay25 (k0_pay7 x0 x1)) (k0_pay29 x4) (k0_pay31 (k0_pay30 x4)) (i := i)
    (δ := fun d => dm x0 x1 i (right (head 1 d))) (z := fun d => x4 (ix2 i (head 1 d))) (d1 x0 x1 i) (z1 x4 i) (s1 x4 i) d
theorem page1 (inb) (u : Fin 1) (i : Fin 512) (d : Fin 128) : k0_pay35 x6 (k0_pay25 (k0_pay7 x0 x1)) (k0_pay27 (pg x3 ![1, 0, 0] inb)) (k0_pay28 (pg x3 ![1, 0, 0] inb)) (k0_pay29 x4) (k0_pay30 x4) (ix3 u i d) = pageOf x0 x1 x3 x4 x6 1 i d := by
  unfold k0_pay35 k0_pay33
  exact page_at (k0_pay28 (pg x3 ![1, 0, 0] inb)) (k0_pay27 (pg x3 ![1, 0, 0] inb)) x6 (i := i)
    (δ := fun d => dh x0 x1 x4 1 i d) (x := fun k => x3 (ix3 1 i k)) (mulf (k0_pay25 (k0_pay7 x0 x1)) (mulf (k0_pay29 x4) (k0_pay31 (k0_pay30 x4))))
    (inner1 x0 x1 x4 i) (fun d => n1 x3 i d inb) (r1 x3 i inb) u d
theorem gain1 (inb) (p : Vec Ideal S1x128 .f32) (d : Fin 128) : k0_pay34 (k0_pay25 (k0_pay7 x0 x1)) (k0_pay28 (pg x3 ![1, 0, 0] inb)) (k0_pay29 x4) (k0_pay30 x4) p (ix2 0 d) = p (ix2 0 d) + headGain x0 x1 x3 x4 1 d := by
  unfold k0_pay34 k0_pay33
  exact gains_at (mulf (k0_pay25 (k0_pay7 x0 x1)) (mulf (k0_pay29 x4) (k0_pay31 (k0_pay30 x4)))) (k0_pay28 (pg x3 ![1, 0, 0] inb)) p
    (δ := fun i d => dh x0 x1 x4 1 i d) (ν := fun i d => normed w128 (fun k => x3 (ix3 1 i k)) d) (inner1 x0 x1 x4) (fun i d => n1 x3 i d inb) d

theorem gate2 (inb) (i : Fin 512) (d : Fin 128) : k0_pay42 x4 x6 (k0_pay36 (k0_pay7 x0 x1)) (pg x3 ![2, 0, 0] inb) (ix2 i d) = gateOf x0 x1 x3 x4 x6 2 i d := by
  unfold k0_pay42
  exact gate_at (k0_pay36 (k0_pay7 x0 x1)) (k0_pay39 (pg x3 ![2, 0, 0] inb)) (k0_pay40 x4) (k0_pay41 x4) x6 (i := i)
    (δ := fun d => dm x0 x1 i (right (head 2 d))) (x := fun k => x3 (ix3 2 i k)) (z := fun d => x4 (ix2 i (head 2 d)))
    (d2 x0 x1 i) (z2 x4 i) (s2 x4 i) (fun d => n2 x3 i d inb) d
theorem inner2 (i : Fin 512) (d : Fin 128) : mulf (k0_pay36 (k0_pay7 x0 x1)) (mulf (k0_pay40 x4) (k0_pay41 x4)) (ix2 i d) = dh x0 x1 x4 2 i d :=
  inner_at (k0_pay36 (k0_pay7 x0 x1)) (k0_pay40 x4) (k0_pay41 x4) (i := i)
    (δ := fun d => dm x0 x1 i (right (head 2 d))) (z := fun d => x4 (ix2 i (head 2 d))) (d2 x0 x1 i) (z2 x4 i) (s2 x4 i) d
theorem page2 (inb) (u : Fin 1) (i : Fin 512) (d : Fin 128) : k0_pay46 (k0_pay38 (pg x3 ![2, 0, 0] inb)) (k0_pay39 (pg x3 ![2, 0, 0] inb)) (k0_pay43 x4 (k0_pay36 (k0_pay7 x0 x1))) (k0_pay45 x6) (ix3 u i d) = pageOf x0 x1 x3 x4 x6 2 i d := by
  unfold k0_pay46 k0_pay43 k0_pay45
  exact page_at (k0_pay39 (pg x3 ![2, 0, 0] inb)) (k0_pay38 (pg x3 ![2, 0, 0] inb)) x6 (i := i)
    (δ := fun d => dh x0 x1 x4 2 i d) (x := fun k => x3 (ix3 2 i k)) (mulf (k0_pay36 (k0_pay7 x0 x1)) (mulf (k0_pay40 x4) (k0_pay41 x4)))
    (inner2 x0 x1 x4 i) (fun d => n2 x3 i d inb) (r2 x3 i inb) u d
theorem gain2 (inb) (p : Vec Ideal S1x128 .f32) (d : Fin 128) : k0_pay44 x4 (k0_pay36 (k0_pay7 x0 x1)) (pg x3 ![2, 0, 0] inb) p (ix2 0 d) = p (ix2 0 d) + headGain x0 x1 x3 x4 2 d := by
  unfold k0_pay44 k0_pay43
  exact gains_at (mulf (k0_pay36 (k0_pay7 x0 x1)) (mulf (k0_pay40 x4) (k0_pay41 x4))) (k0_pay39 (pg x3 ![2, 0, 0] inb)) p
    (δ := fun i d => dh x0 x1 x4 2 i d) (ν := fun i d => normed w128 (fun k => x3 (ix3 2 i k)) d) (inner2 x0 x1 x4) (fun i d => n2 x3 i d inb) d

theorem gate3 (inb) (i : Fin 512) (d : Fin 128) : k0_pay1 (k0_pay52 x4) (k0_pay53 (k0_pay7 x0 x1) x6 (pg x3 ![3, 0, 0] inb)) (k0_pay54 x4) (ix2 i d) = gateOf x0 x1 x3 x4 x6 3 i d := by
  unfold k0_pay1 k0_pay53 k0_pay54
  exact gate_at (k0_pay47 (k0_pay7 x0 x1)) (k0_pay50 (pg x3 ![3, 0, 0] inb)) (k0_pay51 x4) (k0_pay52 x4) x6 (i := i)
    (δ := fun d => dm x0 x1 i (right (head 3 d))) (x := fun k => x3 (ix3 3 i k)) (z := fun d => x4 (ix2 i (head 3 d)))
    (d3 x0 x1 i) (z3 x4 i) (s3 x4 i) (fun d => n3 x3 i d inb) d
theorem inner3 (i : Fin 512) (d : Fin 128) : mulf (k0_pay47 (k0_pay7 x0 x1)) (mulf (k0_pay51 x4) (k0_pay52 x4)) (ix2 i d) = dh x0 x1 x4 3 i d :=
  inner_at (k0_pay47 (k0_pay7 x0 x1)) (k0_pay51 x4) (k0_pay52 x4) (i := i)
    (δ := fun d => dm x0 x1 i (right (head 3 d))) (z := fun d => x4 (ix2 i (head 3 d))) (d3 x0 x1 i) (z3 x4 i) (s3 x4 i) d
theorem page3 (inb) (u : Fin 1) (i : Fin 512) (d : Fin 128) : k0_pay4 x6 (k0_pay47 (k0_pay7 x0 x1)) (k0_pay49 (pg x3 ![3, 0, 0] inb)) (k0_pay50 (pg x3 ![3, 0, 0] inb)) (k0_pay51 x4) (k0_pay52 x4) (ix3 u i d) = pageOf x0 x1 x3 x4 x6 3 i d := by
  unfold k0_pay4 k0_pay2
  exact page_at (k0_pay50 (pg x3 ![3, 0, 0] inb)) (k0_pay49 (pg x3 ![3, 0, 0] inb)) x6 (i := i)
    (δ := fun d => dh x0 x1 x4 3 i d) (x := fun k => x3 (ix3 3 i k)) (mulf (k0_pay47 (k0_pay7 x0 x1)) (mulf (k0_pay51 x4) (k0_pay52 x4)))
    (inner3 x0 x1 x4 i) (fun d => n3 x3 i d inb) (r3 x3 i inb) u d
theorem gain3 (inb) (p : Vec Ideal S1x128 .f32) (d : Fin 128) : k0_pay3 (k0_pay47 (k0_pay7 x0 x1)) (k0_pay50 (pg x3 ![3, 0, 0] inb)) (k0_pay51 x4) (k0_pay52 x4) p (ix2 0 d) = p (ix2 0 d) + headGain x0 x1 x3 x4 3 d := by
  unfold k0_pay3 k0_pay2
  exact gains_at (mulf (k0_pay47 (k0_pay7 x0 x1)) (mulf (k0_pay51 x4) (k0_pay52 x4))) (k0_pay50 (pg x3 ![3, 0, 0] inb)) p
    (δ := fun i d => dh x0 x1 x4 3 i d) (ν := fun i d => normed w128 (fun k => x3 (ix3 3 i k)) d) (inner3 x0 x1 x4) (fun i d => n3 x3 i d inb) d

/-! The first part. -/

theorem dleft (i j : Fin 512) : k0_pay10 x0 x1 (ix2 i j) = dm x0 x1 i (left j) := by
  unfold k0_pay10
  refine (sliceCols (M := 512) (N := 1024) (K := 512) _ _ _ i j (by omega)).trans ((congrArg (fun q => k0_pay7 x0 x1 (ix2 i q)) (Fin.ext ?_)).trans (product_at x0 x1 i _))
  exact Nat.zero_add _

theorem nleft (i j : Fin 512) : k0_pay9 x2 (ix2 i j) = normed w512 (fun k => x2 (ix2 i k)) j := by
  unfold k0_pay9 k0_pay8
  exact normed_at 0x44000000#32 x2 _ _ _ _ _ (by decide) i j

theorem gleft (i j : Fin 512) : k0_pay12 x0 x1 x5 (ix2 i j) = dm x0 x1 i (left j) * x5 (ix2 0 j) := by
  unfold k0_pay12
  exact congrArg₂ (· * ·) (dleft x0 x1 i j) (rowsOf x5 _ (by decide) i j)

theorem left_at (i j : Fin 512) : k0_pay14 (k0_pay8 x2) (k0_pay9 x2) (k0_pay12 x0 x1 x5) (k0_pay13 x0 x1 x2 x5) (ix2 i j) = leftOf x0 x1 x2 x5 i j := by
  unfold k0_pay14 k0_pay13
  refine congrArg₂ (· * ·) ((colsOf _ _ (by decide) i j).trans ?_) (congrArg₂ (· - ·) (gleft x0 x1 x5 i j) (congrArg₂ (· * ·) (nleft x2 i j) ?_))
  · unfold k0_pay8; exact scale_at 0x44000000#32 x2 _ _ _ _ i 0
  · refine (colsOf _ _ (by decide) i j).trans ((mean_at 0x44000000#32 _ _ _ _ _ _ i 0).trans ?_)
    exact congrArg (Ideal.div · w512) (Finset.sum_congr rfl fun k _ => congrArg₂ (· * ·) (gleft x0 x1 x5 i k) (nleft x2 i k))

theorem left_gain (p : Vec Ideal S1x512 .f32) (j : Fin 512) : k0_pay11 x0 x1 x2 p (ix2 0 j) = p (ix2 0 j) + leftGain x0 x1 x2 j := by
  unfold k0_pay11
  rw [shapeCast_self]
  refine congrArg (p (ix2 0 j) + ·) ((asRow _ _ 0 j).trans ((colSum _ _ _ _ j).trans (Finset.sum_congr rfl fun i _ => congrArg₂ (· * ·) (dleft x0 x1 i j) (nleft x2 i j))))

theorem zero_wide (y) : k0_pay5 (F := Ideal) y = 0 := by unfold k0_pay5; exact Ideal.ofBits_zero_f32
theorem zero_head (y) : k0_pay6 (F := Ideal) y = 0 := by unfold k0_pay6; exact Ideal.ofBits_zero_f32

/-- The three blocks. -/
def leftBlk : Vec Ideal S512x512 .f32 := fun y => leftOf x0 x1 x2 x5 (y 0) (y 1)
def pageBlk : Vec Ideal S4x512x128 .f32 := fun y => pageOf x0 x1 x3 x4 x6 (y 0) (y 1) (y 2)
def gateBlk : Vec Ideal S512x512 .f32 := fun y => gateOf x0 x1 x3 x4 x6 ⟨(y 1).val / 128, by have : (y 1).val < 512 := (y 1).isLt; omega⟩ (y 0) ⟨(y 1).val % 128, Nat.mod_lt _ (by decide)⟩

theorem gateBlk_of (h : Fin 4) (i : Fin 512) (d : Fin 128) (y : S512x512.Idx) (e0 : (y 0).val = i.val) (e1 : (y 1).val = 128 * h.val + d.val) :
    gateOf x0 x1 x3 x4 x6 h i d = gateBlk x0 x1 x3 x4 x6 y := by
  have hi : y 0 = i := Fin.ext e0
  have := d.isLt
  have hh : (⟨(y 1).val / 128, by have : (y 1).val < 512 := (y 1).isLt; omega⟩ : Fin 4) = h := Fin.ext (by show (y 1).val / 128 = h.val; omega)
  have hd : (⟨(y 1).val % 128, Nat.mod_lt _ (by decide)⟩ : Fin 128) = d := Fin.ext (by show (y 1).val % 128 = d.val; omega)
  unfold gateBlk
  rw [hi, hh, hd]

theorem pageBlk_of (h : Fin 4) (i : Fin 512) (d : Fin 128) (y : S4x512x128.Idx) (e0 : (y 0).val = h.val) (e1 : (y 1).val = i.val) (e2 : (y 2).val = d.val) :
    pageOf x0 x1 x3 x4 x6 h i d = pageBlk x0 x1 x3 x4 x6 y := by
  have hh : y 0 = h := Fin.ext e0
  have hi : y 1 = i := Fin.ext e1
  have hd : y 2 = d := Fin.ext e2
  unfold pageBlk
  rw [hi, hh, hd]

def headGains (d : Fin 128) : EReal := ((headGain x0 x1 x3 x4 0 d + headGain x0 x1 x3 x4 1 d) + headGain x0 x1 x3 x4 2 d) + headGain x0 x1 x3 x4 3 d

/-! ## What a point leaves -/

section cases
variable (c : Dev nD) (i : grid0.Coords) (a0 : Memref sig .tc .vmem S512x1024 .bf16) (h0 : a0.IsWhole) (a1 : Memref sig .tc .vmem S1024x1024 .bf16) (h1 : a1.IsWhole) (a2 : Memref sig .tc .vmem S512x512 .f32) (h2 : a2.IsWhole) (a3 : Memref sig .tc .vmem S4x512x128 .f32) (h3 : a3.IsWhole) (a4 : Memref sig .tc .vmem S512x512 .f32) (h4 : a4.IsWhole) (a5 : Memref sig .tc .vmem S1x512 .f32) (h5 : a5.IsWhole) (a6 : Memref sig .tc .vmem S1x128 .f32) (h6 : a6.IsWhole) (a7 : Memref sig .tc .vmem S512x512 .f32) (h7 : a7.IsWhole) (a8 : Memref sig .tc .vmem S4x512x128 .f32) (h8 : a8.IsWhole) (a9 : Memref sig .tc .vmem S512x512 .f32) (h9 : a9.IsWhole) (a10 : Memref sig .tc .vmem S1x512 .f32) (h10 : a10.IsWhole) (a11 : Memref sig .tc .vmem S1x128 .f32) (h11 : a11.IsWhole)

set_option maxHeartbeats 1000000 in
theorem out7_A (hc0 : cond0_0 i) : out0_A_7 c i a0 h0 a1 h1 a2 h2 a3 h3 a4 h4 a5 h5 a6 h6 a7 h7 a8 h8 a9 h9 a10 h10 a11 h11 hc0 x0 x1 x2 x3 x4 x5 x6 = leftBlk x0 x1 x2 x5 := by
  unfold out0_A_7
  rw [View.read_writes_eq_canon _ _ _ (cover0_A_7 c i a0 h0 a1 h1 a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_unit_zero zeros]
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  funext y
  exact (congrArg _ (eq_ix2 y)).trans (left_at x0 x1 x2 x5 (y 0) (y 1))

set_option maxHeartbeats 1000000 in
theorem out8_A (hc0 : cond0_0 i) : out0_A_8 c i a0 h0 a1 h1 a2 h2 a3 h3 a4 h4 a5 h5 a6 h6 a7 h7 a8 h8 a9 h9 a10 h10 a11 h11 hc0 x0 x1 x2 x3 x4 x5 x6 = pageBlk x0 x1 x3 x4 x6 := by
  unfold out0_A_8
  rw [View.read_writes_eq_canon _ _ _ (cover0_A_8 c i a0 h0 a1 h1 a2 h2 a3 h3 a4 h4 a5 h5 a6 h6 a7 h7 a8 h8 a9 h9 a10 h10 a11 h11 hc0 x0 x1 x2 x3 x4 x5 x6)]
  unfold kernelRun0_A
  dsimp only
  sl_unfold_words
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  funext y
  canon_tiles x hx
  · exact (congrArg _ (eq_ix3 x)).trans ((page3 x0 x1 x3 x4 x6 _ (x 0) (x 1) (x 2)).trans (pageBlk_of x0 x1 x3 x4 x6 3 _ _ y (by show (y 0).val = 3; omega) hx1 hx2))
  · exact (congrArg _ (eq_ix3 x)).trans ((page2 x0 x1 x3 x4 x6 _ (x 0) (x 1) (x 2)).trans (pageBlk_of x0 x1 x3 x4 x6 2 _ _ y (by show (y 0).val = 2; omega) hx1 hx2))
  · exact (congrArg _ (eq_ix3 x)).trans ((page1 x0 x1 x3 x4 x6 _ (x 0) (x 1) (x 2)).trans (pageBlk_of x0 x1 x3 x4 x6 1 _ _ y (by show (y 0).val = 1; omega) hx1 hx2))
  · exact (congrArg _ (eq_ix3 x)).trans ((page0 x0 x1 x3 x4 x6 _ (x 0) (x 1) (x 2)).trans (pageBlk_of x0 x1 x3 x4 x6 0 _ _ y (by show (y 0).val = 0; omega) hx1 hx2))

set_option maxHeartbeats 1000000 in
theorem out9_A (hc0 : cond0_0 i) : out0_A_9 c i a0 h0 a1 h1 a2 h2 a3 h3 a4 h4 a5 h5 a6 h6 a7 h7 a8 h8 a9 h9 a10 h10 a11 h11 hc0 x0 x1 x2 x3 x4 x5 x6 = gateBlk x0 x1 x3 x4 x6 := by
  unfold out0_A_9
  rw [View.read_writes_eq_canon _ _ _ (cover0_A_9 c i a0 h0 a1 h1 a2 h2 a3 h3 a4 h4 a5 h5 a6 h6 a7 h7 a8 h8 a9 h9 a10 h10 a11 h11 hc0 x0 x1 x2 x3 x4 x5 x6)]
  unfold kernelRun0_A
  dsimp only
  sl_unfold_words
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  funext y
  canon_tiles x hx
  · exact (congrArg _ (eq_ix2 x)).trans ((gate3 x0 x1 x3 x4 x6 _ (x 0) (x 1)).trans (gateBlk_of x0 x1 x3 x4 x6 3 _ _ y hx0 hx1))
  · exact (congrArg _ (eq_ix2 x)).trans ((gate2 x0 x1 x3 x4 x6 _ (x 0) (x 1)).trans (gateBlk_of x0 x1 x3 x4 x6 2 _ _ y hx0 hx1))
  · exact (congrArg _ (eq_ix2 x)).trans ((gate1 x0 x1 x3 x4 x6 _ (x 0) (x 1)).trans (gateBlk_of x0 x1 x3 x4 x6 1 _ _ y hx0 hx1))
  · exact (congrArg _ (eq_ix2 x)).trans ((gate0 x0 x1 x3 x4 x6 _ (x 0) (x 1)).trans (gateBlk_of x0 x1 x3 x4 x6 0 _ _ y hx0 (by show (y 1).val = 128 * 0 + (x 1).val; omega)))

set_option maxHeartbeats 1000000 in
theorem out10_A (hc0 : cond0_0 i) : out0_A_10 c i a0 h0 a1 h1 a2 h2 a3 h3 a4 h4 a5 h5 a6 h6 a7 h7 a8 h8 a9 h9 a10 h10 a11 h11 hc0 x0 x1 x2 x3 x4 x5 x6 = k0_pay11 x0 x1 x2 (k0_pay5 (F := Ideal)) := by
  unfold out0_A_10
  rw [View.read_writes_eq_canon _ _ _ (cover0_A_10 c i a0 h0 a1 h1 a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_cons_unit_zero (S := S1x512) zeros, View.readCov_unit_zero (S := S1x512) _ zeros]
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]

set_option maxHeartbeats 1000000 in
theorem out11_A (hc0 : cond0_0 i) (d : Fin 128) : out0_A_11 c i a0 h0 a1 h1 a2 h2 a3 h3 a4 h4 a5 h5 a6 h6 a7 h7 a8 h8 a9 h9 a10 h10 a11 h11 hc0 x0 x1 x2 x3 x4 x5 x6 (ix2 0 d) = k0_pay6 (F := Ideal) (ix2 0 d) + headGain x0 x1 x3 x4 0 d + headGain x0 x1 x3 x4 1 d + headGain x0 x1 x3 x4 2 d + headGain x0 x1 x3 x4 3 d := by
  unfold out0_A_11
  rw [View.read_writes_eq_canon _ _ _ (cover0_A_11 c i a0 h0 a1 h1 a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_cons_unit_zero (S := S1x128) zeros]
  repeat rw [read_last (S := S1x128) _ zeros]
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  refine (gain3 x0 x1 x3 x4 _ _ d).trans (congrArg (· + _) ?_)
  refine (gain2 x0 x1 x3 x4 _ _ d).trans (congrArg (· + _) ?_)
  refine (gain1 x0 x1 x3 x4 _ _ d).trans (congrArg (· + _) ?_)
  exact gain0 x0 x1 x3 x4 _ _ d

set_option maxHeartbeats 1000000 in
theorem out7_B (hc0 : ¬cond0_0 i) (q10 : Vec Ideal S1x512 .f32) (q11 : Vec Ideal S1x128 .f32) : out0_B_7 c i a0 h0 a1 h1 a2 h2 a3 h3 a4 h4 a5 h5 a6 h6 a7 h7 a8 h8 a9 h9 a10 h10 a11 h11 hc0 x0 x1 x2 x3 x4 x5 x6 q10 q11 = leftBlk x0 x1 x2 x5 := by
  unfold out0_B_7
  rw [View.read_writes_eq_canon _ _ _ (cover0_B_7 c i a0 h0 a1 h1 a2 h2 a3 h3 a4 h4 a5 h5 a6 h6 a7 h7 a8 h8 a9 h9 a10 h10 a11 h11 hc0 x0 x1 x2 x3 x4 x5 x6 q10 q11)]
  unfold kernelRun0_B
  dsimp only
  sl_unfold_words
  rw [View.canon_unit_zero zeros]
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  funext y
  exact (congrArg _ (eq_ix2 y)).trans (left_at x0 x1 x2 x5 (y 0) (y 1))

set_option maxHeartbeats 1000000 in
theorem out8_B (hc0 : ¬cond0_0 i) (q10 : Vec Ideal S1x512 .f32) (q11 : Vec Ideal S1x128 .f32) : out0_B_8 c i a0 h0 a1 h1 a2 h2 a3 h3 a4 h4 a5 h5 a6 h6 a7 h7 a8 h8 a9 h9 a10 h10 a11 h11 hc0 x0 x1 x2 x3 x4 x5 x6 q10 q11 = pageBlk x0 x1 x3 x4 x6 := by
  unfold out0_B_8
  rw [View.read_writes_eq_canon _ _ _ (cover0_B_8 c i a0 h0 a1 h1 a2 h2 a3 h3 a4 h4 a5 h5 a6 h6 a7 h7 a8 h8 a9 h9 a10 h10 a11 h11 hc0 x0 x1 x2 x3 x4 x5 x6 q10 q11)]
  unfold kernelRun0_B
  dsimp only
  sl_unfold_words
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  funext y
  canon_tiles x hx
  · exact (congrArg _ (eq_ix3 x)).trans ((page3 x0 x1 x3 x4 x6 _ (x 0) (x 1) (x 2)).trans (pageBlk_of x0 x1 x3 x4 x6 3 _ _ y (by show (y 0).val = 3; omega) hx1 hx2))
  · exact (congrArg _ (eq_ix3 x)).trans ((page2 x0 x1 x3 x4 x6 _ (x 0) (x 1) (x 2)).trans (pageBlk_of x0 x1 x3 x4 x6 2 _ _ y (by show (y 0).val = 2; omega) hx1 hx2))
  · exact (congrArg _ (eq_ix3 x)).trans ((page1 x0 x1 x3 x4 x6 _ (x 0) (x 1) (x 2)).trans (pageBlk_of x0 x1 x3 x4 x6 1 _ _ y (by show (y 0).val = 1; omega) hx1 hx2))
  · exact (congrArg _ (eq_ix3 x)).trans ((page0 x0 x1 x3 x4 x6 _ (x 0) (x 1) (x 2)).trans (pageBlk_of x0 x1 x3 x4 x6 0 _ _ y (by show (y 0).val = 0; omega) hx1 hx2))

set_option maxHeartbeats 1000000 in
theorem out9_B (hc0 : ¬cond0_0 i) (q10 : Vec Ideal S1x512 .f32) (q11 : Vec Ideal S1x128 .f32) : out0_B_9 c i a0 h0 a1 h1 a2 h2 a3 h3 a4 h4 a5 h5 a6 h6 a7 h7 a8 h8 a9 h9 a10 h10 a11 h11 hc0 x0 x1 x2 x3 x4 x5 x6 q10 q11 = gateBlk x0 x1 x3 x4 x6 := by
  unfold out0_B_9
  rw [View.read_writes_eq_canon _ _ _ (cover0_B_9 c i a0 h0 a1 h1 a2 h2 a3 h3 a4 h4 a5 h5 a6 h6 a7 h7 a8 h8 a9 h9 a10 h10 a11 h11 hc0 x0 x1 x2 x3 x4 x5 x6 q10 q11)]
  unfold kernelRun0_B
  dsimp only
  sl_unfold_words
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  funext y
  canon_tiles x hx
  · exact (congrArg _ (eq_ix2 x)).trans ((gate3 x0 x1 x3 x4 x6 _ (x 0) (x 1)).trans (gateBlk_of x0 x1 x3 x4 x6 3 _ _ y hx0 hx1))
  · exact (congrArg _ (eq_ix2 x)).trans ((gate2 x0 x1 x3 x4 x6 _ (x 0) (x 1)).trans (gateBlk_of x0 x1 x3 x4 x6 2 _ _ y hx0 hx1))
  · exact (congrArg _ (eq_ix2 x)).trans ((gate1 x0 x1 x3 x4 x6 _ (x 0) (x 1)).trans (gateBlk_of x0 x1 x3 x4 x6 1 _ _ y hx0 hx1))
  · exact (congrArg _ (eq_ix2 x)).trans ((gate0 x0 x1 x3 x4 x6 _ (x 0) (x 1)).trans (gateBlk_of x0 x1 x3 x4 x6 0 _ _ y hx0 (by show (y 1).val = 128 * 0 + (x 1).val; omega)))

set_option maxHeartbeats 1000000 in
theorem out10_B (hc0 : ¬cond0_0 i) (q10 : Vec Ideal S1x512 .f32) (q11 : Vec Ideal S1x128 .f32) : out0_B_10 c i a0 h0 a1 h1 a2 h2 a3 h3 a4 h4 a5 h5 a6 h6 a7 h7 a8 h8 a9 h9 a10 h10 a11 h11 hc0 x0 x1 x2 x3 x4 x5 x6 q10 q11 = k0_pay11 x0 x1 x2 q10 := by
  unfold out0_B_10
  rw [View.read_writes_eq_canon _ _ _ (cover0_B_10 c i a0 h0 a1 h1 a2 h2 a3 h3 a4 h4 a5 h5 a6 h6 a7 h7 a8 h8 a9 h9 a10 h10 a11 h11 hc0 x0 x1 x2 x3 x4 x5 x6 q10 q11)]
  unfold kernelRun0_B
  dsimp only
  sl_unfold_words
  rw [View.canon_unit_zero (S := S1x512) zeros]
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]

set_option maxHeartbeats 1000000 in
theorem out11_B (hc0 : ¬cond0_0 i) (q10 : Vec Ideal S1x512 .f32) (q11 : Vec Ideal S1x128 .f32) (d : Fin 128) : out0_B_11 c i a0 h0 a1 h1 a2 h2 a3 h3 a4 h4 a5 h5 a6 h6 a7 h7 a8 h8 a9 h9 a10 h10 a11 h11 hc0 x0 x1 x2 x3 x4 x5 x6 q10 q11 (ix2 0 d) = q11 (ix2 0 d) + headGain x0 x1 x3 x4 0 d + headGain x0 x1 x3 x4 1 d + headGain x0 x1 x3 x4 2 d + headGain x0 x1 x3 x4 3 d := by
  unfold out0_B_11
  rw [View.read_writes_eq_canon _ _ _ (cover0_B_11 c i a0 h0 a1 h1 a2 h2 a3 h3 a4 h4 a5 h5 a6 h6 a7 h7 a8 h8 a9 h9 a10 h10 a11 h11 hc0 x0 x1 x2 x3 x4 x5 x6 q10 q11)]
  unfold kernelRun0_B
  dsimp only
  sl_unfold_words
  rw [View.canon_cons_unit_zero (S := S1x128) zeros]
  repeat rw [read_last (S := S1x128) _ zeros]
  simp only [View.readAt_eq_ld, h0.read_unread, h1.read_unread, h2.read_unread, h3.read_unread, h4.read_unread, h5.read_unread, h6.read_unread, h10.read_unread, h11.read_unread, View.ld_unit_zero (S := S512x1024) zeros, View.ld_unit_zero (S := S1024x1024) zeros, View.ld_unit_zero (S := S512x512) zeros, View.ld_unit_zero (S := S1x512) zeros, View.ld_unit_zero (S := S1x128) zeros]
  refine (gain3 x0 x1 x3 x4 _ _ d).trans (congrArg (· + _) ?_)
  refine (gain2 x0 x1 x3 x4 _ _ d).trans (congrArg (· + _) ?_)
  refine (gain1 x0 x1 x3 x4 _ _ d).trans (congrArg (· + _) ?_)
  exact gain0 x0 x1 x3 x4 _ _ d

end cases
end point

end Cert.BackBlock

end

end
-- ==== Proof.Mix.BackRef.lean ====
module

public import proofs.«01_k».proof.Proof.Mix.Spec
public import proofs.«01_k».proof.Proof.Gen.Reference7Ideal
public import proofs.«01_k».proof.Proof.Gen.Reference7Ideal.Run
public import proofs.«01_k».proof.Proof.Gen.Reference7Ideal.Read
public import Idealize.ShloMosaic.Lib.ValueIdx

/-! The gradient of the mix of the two branches, as the reference writes it: each result at an index. -/

@[expose] public section

set_option maxRecDepth 16384

noncomputable section

namespace Cert.BackRef

open Cert.Reference7Ideal Cert.Reference7Ideal.Read
open Idealize.ShloMosaic Idealize.ShloMosaic.ValueIdx
open Cert.Norm
open Cert.Ffn.Spec (Real' real_mul real_sum one)
open scoped BigOperators

/-- A sum over the two leading axes of three. -/
theorem two_axes {A B N : ℕ} (h : (⟨3, ![A, B, N]⟩ : Shape).ReducesTo [0, 1] ⟨1, ![N]⟩) (x : (⟨3, ![A, B, N]⟩ : Shape).Idx → EReal) (init : EReal) (j : Fin N) :
    Ideal.hostReduceAdd h x init (ix1 j) = init + ∑ a : Fin A, ∑ b : Fin B, x (ix3 a b j) := by
  refine congrArg (init + ·) ?_
  rw [← Fintype.sum_prod_type' (f := fun a b => x (ix3 a b j))]
  have hd : ∀ i : (⟨3, ![A, B, N]⟩ : Shape).Idx, (h.drop i 0 : ℕ) = (i 2).val := fun i => h.drop_apply_val_of_eq i 0 2 (show 0 < 1 from Nat.zero_lt_one) rfl
  refine (Finset.sum_bij (fun p _ => ix3 p.1 p.2 j) (fun p _ => ?_) (fun p _ q _ hpq => ?_) (fun i hi => ?_) fun p _ => rfl).symm
  · refine Finset.mem_filter.mpr ⟨Finset.mem_univ _, funext fun b => Fin.ext ?_⟩
    match b with
    | ⟨0, _⟩ => exact hd _
  · exact Prod.ext (congrFun hpq 0) (congrFun hpq 1)
  · refine ⟨(i 0, i 1), Finset.mem_univ _, (congrArg (fun k => ix3 (i 0) (i 1) k) (Fin.ext ?_)).trans (eq_ix3 i).symm⟩
    have := (Finset.mem_filter.mp hi).2
    exact (congrArg (fun y : (⟨1, ![N]⟩ : Shape).Idx => (y 0 : ℕ)) this).symm.trans (hd i)

section
variable (x0 : (⟨S16384x1024, .f32⟩ : BufTy).Contents (Elt Ideal)) (x1 : (⟨S1024x1024, .f32⟩ : BufTy).Contents (Elt Ideal))
  (x2 : (⟨S16384x512, .f32⟩ : BufTy).Contents (Elt Ideal)) (x3 : (⟨S4x16384x128, .f32⟩ : BufTy).Contents (Elt Ideal))
  (x4 : (⟨S16384x512, .f32⟩ : BufTy).Contents (Elt Ideal)) (x5 : (⟨S1x512, .f32⟩ : BufTy).Contents (Elt Ideal))
  (x6 : (⟨S1x128, .f32⟩ : BufTy).Contents (Elt Ideal))

/-- The gradient with respect to the joined rows. -/
def dmix (n : Fin 16384) (q : Fin 1024) : EReal := ∑ k : Fin 1024, x0 (ix2 n k) * x1 (ix2 q k)
/-- The first part's rows, times the gain. -/
def dgain (n : Fin 16384) (j : Fin 512) : EReal := dmix x0 x1 n (left j) * x5 (ix2 0 j)
/-- The gradient with respect to a head, before the gate. -/
def dhead (n : Fin 16384) (h : Fin 4) (d : Fin 128) : EReal := dmix x0 x1 n (right (head h d)) * silu (x4 (ix2 n (head h d)))

theorem dmix_at (n : Fin 16384) (q : Fin 1024) : val_main_v41 (F := Ideal) x0 x1 (ix2 n q) = dmix x0 x1 n q := by
  rw [val_main_v41_apply]
  refine Finset.sum_congr rfl fun k _ => ?_
  rw [eq_ix2 (lidx_main_v41 _ k), eq_ix2 (ridx_main_v41 _ k)]; rfl

theorem left_at (n : Fin 16384) (j : Fin 512) : val_main_v42 (F := Ideal) x0 x1 (ix2 n j) = dmix x0 x1 n (left j) := by
  rw [val_main_v42_apply]
  refine (congrArg (val_main_v41 (F := Ideal) x0 x1) (funext fun a => Fin.ext ?_)).trans (dmix_at x0 x1 n (left j))
  match a with
  | ⟨0, _⟩ => first | rfl | exact Nat.zero_add _
  | ⟨1, _⟩ => first | rfl | exact Nat.zero_add _

theorem right_at (n : Fin 16384) (h : Fin 4) (d : Fin 128) : val_main_v44 (F := Ideal) x0 x1 (ix3 n h d) = dmix x0 x1 n (right (head h d)) := by
  rw [val_main_v44_apply, val_main_v43_apply]
  refine (congrArg (val_main_v41 (F := Ideal) x0 x1) (funext fun a => Fin.ext ?_)).trans (dmix_at x0 x1 n (right (head h d)))
  have := h.isLt
  have := d.isLt
  match a with
  | ⟨0, _⟩ => show ((n.val * 4 + h.val) * 128 + d.val) / 512 = n.val; omega
  | ⟨1, _⟩ => show 512 + ((n.val * 4 + h.val) * 128 + d.val) % 512 = 512 + (128 * h.val + d.val); omega

/-! The first part. -/

theorem ms (n : Fin 16384) (z : Fin 1) : val_main_v7 (F := Ideal) x2 (ix2 n z) = meanSq w512 (fun k => x2 (ix2 n k)) := by
  rw [val_main_v7_apply, val_main_v5_apply, val_main_v3_apply, val_main_v2_apply, val_main_v4_apply, val_main_v6_apply]
  rw [show val_main_cst (F := Ideal) _ = 0 from Ideal.ofBits_zero_f32, zero_add]
  refine congrArg (fun s => Ideal.div s _ + _) (Finset.sum_congr rfl fun k _ => ?_)
  rw [val_main_v1_apply, eq_ix2 (idx_main_v2 _ k)]; rfl

theorem sc (n : Fin 16384) (z : Fin 1) : val_main_v8 (F := Ideal) x2 (ix2 n z) = scale w512 (fun k => x2 (ix2 n k)) := by
  rw [val_main_v8_apply, ms]; rfl

theorem nrm (n : Fin 16384) (j : Fin 512) : val_main_v13 (F := Ideal) x2 (ix2 n j) = normed w512 (fun k => x2 (ix2 n k)) j := by
  rw [val_main_v13_apply, val_main_v12_apply, eq_ix2 (idx_main_v12 _)]
  exact congrArg (x2 (ix2 n j) * ·) (sc x2 n _)

theorem slope (n : Fin 16384) (z : Fin 1) : val_main_v11 (F := Ideal) x2 (ix2 n z)
    = Ideal.ofBits .f32 0xBF000000#32 * Ideal.div (scale w512 (fun k => x2 (ix2 n k))) (meanSq w512 (fun k => x2 (ix2 n k))) := by
  rw [val_main_v11_apply, val_main_v9_apply, sc, ms]; rfl

theorem gain (n : Fin 16384) (j : Fin 512) : val_main_v75 (F := Ideal) x0 x1 x5 (ix2 n j) = dgain x0 x1 x5 n j := by
  rw [val_main_v75_apply, left_at, val_main_v74_apply, val_main_v14_apply, val_main_v0_apply]
  refine congrArg (dmix x0 x1 n (left j) * ·) (congrArg x5 (funext fun a => Fin.ext ?_))
  match a with
  | ⟨0, _⟩ => rfl
  | ⟨1, _⟩ => exact Nat.mod_eq_of_lt j.isLt

theorem dot (n : Fin 16384) (z : Fin 1) : val_main_v79 (F := Ideal) x0 x1 x2 x5 (ix2 n z) = ∑ k : Fin 512, x2 (ix2 n k) * dgain x0 x1 x5 n k := by
  rw [val_main_v79_apply, val_main_v78_apply]
  rw [show val_main_cst_14 (F := Ideal) _ = 0 from Ideal.ofBits_zero_f32, zero_add]
  refine Finset.sum_congr rfl fun k _ => ?_
  have e : idx_main_v78 (idx_main_v79 (ix2 n z)) k = ix2 n k := by
    rw [eq_ix2 (idx_main_v78 _ k)]
    refine congrArg (fun a => ix2 a k) (Fin.ext ?_)
    have := z.isLt
    first | rfl | (simp [idx_main_v78, idx_main_v79]; done) | (show n.val * 1 + z.val = n.val; omega)
  rw [e, val_main_v77_apply, gain]; rfl

theorem ratio (n : Fin 16384) (z : Fin 1) : val_main_v84 (F := Ideal) x0 x1 x2 x5 (ix2 n z)
    = Ideal.div ((∑ k : Fin 512, x2 (ix2 n k) * dgain x0 x1 x5 n k)
      * (Ideal.ofBits .f32 0xBF000000#32 * Ideal.div (scale w512 (fun k => x2 (ix2 n k))) (meanSq w512 (fun k => x2 (ix2 n k))))) w512 := by
  rw [val_main_v84_apply, val_main_v82_apply, dot, slope, val_main_v83_apply]; rfl

theorem sc_wide (n : Fin 16384) (j : Fin 512) : val_main_v80 (F := Ideal) x2 (ix2 n j) = scale w512 (fun k => x2 (ix2 n k)) := by
  rw [val_main_v80_apply]
  exact (congrArg (val_main_v8 (F := Ideal) x2) (eq_ix2 (idx_main_v80 _))).trans (sc x2 n _)

theorem first_back (hx : ∀ n k, Real' (x2 (ix2 n k))) (hd : ∀ n k, Real' (dgain x0 x1 x5 n k)) (n : Fin 16384) (j : Fin 512) :
    val_main_v90 (F := Ideal) x0 x1 x2 x5 (ix2 n j) = back w512 (fun k => x2 (ix2 n k)) (dgain x0 x1 x5 n) j := by
  rw [val_main_v90_apply, val_main_v89_apply, val_main_v88_apply, val_main_v87_apply, val_main_v81_apply, gain, sc_wide]
  refine back_textbook pos512 (hx n) (hd n) j (val_main_v86 (F := Ideal) x0 x1 x2 x5 (ix2 n j)) ?_
  rw [val_main_v86_apply, val_main_v85_apply]
  rw [show val_main_cst_16 (F := Ideal) _ = 0 from Ideal.ofBits_zero_f32, zero_add, Fin.sum_univ_one]
  exact (congrArg (val_main_v84 (F := Ideal) x0 x1 x2 x5) (eq_ix2 (idx_main_v85 _ 0))).trans (ratio x0 x1 x2 x5 n _)

theorem first_gain (z : Fin 1) (j : Fin 512) : val_main_v91 (F := Ideal) x0 x1 x2 (ix2 z j)
    = ∑ n : Fin 16384, dmix x0 x1 n (left j) * normed w512 (fun k => x2 (ix2 n k)) j := by
  rw [val_main_v91_apply, val_main_v76_apply]
  rw [show val_main_cst_13 (F := Ideal) _ = 0 from Ideal.ofBits_zero_f32, zero_add, Fin.sum_univ_one, val_main_v73_apply, val_main_v72_apply]
  rw [show val_main_cst_12 (F := Ideal) _ = 0 from Ideal.ofBits_zero_f32, zero_add]
  refine Finset.sum_congr rfl fun n _ => ?_
  have e : idx_main_v72 (idx_main_v73 (idx_main_v76 (idx_main_v91 (ix2 z j)) 0)) n = ix2 n j := by
    rw [eq_ix2 (idx_main_v72 _ n)]
    refine congrArg (fun a => ix2 n a) (Fin.ext ?_)
    first | rfl | (simp [idx_main_v72, idx_main_v73, idx_main_v76, idx_main_v91]; done) | exact Nat.mod_eq_of_lt j.isLt
  rw [e, val_main_v71_apply, nrm, left_at]
  exact mul_comm _ _

/-! The heads. -/

theorem o_at (n : Fin 16384) (h : Fin 4) (d : Fin 128) : val_main_v17 (F := Ideal) x3 (ix3 n h d) = x3 (ix3 h n d) := by
  rw [val_main_v17_apply, eq_ix3 (idx_main_v17 _)]; rfl

theorem z_at (n : Fin 16384) (h : Fin 4) (d : Fin 128) : val_main_v35 (F := Ideal) x4 (ix3 n h d) = x4 (ix2 n (head h d)) := by
  rw [val_main_v35_apply]
  refine congrArg x4 (funext fun a => Fin.ext ?_)
  have := h.isLt
  have := d.isLt
  match a with
  | ⟨0, _⟩ => show ((n.val * 4 + h.val) * 128 + d.val) / 512 = n.val; omega
  | ⟨1, _⟩ => show ((n.val * 4 + h.val) * 128 + d.val) % 512 = 128 * h.val + d.val; omega

theorem ms' (n : Fin 16384) (h : Fin 4) (z : Fin 1) : val_main_v25 (F := Ideal) x3 (ix3 n h z) = meanSq w128 (fun k => x3 (ix3 h n k)) := by
  rw [val_main_v25_apply, val_main_v23_apply, val_main_v21_apply, val_main_v20_apply, val_main_v22_apply, val_main_v24_apply]
  rw [show val_main_cst_3 (F := Ideal) _ = 0 from Ideal.ofBits_zero_f32, zero_add]
  refine congrArg (fun s => Ideal.div s _ + _) (Finset.sum_congr rfl fun k _ => ?_)
  rw [val_main_v19_apply, val_main_v17_apply, eq_ix3 (idx_main_v17 _)]; rfl

theorem sc' (n : Fin 16384) (h : Fin 4) (z : Fin 1) : val_main_v26 (F := Ideal) x3 (ix3 n h z) = scale w128 (fun k => x3 (ix3 h n k)) := by
  rw [val_main_v26_apply, ms']; rfl

theorem nrm' (n : Fin 16384) (h : Fin 4) (d : Fin 128) : val_main_v31 (F := Ideal) x3 (ix3 n h d) = normed w128 (fun k => x3 (ix3 h n k)) d := by
  rw [val_main_v31_apply, val_main_v30_apply, eq_ix3 (idx_main_v30 _), o_at]
  exact congrArg (x3 (ix3 h n d) * ·) (sc' x3 n h _)

theorem slope' (n : Fin 16384) (h : Fin 4) (z : Fin 1) : val_main_v29 (F := Ideal) x3 (ix3 n h z)
    = Ideal.ofBits .f32 0xBF000000#32 * Ideal.div (scale w128 (fun k => x3 (ix3 h n k))) (meanSq w128 (fun k => x3 (ix3 h n k))) := by
  rw [val_main_v29_apply, val_main_v27_apply, sc', ms']; rfl

theorem g_at (n : Fin 16384) (h : Fin 4) (d : Fin 128) : val_main_v33 (F := Ideal) x6 (ix3 n h d) = x6 (ix2 0 d) := by
  rw [val_main_v33_apply, val_main_v32_apply, val_main_v18_apply]
  refine congrArg x6 (funext fun a => Fin.ext ?_)
  match a with
  | ⟨0, _⟩ => rfl
  | ⟨1, _⟩ => exact Nat.mod_eq_of_lt d.isLt

theorem g_at' (n : Fin 16384) (h : Fin 4) (d : Fin 128) : val_main_v52 (F := Ideal) x6 (ix3 n h d) = x6 (ix2 0 d) := by
  rw [val_main_v52_apply, val_main_v32_apply, val_main_v18_apply]
  refine congrArg x6 (funext fun a => Fin.ext ?_)
  match a with
  | ⟨0, _⟩ => rfl
  | ⟨1, _⟩ => exact Nat.mod_eq_of_lt d.isLt

theorem sg_ref (n : Fin 16384) (h : Fin 4) (d : Fin 128) : val_main_v36_2 (F := Ideal) x4 (ix3 n h d) = sg (x4 (ix2 n (head h d))) := by
  rw [val_main_v36_2_apply, val_main_call0_v3_apply, val_main_call0_v1_apply, val_main_call0_v0_apply, z_at, val_main_call0_v2_apply, val_main_call0_v4_apply]; rfl

theorem dhead_at (n : Fin 16384) (h : Fin 4) (d : Fin 128) : val_main_v46 (F := Ideal) x0 x1 x4 (ix3 n h d) = dhead x0 x1 x4 n h d := by
  rw [val_main_v46_apply, right_at, val_main_v36_0_apply, z_at, sg_ref]; rfl

theorem third_gate (hz : ∀ n k, Real' (x4 (ix2 n k))) (hd : ∀ n q, Real' (dmix x0 x1 n q)) (ho : ∀ h n d, Real' (x3 (ix3 h n d))) (hg : ∀ d, Real' (x6 (ix2 0 d)))
    (n : Fin 16384) (h : Fin 4) (d : Fin 128) : val_main_v48 (F := Ideal) x0 x1 x3 x4 x6 (ix2 n (head h d))
      = (dmix x0 x1 n (right (head h d)) * (normed w128 (fun k => x3 (ix3 h n k)) d * x6 (ix2 0 d))) * dsilu (x4 (ix2 n (head h d))) := by
  have e : idx_main_v48 (ix2 n (head h d)) = ix3 n h d := by
    refine funext fun a => Fin.ext ?_
    have := h.isLt
    have := d.isLt
    match a with
    | ⟨0, _⟩ => show (n.val * 512 + (128 * h.val + d.val)) / 512 = n.val; omega
    | ⟨1, _⟩ => show (n.val * 512 + (128 * h.val + d.val)) / 128 % 4 = h.val; omega
    | ⟨2, _⟩ => show (n.val * 512 + (128 * h.val + d.val)) % 128 = d.val; omega
  have e45 : val_main_v45 (F := Ideal) x0 x1 x3 x6 (ix3 n h d) = (normed w128 (fun k => x3 (ix3 h n k)) d * x6 (ix2 0 d)) * dmix x0 x1 n (right (head h d)) := by
    rw [val_main_v45_apply, val_main_v34_apply, nrm', g_at, right_at]; rfl
  rw [val_main_v48_apply, e, val_main_v47_apply, val_main_call1_v1_apply, val_main_call1_v2_apply, val_main_call1_v0_apply, z_at, e45, val_main_v36_1_apply,
    val_main_call0_v7_apply, val_main_call0_v6_apply, sg_ref]
  refine (dsilu_textbook (hz n _) (real_mul (real_mul (real_normed pos128 (ho h n) d) (hg d)) (hd n _))).trans ?_
  rw [mul_comm (dmix x0 x1 n _)]

theorem dgain_at' (n : Fin 16384) (h : Fin 4) (d : Fin 128) : val_main_v53 (F := Ideal) x0 x1 x4 x6 (ix3 n h d) = dhead x0 x1 x4 n h d * x6 (ix2 0 d) := by
  rw [val_main_v53_apply, dhead_at, g_at']; rfl

theorem dot' (n : Fin 16384) (h : Fin 4) (z : Fin 1) : val_main_v57 (F := Ideal) x0 x1 x3 x4 x6 (ix3 n h z)
    = ∑ k : Fin 128, x3 (ix3 h n k) * (dhead x0 x1 x4 n h k * x6 (ix2 0 k)) := by
  rw [val_main_v57_apply, val_main_v56_apply]
  rw [show val_main_cst_9 (F := Ideal) _ = 0 from Ideal.ofBits_zero_f32, zero_add]
  refine Finset.sum_congr rfl fun k _ => ?_
  have e : idx_main_v56 (idx_main_v57 (ix3 n h z)) k = ix3 n h k := by
    have := z.isLt
    have := h.isLt
    refine funext fun a => Fin.ext ?_
    match a with
    | ⟨0, _⟩ => show ((n.val * 4 + h.val) * 1 + z.val) / 4 = n.val; omega
    | ⟨1, _⟩ => show ((n.val * 4 + h.val) * 1 + z.val) % 4 = h.val; omega
    | ⟨2, _⟩ => rfl
  rw [e, val_main_v55_apply, dgain_at', o_at]; rfl

theorem ratio' (n : Fin 16384) (h : Fin 4) (z : Fin 1) : val_main_v62 (F := Ideal) x0 x1 x3 x4 x6 (ix3 n h z)
    = Ideal.div ((∑ k : Fin 128, x3 (ix3 h n k) * (dhead x0 x1 x4 n h k * x6 (ix2 0 k)))
      * (Ideal.ofBits .f32 0xBF000000#32 * Ideal.div (scale w128 (fun k => x3 (ix3 h n k))) (meanSq w128 (fun k => x3 (ix3 h n k))))) w128 := by
  rw [val_main_v62_apply, val_main_v60_apply, dot', slope', val_main_v61_apply]; rfl

theorem sc_wide' (n : Fin 16384) (h : Fin 4) (d : Fin 128) : val_main_v58 (F := Ideal) x3 (ix3 n h d) = scale w128 (fun k => x3 (ix3 h n k)) := by
  rw [val_main_v58_apply]
  exact (congrArg (val_main_v26 (F := Ideal) x3) (eq_ix3 (idx_main_v58 _))).trans (sc' x3 n h _)

theorem second_back (hx : ∀ h n k, Real' (x3 (ix3 h n k))) (hd : ∀ n h k, Real' (dhead x0 x1 x4 n h k * x6 (ix2 0 k))) (h : Fin 4) (n : Fin 16384) (d : Fin 128) :
    val_main_v70 (F := Ideal) x0 x1 x3 x4 x6 (ix3 h n d)
      = back w128 (fun k => x3 (ix3 h n k)) (fun k => dhead x0 x1 x4 n h k * x6 (ix2 0 k)) d := by
  have e : idx_main_v70 (ix3 h n d) = ix3 n h d := (eq_ix3 (idx_main_v70 (ix3 h n d))).trans rfl
  rw [val_main_v70_apply, e, val_main_v68_apply, val_main_v67_apply, val_main_v66_apply, val_main_v65_apply, val_main_v59_apply, dgain_at', o_at, sc_wide']
  refine back_textbook pos128 (hx h n) (hd n h) d (val_main_v64 (F := Ideal) x0 x1 x3 x4 x6 (ix3 n h d)) ?_
  rw [val_main_v64_apply, val_main_v63_apply]
  rw [show val_main_cst_11 (F := Ideal) _ = 0 from Ideal.ofBits_zero_f32, zero_add, Fin.sum_univ_one]
  exact (congrArg (val_main_v62 (F := Ideal) x0 x1 x3 x4 x6) (eq_ix3 (idx_main_v63 _ 0))).trans (ratio' x0 x1 x3 x4 x6 n h _)

theorem second_gain (z : Fin 1) (d : Fin 128) : val_main_v69 (F := Ideal) x0 x1 x3 x4 (ix2 z d)
    = ∑ n : Fin 16384, ∑ h : Fin 4, dhead x0 x1 x4 n h d * normed w128 (fun k => x3 (ix3 h n k)) d := by
  have e50 : ∀ d : Fin 128, val_main_v50 (F := Ideal) x0 x1 x3 x4 (ix1 d) = ∑ n : Fin 16384, ∑ h : Fin 4, dhead x0 x1 x4 n h d * normed w128 (fun k => x3 (ix3 h n k)) d := fun d => by
    unfold val_main_v50
    refine (two_axes _ _ _ d).trans ?_
    rw [show val_main_cst_7 (F := Ideal) _ = 0 from Ideal.ofBits_zero_f32, zero_add]
    refine Finset.sum_congr rfl fun n _ => Finset.sum_congr rfl fun h _ => ?_
    rw [val_main_v49_apply, nrm', dhead_at]
    exact mul_comm _ _
  have e54 : val_main_v54 (F := Ideal) x0 x1 x3 x4 (ix1 d) = val_main_v50 (F := Ideal) x0 x1 x3 x4 (ix1 d) := by
    unfold val_main_v54
    refine (two_axes _ _ _ d).trans ?_
    rw [show val_main_cst_8 (F := Ideal) _ = 0 from Ideal.ofBits_zero_f32, zero_add, Fin.sum_univ_one, Fin.sum_univ_one, val_main_v51_apply]
    refine congrArg (val_main_v50 (F := Ideal) x0 x1 x3 x4) (funext fun a => Fin.ext ?_)
    match a with
    | ⟨0, _⟩ => first | rfl | exact Nat.mod_eq_of_lt d.isLt | (simp [idx_main_v51]; done)
  rw [val_main_v69_apply, ← e50 d, ← e54]
  refine congrArg (val_main_v54 (F := Ideal) x0 x1 x3 x4) (funext fun a => Fin.ext ?_)
  match a with
  | ⟨0, _⟩ => rfl

end

end Cert.BackRef

end

end
-- ==== Proof.Mix.Back.lean ====
module

public import proofs.«01_k».proof.Defs
public import proofs.«01_k».proof.Proof.Mix.Rows
public import proofs.«01_k».proof.Proof.Mix.BackBlock
public import proofs.«01_k».proof.Proof.Mix.BackRef
public import proofs.«01_k».proof.Proof.Gen.Kernel7
public import proofs.«01_k».proof.Proof.Gen.Kernel7Ideal.Value
public import proofs.«01_k».proof.Proof.Gen.Pre_finite7
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Ring
public import Idealize.ShloMosaic.Adequacy
public import Idealize.ShloMosaic.Init

/-! The gradients of the mix of the two branches: the blocks of all the points together are the reference. -/

@[expose] public section

set_option maxRecDepth 16384

noncomputable section

namespace Cert.Back

open Cert.Kernel7Ideal Cert.Kernel7Ideal.Gen
open Idealize.ShloMosaic
open Idealize.ShloMosaic.TcCoe Idealize.ShloMosaic.ValueIdx
open Idealize.ShloMosaic.Tactic
open Idealize.ShloMosaic.Pipeline (Dat Cfg Window)
open Cert.Norm Cert.BackBlock Cert.Rows
open Cert.Ffn.Spec (Real' real_add real_mul real_sum)
open scoped BigOperators

/-! ## The blocks -/

section
variable (m : (ℓ : Loc nD τ sig) → Buf (Elt Ideal) ℓ) (c : Dev nD)

def A0 : (⟨S16384x1024, .f32⟩ : BufTy).Contents (Elt Ideal) := m ((c : Thread nD τ).loc main_arg0)
def A1 : (⟨S1024x1024, .f32⟩ : BufTy).Contents (Elt Ideal) := m ((c : Thread nD τ).loc main_arg1)
def A2 : (⟨S16384x512, .f32⟩ : BufTy).Contents (Elt Ideal) := m ((c : Thread nD τ).loc main_arg2)
def A3 : (⟨S4x16384x128, .f32⟩ : BufTy).Contents (Elt Ideal) := m ((c : Thread nD τ).loc main_arg3)
def A4 : (⟨S16384x512, .f32⟩ : BufTy).Contents (Elt Ideal) := m ((c : Thread nD τ).loc main_arg4)
def A5 : (⟨S1x512, .f32⟩ : BufTy).Contents (Elt Ideal) := m ((c : Thread nD τ).loc main_arg5)
def A6 : (⟨S1x128, .f32⟩ : BufTy).Contents (Elt Ideal) := m ((c : Thread nD τ).loc main_arg6)

theorem points : cfg0.N = 32 := N_0

/-- Row `i` of the point's block, in the array. -/
def at' (t : Fin cfg0.N) (i : Fin 512) : Fin 16384 := ⟨512 * t.val + i.val, by
  have := lt_of_lt_of_eq t.isLt points; have := i.isLt; omega⟩

theorem row_eq (t : Fin cfg0.N) (i : Fin 512) : row t.val i = at' t i := by
  have := lt_of_lt_of_eq t.isLt points
  have := i.isLt
  refine Fin.ext ?_
  show (512 * t.val + i.val) % 16384 = 512 * t.val + i.val
  omega

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![0, t.val, 0] := (by decide +kernel : ∀ t : Fin grid0.N, win0_3.index t = ![0, t.val, 0])
theorem e4 : ∀ t : Fin cfg0.N, win0_4.index t = ![t.val, 0] := (by decide +kernel : ∀ t : Fin grid0.N, win0_4.index t = ![t.val, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])
theorem e8 : ∀ t : Fin cfg0.N, win0_8.index t = ![0, t.val, 0] := (by decide +kernel : ∀ t : Fin grid0.N, win0_8.index t = ![0, t.val, 0])
theorem e9 : ∀ t : Fin cfg0.N, win0_9.index t = ![t.val, 0] := (by decide +kernel : ∀ t : Fin grid0.N, win0_9.index t = ![t.val, 0])

theorem V_dx : V m c main_v0 = (truncf .bf16 (φ := .f32) (A0 m c) bitsLt_bf16_f32 : FVec Ideal S16384x1024 .bf16) := by
  simp only [V, hostOps0]; after_results_simp <;> rfl
theorem V_w : V m c main_v1 = (truncf .bf16 (φ := .f32) (A1 m c) bitsLt_bf16_f32 : FVec Ideal S1024x1024 .bf16) := by
  simp only [V, hostOps0]; after_results_simp <;> rfl

def b0 (t : Fin cfg0.N) : Vec Ideal S512x1024 .bf16 := iblk m c 0 t
def b1 (t : Fin cfg0.N) : Vec Ideal S1024x1024 .bf16 := iblk m c 1 t
def b2 (t : Fin cfg0.N) : Vec Ideal S512x512 .f32 := iblk m c 2 t
def b3 (t : Fin cfg0.N) : Vec Ideal S4x512x128 .f32 := iblk m c 3 t
def b4 (t : Fin cfg0.N) : Vec Ideal S512x512 .f32 := iblk m c 4 t
def b5 (t : Fin cfg0.N) : Vec Ideal S1x512 .f32 := iblk m c 5 t
def b6 (t : Fin cfg0.N) : Vec Ideal S1x128 .f32 := iblk m c 6 t

theorem b0_at (t : Fin cfg0.N) (i : Fin 512) (k : Fin 1024) : b0 m c t (ix2 i k) = A0 m c (ix2 (at' t i) k) := by
  show iblk m c 0 t (ix2 i k) = _
  blk_simp [iblk]
  refine (congrFun (V_dx m c) _).trans (congrArg (A0 m c) ?_)
  unfold at'; blk_ext [e0]
  exact congrArg (· + i.val) (Nat.mul_comm _ _)
theorem b1_at (t : Fin cfg0.N) (i : Fin 1024) (k : Fin 1024) : b1 m c t (ix2 i k) = A1 m c (ix2 i k) := by
  show iblk m c 1 t (ix2 i k) = _
  blk_simp [iblk]
  refine (congrFun (V_w m c) _).trans (congrArg (A1 m c) ?_)
  blk_ext [e1]
theorem b2_at (t : Fin cfg0.N) (i : Fin 512) (k : Fin 512) : b2 m c t (ix2 i k) = A2 m c (ix2 (at' t i) k) := by
  show iblk m c 2 t (ix2 i k) = _
  blk_simp [iblk]
  refine (congrFun (V_main_arg2 m c) _).trans (congrArg (A2 m c) ?_)
  unfold at'; blk_ext [e2]
  exact congrArg (· + i.val) (Nat.mul_comm _ _)
theorem b3_at (t : Fin cfg0.N) (h : Fin 4) (i : Fin 512) (d : Fin 128) : b3 m c t (ix3 h i d) = A3 m c (ix3 h (at' t i) d) := by
  show iblk m c 3 t (ix3 h i d) = _
  blk_simp [iblk]
  refine (congrFun (V_main_arg3 m c) _).trans (congrArg (A3 m c) ?_)
  unfold at'; blk_ext [e3]
  exact congrArg (· + i.val) (Nat.mul_comm _ _)
theorem b4_at (t : Fin cfg0.N) (i : Fin 512) (k : Fin 512) : b4 m c t (ix2 i k) = A4 m c (ix2 (at' t i) k) := by
  show iblk m c 4 t (ix2 i k) = _
  blk_simp [iblk]
  refine (congrFun (V_main_arg4 m c) _).trans (congrArg (A4 m c) ?_)
  unfold at'; blk_ext [e4]
  exact congrArg (· + i.val) (Nat.mul_comm _ _)
theorem b5_at (t : Fin cfg0.N) (i : Fin 1) (k : Fin 512) : b5 m c t (ix2 i k) = A5 m c (ix2 i k) := by
  show iblk m c 5 t (ix2 i k) = _
  blk_simp [iblk]
  refine (congrFun (V_main_arg5 m c) _).trans (congrArg (A5 m c) ?_)
  blk_ext [e5]
theorem b6_at (t : Fin cfg0.N) (i : Fin 1) (k : Fin 128) : b6 m c t (ix2 i k) = A6 m c (ix2 i k) := by
  show iblk m c 6 t (ix2 i k) = _
  blk_simp [iblk]
  refine (congrFun (V_main_arg6 m c) _).trans (congrArg (A6 m c) ?_)
  blk_ext [e6]

theorem dm_at (t : Fin cfg0.N) (i : Fin 512) (q : Fin 1024) :
    dm (b0 m c t) (b1 m c t) i q = BackRef.dmix (A0 m c) (A1 m c) (at' t i) q := by
  unfold dm BackRef.dmix
  exact Finset.sum_congr rfl fun k _ => by rw [b0_at, b1_at]

theorem dh_at (t : Fin cfg0.N) (h : Fin 4) (i : Fin 512) (d : Fin 128) :
    dh (b0 m c t) (b1 m c t) (b4 m c t) h i d = BackRef.dhead (A0 m c) (A1 m c) (A4 m c) (at' t i) h d := by
  unfold dh BackRef.dhead
  rw [dm_at, b4_at]

/-! ## The five results, as the reference has them -/

def apOf : Vec Ideal S16384x512 .f32 := Cert.Reference7Ideal.Read.val_main_v90 (F := Ideal) (A0 m c) (A1 m c) (A2 m c) (A5 m c)
def oOf : Vec Ideal S4x16384x128 .f32 := Cert.Reference7Ideal.Read.val_main_v70 (F := Ideal) (A0 m c) (A1 m c) (A3 m c) (A4 m c) (A6 m c)
def zOf : Vec Ideal S16384x512 .f32 := Cert.Reference7Ideal.Read.val_main_v48 (F := Ideal) (A0 m c) (A1 m c) (A3 m c) (A4 m c) (A6 m c)
def gaOf : Vec Ideal S1x512 .f32 := Cert.Reference7Ideal.Read.val_main_v91 (F := Ideal) (A0 m c) (A1 m c) (A2 m c)
def gdOf : Vec Ideal S1x128 .f32 := Cert.Reference7Ideal.Read.val_main_v69 (F := Ideal) (A0 m c) (A1 m c) (A3 m c) (A4 m c)

/-- Every argument holds real numbers. -/
structure AllReal : Prop where
  r0 : ∀ n k, Real' (A0 m c (ix2 n k))
  r1 : ∀ n k, Real' (A1 m c (ix2 n k))
  r2 : ∀ n k, Real' (A2 m c (ix2 n k))
  r3 : ∀ h n d, Real' (A3 m c (ix3 h n d))
  r4 : ∀ n k, Real' (A4 m c (ix2 n k))
  r5 : ∀ n k, Real' (A5 m c (ix2 n k))
  r6 : ∀ n k, Real' (A6 m c (ix2 n k))

section finite
variable {m c} (hf : AllReal m c)
include hf

theorem real_dmix (n : Fin 16384) (q : Fin 1024) : Real' (BackRef.dmix (A0 m c) (A1 m c) n q) :=
  real_sum fun k => real_mul (hf.r0 n k) (hf.r1 q k)
theorem real_dgain (n : Fin 16384) (j : Fin 512) : Real' (BackRef.dgain (A0 m c) (A1 m c) (A5 m c) n j) :=
  real_mul (real_dmix hf n _) (hf.r5 0 j)
theorem real_dhead (n : Fin 16384) (h : Fin 4) (d : Fin 128) : Real' (BackRef.dhead (A0 m c) (A1 m c) (A4 m c) n h d * A6 m c (ix2 0 d)) :=
  real_mul (real_mul (real_dmix hf n _) (real_silu (hf.r4 n _))) (hf.r6 0 d)

theorem point7 (t : Fin cfg0.N) (i j : Fin 512) : leftOf (b0 m c t) (b1 m c t) (b2 m c t) (b5 m c t) i j = apOf m c (ix2 (at' t i) j) := by
  refine Eq.trans ?_ (BackRef.first_back (A0 m c) (A1 m c) (A2 m c) (A5 m c) hf.r2 (real_dgain hf) (at' t i) j).symm
  unfold leftOf BackRef.dgain
  simp only [b2_at, b5_at, dm_at]

theorem point8 (t : Fin cfg0.N) (h : Fin 4) (i : Fin 512) (d : Fin 128) :
    pageOf (b0 m c t) (b1 m c t) (b3 m c t) (b4 m c t) (b6 m c t) h i d = oOf m c (ix3 h (at' t i) d) := by
  refine Eq.trans ?_ (BackRef.second_back (A0 m c) (A1 m c) (A3 m c) (A4 m c) (A6 m c) hf.r3 (real_dhead hf) h (at' t i) d).symm
  unfold pageOf
  simp only [b3_at, b6_at, dh_at]

theorem point9 (t : Fin cfg0.N) (h : Fin 4) (i : Fin 512) (d : Fin 128) :
    gateOf (b0 m c t) (b1 m c t) (b3 m c t) (b4 m c t) (b6 m c t) h i d = zOf m c (ix2 (at' t i) (head h d)) := by
  refine Eq.trans ?_ (BackRef.third_gate (A0 m c) (A1 m c) (A3 m c) (A4 m c) (A6 m c) hf.r4 (real_dmix hf) hf.r3 (fun d => hf.r6 0 d) (at' t i) h d).symm
  unfold gateOf
  simp only [b3_at, b4_at, b6_at, dm_at]
end finite

/-! ## What a point leaves -/

/-- What the point before left. -/
def prev10 (t : Fin cfg0.N) : Vec Ideal S1x512 .f32 := (outsAt0 m c (t.val - 1) (Nat.lt_of_le_of_lt (Nat.sub_le _ _) t.isLt)).2.2.2.1
def prev11 (t : Fin cfg0.N) : Vec Ideal S1x128 .f32 := (outsAt0 m c (t.val - 1) (Nat.lt_of_le_of_lt (Nat.sub_le _ _) t.isLt)).2.2.2.2

theorem at7 (t : Fin cfg0.N) : (outsAt0 m c t.val t.isLt).1 = leftBlk (b0 m c t) (b1 m c t) (b2 m c t) (b5 m c t) := by
  by_cases h0 : t.val % 32 = 0
  · rw [outsAt0_A m c t h0, out7_A]; rfl
  · rw [outsAt0_B m c t h0, out7_B]; rfl
theorem at8 (t : Fin cfg0.N) : (outsAt0 m c t.val t.isLt).2.1 = pageBlk (b0 m c t) (b1 m c t) (b3 m c t) (b4 m c t) (b6 m c t) := by
  by_cases h0 : t.val % 32 = 0
  · rw [outsAt0_A m c t h0, out8_A]; rfl
  · rw [outsAt0_B m c t h0, out8_B]; rfl
theorem at9 (t : Fin cfg0.N) : (outsAt0 m c t.val t.isLt).2.2.1 = gateBlk (b0 m c t) (b1 m c t) (b3 m c t) (b4 m c t) (b6 m c t) := by
  by_cases h0 : t.val % 32 = 0
  · rw [outsAt0_A m c t h0, out9_A]; rfl
  · rw [outsAt0_B m c t h0, out9_B]; rfl

theorem emb7 (t : Fin cfg0.N) (y : S512x512.Idx) : ((cfg0.win 7).blk t).view.emb y = (ix2 (at' t (y 0)) (y 1) : S16384x512.Idx) := by
  unfold at'; blk_ext [e7]
theorem emb8 (t : Fin cfg0.N) (y : S4x512x128.Idx) : ((cfg0.win 8).blk t).view.emb y = (ix3 (y 0) (at' t (y 1)) (y 2) : S4x16384x128.Idx) := by
  unfold at'; blk_ext [e8]
theorem emb9 (t : Fin cfg0.N) (y : S512x512.Idx) : ((cfg0.win 9).blk t).view.emb y = (ix2 (at' t (y 0)) (y 1) : S16384x512.Idx) := by
  unfold at'; blk_ext [e9]

theorem final7 (hf : AllReal m c) : (dats m 0 c).arrAt 7 cfg0.N = apOf m c := by
  refine (dats m 0 c).arrAt_eq_of_covers 7 _ (by decide +kernel) fun t _ y => ?_
  rw [emb7 t y]
  blk_simp
  rw [after0_7, at7]
  exact point7 hf t (y 0) (y 1)

theorem final8 (hf : AllReal m c) : (dats m 0 c).arrAt 8 cfg0.N = oOf m c := by
  refine (dats m 0 c).arrAt_eq_of_covers 8 _ (by decide +kernel) fun t _ y => ?_
  rw [emb8 t y]
  blk_simp
  rw [after0_8, at8]
  exact point8 hf t (y 0) (y 1) (y 2)

theorem gate_cols (hf : AllReal m c) (t : Fin cfg0.N) (i q : Fin 512) :
    gateBlk (b0 m c t) (b1 m c t) (b3 m c t) (b4 m c t) (b6 m c t) (ix2 i q) = zOf m c (ix2 (at' t i) q) :=
  heads (P := fun q => gateBlk (b0 m c t) (b1 m c t) (b3 m c t) (b4 m c t) (b6 m c t) (ix2 i q) = zOf m c (ix2 (at' t i) q))
    (fun h d => (gateBlk_of _ _ _ _ _ h i d _ rfl rfl).symm.trans (point9 hf t h i d)) q

theorem final9 (hf : AllReal m c) : (dats m 0 c).arrAt 9 cfg0.N = zOf m c := by
  refine (dats m 0 c).arrAt_eq_of_covers 9 _ (by decide +kernel) fun t _ y => ?_
  rw [emb9 t y]
  blk_simp
  rw [after0_9, at9]
  exact (congrArg _ (eq_ix2 y)).trans (gate_cols m c hf t (y 0) (y 1))

/-! ## The two sums carried over the points -/

/-- What one row adds to the two gradients of the gains. -/
def wide (j : Fin 512) (n : Fin 16384) : EReal := BackRef.dmix (A0 m c) (A1 m c) n (left j) * normed w512 (fun k => A2 m c (ix2 n k)) j
def narrow (d : Fin 128) (n : Fin 16384) : EReal :=
  ∑ h : Fin 4, BackRef.dhead (A0 m c) (A1 m c) (A4 m c) n h d * normed w128 (fun k => A3 m c (ix3 h n k)) d

theorem wide_block (t : Fin cfg0.N) (j : Fin 512) : leftGain (b0 m c t) (b1 m c t) (b2 m c t) j = ∑ i : Fin 512, wide m c j (row t.val i) := by
  unfold leftGain wide
  exact Finset.sum_congr rfl fun i _ => by simp only [b2_at, dm_at, row_eq]

theorem narrow_block (t : Fin cfg0.N) (d : Fin 128) (p : EReal) :
    p + headGain (b0 m c t) (b1 m c t) (b3 m c t) (b4 m c t) 0 d + headGain (b0 m c t) (b1 m c t) (b3 m c t) (b4 m c t) 1 d
      + headGain (b0 m c t) (b1 m c t) (b3 m c t) (b4 m c t) 2 d + headGain (b0 m c t) (b1 m c t) (b3 m c t) (b4 m c t) 3 d
      = p + ∑ i : Fin 512, narrow m c d (row t.val i) := by
  unfold headGain narrow
  simp only [Fin.sum_univ_four, Finset.sum_add_distrib, b3_at, dh_at, row_eq, add_assoc]

theorem first10 (t : Fin cfg0.N) (h0 : t.val % 32 = 0) :
    (outsAt0 m c t.val t.isLt).2.2.2.1 = k0_pay11 (b0 m c t) (b1 m c t) (b2 m c t) (k0_pay5 (F := Ideal)) := by
  rw [outsAt0_A m c t h0, out10_A]; rfl
theorem rest10 (t : Fin cfg0.N) (h0 : ¬t.val % 32 = 0) :
    (outsAt0 m c t.val t.isLt).2.2.2.1 = k0_pay11 (b0 m c t) (b1 m c t) (b2 m c t) (prev10 m c t) := by
  rw [outsAt0_B m c t h0, out10_B]; rfl
theorem first11 (t : Fin cfg0.N) (h0 : t.val % 32 = 0) (d : Fin 128) :
    (outsAt0 m c t.val t.isLt).2.2.2.2 (ix2 0 d) = 0 + ∑ i : Fin 512, narrow m c d (row t.val i) := by
  rw [outsAt0_A m c t h0, ← narrow_block, ← zero_head (ix2 0 d)]; exact out11_A (b0 m c t) (b1 m c t) (b2 m c t) (b3 m c t) (b4 m c t) (b5 m c t) (b6 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) d
theorem rest11 (t : Fin cfg0.N) (h0 : ¬t.val % 32 = 0) (d : Fin 128) :
    (outsAt0 m c t.val t.isLt).2.2.2.2 (ix2 0 d) = prev11 m c t (ix2 0 d) + ∑ i : Fin 512, narrow m c d (row t.val i) := by
  rw [outsAt0_B m c t h0, ← narrow_block]; exact out11_B (b0 m c t) (b1 m c t) (b2 m c t) (b3 m c t) (b4 m c t) (b5 m c t) (b6 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (prev10 m c t) (prev11 m c t) d

theorem carried10 (j : Fin 512) : ∀ (n : ℕ) (h : n < cfg0.N), (outsAt0 m c n h).2.2.2.1 (ix2 0 j) = below (wide m c j) (n + 1)
  | 0, h => by
    refine (congrFun (first10 m c ⟨0, h⟩ rfl) _).trans ((left_gain _ _ _ _ j).trans ?_)
    rw [zero_wide, zero_add, below_one]
    exact wide_block m c ⟨0, h⟩ j
  | n + 1, h => by
    have hprev : prev10 m c ⟨n + 1, h⟩ (ix2 0 j) = _ := carried10 j n (Nat.lt_of_succ_lt h)
    have hN := lt_of_lt_of_eq h points
    refine (congrFun (rest10 m c ⟨n + 1, h⟩ (by show ¬(n + 1) % 32 = 0; omega)) _).trans ((left_gain _ _ _ _ j).trans ?_)
    rw [hprev, below_succ _ (n + 1)]
    exact congrArg (_ + ·) (wide_block m c ⟨n + 1, h⟩ j)

theorem carried11 (d : Fin 128) : ∀ (n : ℕ) (h : n < cfg0.N), (outsAt0 m c n h).2.2.2.2 (ix2 0 d) = below (narrow m c d) (n + 1)
  | 0, h => by
    refine (first11 m c ⟨0, h⟩ rfl d).trans ?_
    rw [zero_add, below_one]
  | n + 1, h => by
    have hprev : prev11 m c ⟨n + 1, h⟩ (ix2 0 d) = _ := carried11 d n (Nat.lt_of_succ_lt h)
    have hN := lt_of_lt_of_eq h points
    refine (rest11 m c ⟨n + 1, h⟩ (by show ¬(n + 1) % 32 = 0; omega) d).trans ?_
    rw [hprev, below_succ _ (n + 1)]

/-- The last point. -/
def last : Fin cfg0.N := ⟨31, by rw [points]; decide⟩

theorem final10 : (dats m 0 c).arrAt 10 cfg0.N = gaOf m c := by
  refine (dats m 0 c).arrAt_eq_of_after_last 10 last (by decide +kernel) _ fun j => ?_
  rw [after0_10]
  have e : (j : S1x512.Idx) = ix2 0 (j 1) := (eq_ix2 j).trans (congrArg (ix2 · (j 1)) (Fin.ext (by have h : (j 0).val < 1 := (j 0).isLt; show (j 0).val = 0; omega)))
  refine ((congrArg _ e).trans (carried10 m c (j 1) 31 last.isLt)).trans ?_
  rw [below_all]
  exact (BackRef.first_gain (A0 m c) (A1 m c) (A2 m c) 0 (j 1)).symm.trans (congrArg (gaOf m c) e.symm)

theorem final11 : (dats m 0 c).arrAt 11 cfg0.N = gdOf m c := by
  refine (dats m 0 c).arrAt_eq_of_after_last 11 last (by decide +kernel) _ fun j => ?_
  rw [after0_11]
  have e : (j : S1x128.Idx) = ix2 0 (j 1) := (eq_ix2 j).trans (congrArg (ix2 · (j 1)) (Fin.ext (by have h : (j 0).val < 1 := (j 0).isLt; show (j 0).val = 0; omega)))
  refine ((congrArg _ e).trans (carried11 m c (j 1) 31 last.isLt)).trans ?_
  rw [below_all]
  exact (BackRef.second_gain (A0 m c) (A1 m c) (A3 m c) (A4 m c) 0 (j 1)).symm.trans (congrArg (gdOf m c) e.symm)
end

/-- The precondition says that every argument holds real numbers. -/
theorem all_real (m : (ℓ : Loc nD τ sig) → Buf (Elt Ideal) ℓ) (h : Cert.Pre_Kernel7Ideal (hPre_finite7 := Cert.Pre_finite7.Gen.facts) m) (c : Dev nD) : AllReal m c := by
  obtain ⟨h0, h1, h2, h3, h4, h5, h6⟩ := h c
  exact ⟨fun n k => real_of_lt (congrFun h0 (ix2 n k)), fun n k => real_of_lt (congrFun h1 (ix2 n k)),
    fun n k => real_of_lt (congrFun h2 (ix2 n k)), fun h n k => real_of_lt (congrFun h3 (ix3 h n k)),
    fun n k => real_of_lt (congrFun h4 (ix2 n k)), fun n k => real_of_lt (congrFun h5 (ix2 n k)),
    fun n k => real_of_lt (congrFun h6 (ix2 n k))⟩

set_option maxHeartbeats 1000000 in
/-- The kernel and the reference leave the same five results. -/
theorem same_results : Cert.algebraic_Kernel7Ideal_Reference7Ideal
    (hKernel7Ideal := Cert.Kernel7Ideal.Gen.facts) (hReference7Ideal := Cert.Reference7Ideal.Gen.facts) (hPre_finite7 := Cert.Pre_finite7.Gen.facts) := by
  intro m g m' g' hpre hargs
  refine ⟨fun c => apOf m c, fun c => oOf m c, fun c => zOf m c, fun c => gaOf m c, fun c => gdOf m c, ?_, ?_⟩
  · exact (θ_run Cert.Kernel7Ideal.defs _ _).mono (fun r h c =>
      have hf := all_real m hpre c
      ⟨(h c).1.trans (final7 m c hf), (h c).2.1.trans (final8 m c hf), (h c).2.2.1.trans (final9 m c hf), (h c).2.2.2.1.trans (final10 m c),
        (h c).2.2.2.2.1.trans (final11 m c), (h c).2.2.2.2.2⟩) (Cert.Kernel7Ideal.Value.run_blocks m g)
  · refine (θ_run Cert.Reference7Ideal.defs _ _).mono (fun r h c => ?_) (Cert.Reference7Ideal.Value.run m' g')
    obtain ⟨r0, r1, r2, r3, r4, rest⟩ := h c
    obtain ⟨a0, a1, a2, a3, a4, a5, a6⟩ := hargs c
    have E0 : m' ((c.tc : Thread Cert.Reference7Ideal.nD Cert.Reference7Ideal.τ).loc Cert.Reference7Ideal.main_arg0) = A0 m c := a0
    have E1 : m' ((c.tc : Thread Cert.Reference7Ideal.nD Cert.Reference7Ideal.τ).loc Cert.Reference7Ideal.main_arg1) = A1 m c := a1
    have E2 : m' ((c.tc : Thread Cert.Reference7Ideal.nD Cert.Reference7Ideal.τ).loc Cert.Reference7Ideal.main_arg2) = A2 m c := a2
    have E3 : m' ((c.tc : Thread Cert.Reference7Ideal.nD Cert.Reference7Ideal.τ).loc Cert.Reference7Ideal.main_arg3) = A3 m c := a3
    have E4 : m' ((c.tc : Thread Cert.Reference7Ideal.nD Cert.Reference7Ideal.τ).loc Cert.Reference7Ideal.main_arg4) = A4 m c := a4
    have E5 : m' ((c.tc : Thread Cert.Reference7Ideal.nD Cert.Reference7Ideal.τ).loc Cert.Reference7Ideal.main_arg5) = A5 m c := a5
    have E6 : m' ((c.tc : Thread Cert.Reference7Ideal.nD Cert.Reference7Ideal.τ).loc Cert.Reference7Ideal.main_arg6) = A6 m c := a6
    refine ⟨r0.trans ((Cert.Reference7Ideal.Read.val_main_v90_eq m' c).trans ?_), r1.trans ((Cert.Reference7Ideal.Read.val_main_v70_eq m' c).trans ?_),
      r2.trans ((Cert.Reference7Ideal.Read.val_main_v48_eq _ _ _ _ _).trans ?_), r3.trans ((Cert.Reference7Ideal.Read.val_main_v91_eq _ _ _).trans ?_),
      r4.trans ((Cert.Reference7Ideal.Read.val_main_v69_eq _ _ _ _).trans ?_), rest⟩
    · rw [E0, E1, E2, E5]; rfl
    · rw [E0, E1, E3, E4, E6]; rfl
    · rw [E0, E1, E3, E4, E6]; rfl
    · rw [E0, E1, E2]; rfl
    · rw [E0, E1, E3, E4]; rfl

/-- The reference changes no argument and leaves no counter raised. -/
theorem reference_frame : Cert.quiescent_Reference7Ideal (hReference7Ideal := Cert.Reference7Ideal.Gen.facts) (hPre_finite7 := Cert.Pre_finite7.Gen.facts) := fun m ρ _ =>
  (θ_run Cert.Reference7Ideal.defs _ _).mono (fun r h => ⟨fun c => (h c).2.2.2.2.2, sem_eq_zero_of_no_sems (by decide) r.2⟩)
    (Cert.Reference7Ideal.Value.run m ρ)

/-- The compiled kernel and the idealised one have the same bodies. -/
theorem same_defs : Cert.Kernel7.defs (F := Bits) = Cert.Kernel7Ideal.defs (F := Bits) := by
  sl_kernel_rfl

theorem compiled_frame : Cert.quiescent_Kernel7_pre_none (hKernel7 := Cert.Kernel7.Gen.facts) := fun m ρ _ => by
  rw [same_defs]
  exact (θ_run Cert.Kernel7Ideal.defs _ _).mono (fun _ h => h) (Cert.Kernel7Ideal.Gen.frame (F := Bits) m ρ)

end Cert.Back

end

end
-- ==== Proof.InProj.Frame.lean ====
module

public import proofs.«01_k».proof.Defs
public import proofs.«01_k».proof.Proof.Gen.Kernel8
public import proofs.«01_k».proof.Proof.Gen.Kernel8Ideal.Frame
public import Idealize.ShloMosaic.Adequacy
public import Idealize.ShloMosaic.Init

/-! The gradients of the input product: the kernel as compiled runs as the idealised one does. -/

@[expose] public section

noncomputable section

namespace Cert.InProj

open Idealize.ShloMosaic Idealize.ShloMosaic.Tactic Idealize.SL.Sem

/-- The compiled kernel and the idealised one have the same bodies. -/
theorem same_defs : Cert.Kernel8.defs (F := Bits) = Cert.Kernel8Ideal.defs (F := Bits) := by
  sl_kernel_rfl

theorem compiled_frame : Cert.quiescent_Kernel8 (hKernel8 := Cert.Kernel8.Gen.facts) := fun m ρ _ => by
  rw [same_defs]
  exact (θ_run Cert.Kernel8Ideal.defs _ _).mono (fun _ h => h) (Cert.Kernel8Ideal.Gen.frame (F := Bits) m ρ)

end Cert.InProj

end

end
-- ==== Proof.lean ====
module

public import proofs.«01_k».proof.Defs
public import proofs.«01_k».proof.Proof.Gen.Kernel
public import proofs.«01_k».proof.Proof.Scan.Launch
public import proofs.«01_k».proof.Proof.Gen.Kernel2Ideal
public import proofs.«01_k».proof.Proof.Ffn.Value
public import proofs.«01_k».proof.Proof.Gen.Kernel2
public import proofs.«01_k».proof.Proof.Gen.Reference2Ideal
public import proofs.«01_k».proof.Proof.Gen.Reference2Ideal.Run
public import proofs.«01_k».proof.Proof.Gen.Reference2Ideal.Read
public import proofs.«01_k».proof.Proof.Wgrad.Down
public import proofs.«01_k».proof.Proof.Wgrad.Out
public import proofs.«01_k».proof.Proof.Wgrad.GateUp
public import proofs.«01_k».proof.Proof.Mix.Post
public import proofs.«01_k».proof.Proof.Mix.Back
public import proofs.«01_k».proof.Proof.InProj.Frame
public import proofs.«01_k».proof.Proof.Gen.Pre_finite7
public import Idealize.ShloMosaic.Lib.Ring
public import Idealize.ShloMosaic.Adequacy
public import Idealize.ShloMosaic.Init

@[expose] public section

noncomputable section

namespace Cert.Proof

open Idealize.ShloMosaic Idealize.ShloMosaic.Tactic Idealize.SL.Sem Cert.Kernel

/-- The compiled kernel and the idealised one have the same bodies. -/
theorem same_defs : Cert.Kernel.defs (F := Bits) = Cert.KernelIdeal.defs (F := Bits) := by
  sl_kernel_rfl

/-- The kernel as compiled runs as the idealised one does: the two programs are the same text. -/
theorem frame_kernel : Cert.quiescent_Kernel (hKernel := Cert.Kernel.Gen.facts) := fun m ρ _ => by
  rw [same_defs]
  exact (θ_run Cert.KernelIdeal.defs _ _).mono (fun _ h => h) (Cert.Scan.frame_run (F := Bits) m ρ)

/-- The same of the feed-forward kernel. -/
theorem same_defs2 : Cert.Kernel2.defs (F := Bits) = Cert.Kernel2Ideal.defs (F := Bits) := by
  sl_kernel_rfl

theorem frame_kernel2 : Cert.quiescent_Kernel2_pre_none (hKernel2 := Cert.Kernel2.Gen.facts) := fun m ρ _ => by
  rw [same_defs2]
  exact (θ_run Cert.Kernel2Ideal.defs _ _).mono (fun _ h => h) (Cert.Ffn.frame_run (F := Bits) m ρ)

/-- The reference changes no argument and leaves no counter raised. -/
theorem frame_reference2 : Cert.quiescent_Reference2Ideal (hReference2Ideal := Cert.Reference2Ideal.Gen.facts)
    (hPre_finite := Cert.Pre_finite.Gen.facts) := fun m ρ _ =>
  (θ_run Cert.Reference2Ideal.defs _ _).mono (fun r h => ⟨fun c => (h c).2.2.2.2.2.2.2.2, sem_eq_zero_of_no_sems (by decide) r.2⟩)
    (Cert.Ffn.reference_run m ρ)

theorem claim : Cert.Claim := ⟨Cert.Kernel.Gen.facts, Cert.KernelIdeal.Gen.facts, Cert.Kernel2.Gen.facts, Cert.Kernel2Ideal.Gen.facts,
  Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts, Cert.Pre_finite.Gen.facts, Cert.Pre_finite7.Gen.facts,
  frame_kernel, fun m ρ _ => Cert.Scan.frame_run m ρ,
  fun m ρ _ => frame_kernel2 m ρ trivial, frame_kernel2, fun m ρ _ => Cert.Ffn.frame_run m ρ, fun m ρ _ => Cert.Ffn.frame_run m ρ,
  frame_reference2,
  Cert.GateUp.compiled_frame, fun m ρ _ => Cert.Kernel3Ideal.Gen.frame m ρ, Cert.GateUp.reference_frame,
  Cert.Down.compiled_frame, fun m ρ _ => Cert.Kernel4Ideal.Gen.frame m ρ, Cert.Down.reference_frame,
  Cert.Out.compiled_frame, fun m ρ _ => Cert.Kernel5Ideal.Gen.frame m ρ, Cert.Out.reference_frame,
  Cert.Post.compiled_frame, fun m ρ _ => Cert.Kernel6Ideal.Gen.frame m ρ, Cert.Post.reference_frame,
  fun m ρ _ => Cert.Back.compiled_frame m ρ trivial, Cert.Back.compiled_frame, fun m ρ _ => Cert.Kernel7Ideal.Gen.frame m ρ,
  fun m ρ _ => Cert.Kernel7Ideal.Gen.frame m ρ, Cert.Back.reference_frame,
  Cert.InProj.compiled_frame, fun m ρ _ => Cert.Kernel8Ideal.Gen.frame m ρ,
  trivial, Cert.Ffn.same_results, trivial, Cert.GateUp.same_results, trivial, Cert.Down.same_results, trivial, Cert.Out.same_results,
  trivial, Cert.Post.same_results, trivial, Cert.Back.same_results, trivial⟩

end Cert.Proof

end
